-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S10000x128 : Shape := ⟨2, ![10000, 128]⟩
abbrev S320000x5 : Shape := ⟨2, ![320000, 5]⟩
abbrev S2x320000 : Shape := ⟨2, ![2, 320000]⟩
abbrev S128x64 : Shape := ⟨2, ![128, 64]⟩
abbrev S64 : Shape := ⟨1, ![64]⟩
abbrev S5x64 : Shape := ⟨2, ![5, 64]⟩
abbrev S64x64 : Shape := ⟨2, ![64, 64]⟩
abbrev S64x128 : Shape := ⟨2, ![64, 128]⟩
abbrev S2x64 : Shape := ⟨2, ![2, 64]⟩
abbrev S_ : Shape := ⟨0, ![]⟩

class Facts : Prop where
  bcast_S_S2x320000 : S_.BroadcastsInDim S2x320000 (![] : Fin 0 → Fin S2x320000.rank)
  bcast_S_S10000x128 : S_.BroadcastsInDim S10000x128 (![] : Fin 0 → Fin S10000x128.rank)
  bcast_S_S320000x5 : S_.BroadcastsInDim S320000x5 (![] : Fin 0 → Fin S320000x5.rank)
  bcast_S_S128x64 : S_.BroadcastsInDim S128x64 (![] : Fin 0 → Fin S128x64.rank)
  bcast_S_S64 : S_.BroadcastsInDim S64 (![] : Fin 0 → Fin S64.rank)
  bcast_S_S5x64 : S_.BroadcastsInDim S5x64 (![] : Fin 0 → Fin S5x64.rank)
  bcast_S_S64x64 : S_.BroadcastsInDim S64x64 (![] : Fin 0 → Fin S64x64.rank)
  bcast_S_S64x128 : S_.BroadcastsInDim S64x128 (![] : Fin 0 → Fin S64x128.rank)
  bcast_S_S2x64 : S_.BroadcastsInDim S2x64 (![] : Fin 0 → Fin S2x64.rank)

variable [Facts]

def fn_part4 {F : FTy → Type} [FloatOps F] (main_arg24 : FVec F S64 .f32) (main_v4 : IVec S2x320000 1) (main_v7 : IVec S10000x128 1) (main_v10 : IVec S320000x5 1) (main_v13 : IVec S128x64 1) (main_v16 : IVec S64 1) (main_v19 : IVec S5x64 1) (main_v22 : IVec S64 1) (main_v25 : IVec S128x64 1) (main_v28 : IVec S64 1) (main_v31 : IVec S64x64 1) (main_v34 : IVec S64 1) (main_v37 : IVec S5x64 1) (main_v40 : IVec S64 1) (main_v43 : IVec S128x64 1) (main_v46 : IVec S64 1) (main_v49 : IVec S64x64 1) (main_v52 : IVec S64 1) (main_v55 : IVec S5x64 1) (main_v58 : IVec S64 1) (main_v61 : IVec S128x64 1) (main_v64 : IVec S64 1) (main_v67 : IVec S64x128 1) (main_v70 : IVec S2x64 1) (main_v71 : FVec F S2x64 .f32) : IVec S2x320000 1 × IVec S10000x128 1 × IVec S320000x5 1 × IVec S128x64 1 × IVec S64 1 × IVec S5x64 1 × IVec S64 1 × IVec S128x64 1 × IVec S64 1 × IVec S64x64 1 × IVec S64 1 × IVec S5x64 1 × IVec S64 1 × IVec S128x64 1 × IVec S64 1 × IVec S64x64 1 × IVec S64 1 × IVec S5x64 1 × IVec S64 1 × IVec S128x64 1 × IVec S64 1 × IVec S64x128 1 × IVec S2x64 1 × IVec S2x64 1 × IVec S64 1 :=
  let main_cst_22 : FVec F S_ .f32 := constant S_ .f32 0x7F800000#32
  let main_v72 : FVec F S2x64 .f32 := broadcastInDim S2x64 ![] bcast_S_S2x64 main_cst_22
  let main_v73 : IVec S2x64 1 := cmpf .olt main_v71 main_v72
  let main_v74 : FVec F S64 .f32 := Host.absf main_arg24
  let main_cst_23 : FVec F S_ .f32 := constant S_ .f32 0x7F800000#32
  let main_v75 : FVec F S64 .f32 := broadcastInDim S64 ![] bcast_S_S64 main_cst_23
  let main_v76 : IVec S64 1 := cmpf .olt main_v74 main_v75
  (main_v4, main_v7, main_v10, main_v13, main_v16, main_v19, main_v22, main_v25, main_v28, main_v31, main_v34, main_v37, main_v40, main_v43, main_v46, main_v49, main_v52, main_v55, main_v58, main_v61, main_v64, main_v67, main_v70, main_v73, main_v76)

def fn_part3 {F : FTy → Type} [FloatOps F] (main_arg18 : FVec F S64 .f32) (main_arg19 : FVec F S128x64 .f32) (main_arg20 : FVec F S64 .f32) (main_arg21 : FVec F S64x128 .f32) (main_arg22 : FVec F S2x64 .f32) (main_arg23 : FVec F S2x64 .f32) (main_arg24 : FVec F S64 .f32) (main_v4 : IVec S2x320000 1) (main_v7 : IVec S10000x128 1) (main_v10 : IVec S320000x5 1) (main_v13 : IVec S128x64 1) (main_v16 : IVec S64 1) (main_v19 : IVec S5x64 1) (main_v22 : IVec S64 1) (main_v25 : IVec S128x64 1) (main_v28 : IVec S64 1) (main_v31 : IVec S64x64 1) (main_v34 : IVec S64 1) (main_v37 : IVec S5x64 1) (main_v40 : IVec S64 1) (main_v43 : IVec S128x64 1) (main_v46 : IVec S64 1) (main_v49 : IVec S64x64 1) (main_v52 : IVec S64 1) (main_v53 : FVec F S5x64 .f32) : IVec S2x320000 1 × IVec S10000x128 1 × IVec S320000x5 1 × IVec S128x64 1 × IVec S64 1 × IVec S5x64 1 × IVec S64 1 × IVec S128x64 1 × IVec S64 1 × IVec S64x64 1 × IVec S64 1 × IVec S5x64 1 × IVec S64 1 × IVec S128x64 1 × IVec S64 1 × IVec S64x64 1 × IVec S64 1 × IVec S5x64 1 × IVec S64 1 × IVec S128x64 1 × IVec S64 1 × IVec S64x128 1 × IVec S2x64 1 × IVec S2x64 1 × IVec S64 1 :=
  let main_cst_16 : FVec F S_ .f32 := constant S_ .f32 0x7F800000#32
  let main_v54 : FVec F S5x64 .f32 := broadcastInDim S5x64 ![] bcast_S_S5x64 main_cst_16
  let main_v55 : IVec S5x64 1 := cmpf .olt main_v53 main_v54
  let main_v56 : FVec F S64 .f32 := Host.absf main_arg18
  let main_cst_17 : FVec F S_ .f32 := constant S_ .f32 0x7F800000#32
  let main_v57 : FVec F S64 .f32 := broadcastInDim S64 ![] bcast_S_S64 main_cst_17
  let main_v58 : IVec S64 1 := cmpf .olt main_v56 main_v57
  let main_v59 : FVec F S128x64 .f32 := Host.absf main_arg19
  let main_cst_18 : FVec F S_ .f32 := constant S_ .f32 0x7F800000#32
  let main_v60 : FVec F S128x64 .f32 := broadcastInDim S128x64 ![] bcast_S_S128x64 main_cst_18
  let main_v61 : IVec S128x64 1 := cmpf .olt main_v59 main_v60
  let main_v62 : FVec F S64 .f32 := Host.absf main_arg20
  let main_cst_19 : FVec F S_ .f32 := constant S_ .f32 0x7F800000#32
  let main_v63 : FVec F S64 .f32 := broadcastInDim S64 ![] bcast_S_S64 main_cst_19
  let main_v64 : IVec S64 1 := cmpf .olt main_v62 main_v63
  let main_v65 : FVec F S64x128 .f32 := Host.absf main_arg21
  let main_cst_20 : FVec F S_ .f32 := constant S_ .f32 0x7F800000#32
  let main_v66 : FVec F S64x128 .f32 := broadcastInDim S64x128 ![] bcast_S_S64x128 main_cst_20
  let main_v67 : IVec S64x128 1 := cmpf .olt main_v65 main_v66
  let main_v68 : FVec F S2x64 .f32 := Host.absf main_arg22
  let main_cst_21 : FVec F S_ .f32 := constant S_ .f32 0x7F800000#32
  let main_v69 : FVec F S2x64 .f32 := broadcastInDim S2x64 ![] bcast_S_S2x64 main_cst_21
  let main_v70 : IVec S2x64 1 := cmpf .olt main_v68 main_v69
  let main_v71 : FVec F S2x64 .f32 := Host.absf main_arg23
  fn_part4 (F := F) main_arg24 main_v4 main_v7 main_v10 main_v13 main_v16 main_v19 main_v22 main_v25 main_v28 main_v31 main_v34 main_v37 main_v40 main_v43 main_v46 main_v49 main_v52 main_v55 main_v58 main_v61 main_v64 main_v67 main_v70 main_v71

def fn_part2 {F : FTy → Type} [FloatOps F] (main_arg12 : FVec F S64 .f32) (main_arg13 : FVec F S128x64 .f32) (main_arg14 : FVec F S64 .f32) (main_arg15 : FVec F S64x64 .f32) (main_arg16 : FVec F S64 .f32) (main_arg17 : FVec F S5x64 .f32) (main_arg18 : FVec F S64 .f32) (main_arg19 : FVec F S128x64 .f32) (main_arg20 : FVec F S64 .f32) (main_arg21 : FVec F S64x128 .f32) (main_arg22 : FVec F S2x64 .f32) (main_arg23 : FVec F S2x64 .f32) (main_arg24 : FVec F S64 .f32) (main_v4 : IVec S2x320000 1) (main_v7 : IVec S10000x128 1) (main_v10 : IVec S320000x5 1) (main_v13 : IVec S128x64 1) (main_v16 : IVec S64 1) (main_v19 : IVec S5x64 1) (main_v22 : IVec S64 1) (main_v25 : IVec S128x64 1) (main_v28 : IVec S64 1) (main_v31 : IVec S64x64 1) (main_v34 : IVec S64 1) (main_v35 : FVec F S5x64 .f32) : IVec S2x320000 1 × IVec S10000x128 1 × IVec S320000x5 1 × IVec S128x64 1 × IVec S64 1 × IVec S5x64 1 × IVec S64 1 × IVec S128x64 1 × IVec S64 1 × IVec S64x64 1 × IVec S64 1 × IVec S5x64 1 × IVec S64 1 × IVec S128x64 1 × IVec S64 1 × IVec S64x64 1 × IVec S64 1 × IVec S5x64 1 × IVec S64 1 × IVec S128x64 1 × IVec S64 1 × IVec S64x128 1 × IVec S2x64 1 × IVec S2x64 1 × IVec S64 1 :=
  let main_cst_10 : FVec F S_ .f32 := constant S_ .f32 0x7F800000#32
  let main_v36 : FVec F S5x64 .f32 := broadcastInDim S5x64 ![] bcast_S_S5x64 main_cst_10
  let main_v37 : IVec S5x64 1 := cmpf .olt main_v35 main_v36
  let main_v38 : FVec F S64 .f32 := Host.absf main_arg12
  let main_cst_11 : FVec F S_ .f32 := constant S_ .f32 0x7F800000#32
  let main_v39 : FVec F S64 .f32 := broadcastInDim S64 ![] bcast_S_S64 main_cst_11
  let main_v40 : IVec S64 1 := cmpf .olt main_v38 main_v39
  let main_v41 : FVec F S128x64 .f32 := Host.absf main_arg13
  let main_cst_12 : FVec F S_ .f32 := constant S_ .f32 0x7F800000#32
  let main_v42 : FVec F S128x64 .f32 := broadcastInDim S128x64 ![] bcast_S_S128x64 main_cst_12
  let main_v43 : IVec S128x64 1 := cmpf .olt main_v41 main_v42
  let main_v44 : FVec F S64 .f32 := Host.absf main_arg14
  let main_cst_13 : FVec F S_ .f32 := constant S_ .f32 0x7F800000#32
  let main_v45 : FVec F S64 .f32 := broadcastInDim S64 ![] bcast_S_S64 main_cst_13
  let main_v46 : IVec S64 1 := cmpf .olt main_v44 main_v45
  let main_v47 : FVec F S64x64 .f32 := Host.absf main_arg15
  let main_cst_14 : FVec F S_ .f32 := constant S_ .f32 0x7F800000#32
  let main_v48 : FVec F S64x64 .f32 := broadcastInDim S64x64 ![] bcast_S_S64x64 main_cst_14
  let main_v49 : IVec S64x64 1 := cmpf .olt main_v47 main_v48
  let main_v50 : FVec F S64 .f32 := Host.absf main_arg16
  let main_cst_15 : FVec F S_ .f32 := constant S_ .f32 0x7F800000#32
  let main_v51 : FVec F S64 .f32 := broadcastInDim S64 ![] bcast_S_S64 main_cst_15
  let main_v52 : IVec S64 1 := cmpf .olt main_v50 main_v51
  let main_v53 : FVec F S5x64 .f32 := Host.absf main_arg17
  fn_part3 (F := F) main_arg18 main_arg19 main_arg20 main_arg21 main_arg22 main_arg23 main_arg24 main_v4 main_v7 main_v10 main_v13 main_v16 main_v19 main_v22 main_v25 main_v28 main_v31 main_v34 main_v37 main_v40 main_v43 main_v46 main_v49 main_v52 main_v53

def fn_part1 {F : FTy → Type} [FloatOps F] (main_arg6 : FVec F S64 .f32) (main_arg7 : FVec F S128x64 .f32) (main_arg8 : FVec F S64 .f32) (main_arg9 : FVec F S64x64 .f32) (main_arg10 : FVec F S64 .f32) (main_arg11 : FVec F S5x64 .f32) (main_arg12 : FVec F S64 .f32) (main_arg13 : FVec F S128x64 .f32) (main_arg14 : FVec F S64 .f32) (main_arg15 : FVec F S64x64 .f32) (main_arg16 : FVec F S64 .f32) (main_arg17 : FVec F S5x64 .f32) (main_arg18 : FVec F S64 .f32) (main_arg19 : FVec F S128x64 .f32) (main_arg20 : FVec F S64 .f32) (main_arg21 : FVec F S64x128 .f32) (main_arg22 : FVec F S2x64 .f32) (main_arg23 : FVec F S2x64 .f32) (main_arg24 : FVec F S64 .f32) (main_v4 : IVec S2x320000 1) (main_v7 : IVec S10000x128 1) (main_v10 : IVec S320000x5 1) (main_v13 : IVec S128x64 1) (main_v16 : IVec S64 1) (main_v17 : FVec F S5x64 .f32) : IVec S2x320000 1 × IVec S10000x128 1 × IVec S320000x5 1 × IVec S128x64 1 × IVec S64 1 × IVec S5x64 1 × IVec S64 1 × IVec S128x64 1 × IVec S64 1 × IVec S64x64 1 × IVec S64 1 × IVec S5x64 1 × IVec S64 1 × IVec S128x64 1 × IVec S64 1 × IVec S64x64 1 × IVec S64 1 × IVec S5x64 1 × IVec S64 1 × IVec S128x64 1 × IVec S64 1 × IVec S64x128 1 × IVec S2x64 1 × IVec S2x64 1 × IVec S64 1 :=
  let main_cst_4 : FVec F S_ .f32 := constant S_ .f32 0x7F800000#32
  let main_v18 : FVec F S5x64 .f32 := broadcastInDim S5x64 ![] bcast_S_S5x64 main_cst_4
  let main_v19 : IVec S5x64 1 := cmpf .olt main_v17 main_v18
  let main_v20 : FVec F S64 .f32 := Host.absf main_arg6
  let main_cst_5 : FVec F S_ .f32 := constant S_ .f32 0x7F800000#32
  let main_v21 : FVec F S64 .f32 := broadcastInDim S64 ![] bcast_S_S64 main_cst_5
  let main_v22 : IVec S64 1 := cmpf .olt main_v20 main_v21
  let main_v23 : FVec F S128x64 .f32 := Host.absf main_arg7
  let main_cst_6 : FVec F S_ .f32 := constant S_ .f32 0x7F800000#32
  let main_v24 : FVec F S128x64 .f32 := broadcastInDim S128x64 ![] bcast_S_S128x64 main_cst_6
  let main_v25 : IVec S128x64 1 := cmpf .olt main_v23 main_v24
  let main_v26 : FVec F S64 .f32 := Host.absf main_arg8
  let main_cst_7 : FVec F S_ .f32 := constant S_ .f32 0x7F800000#32
  let main_v27 : FVec F S64 .f32 := broadcastInDim S64 ![] bcast_S_S64 main_cst_7
  let main_v28 : IVec S64 1 := cmpf .olt main_v26 main_v27
  let main_v29 : FVec F S64x64 .f32 := Host.absf main_arg9
  let main_cst_8 : FVec F S_ .f32 := constant S_ .f32 0x7F800000#32
  let main_v30 : FVec F S64x64 .f32 := broadcastInDim S64x64 ![] bcast_S_S64x64 main_cst_8
  let main_v31 : IVec S64x64 1 := cmpf .olt main_v29 main_v30
  let main_v32 : FVec F S64 .f32 := Host.absf main_arg10
  let main_cst_9 : FVec F S_ .f32 := constant S_ .f32 0x7F800000#32
  let main_v33 : FVec F S64 .f32 := broadcastInDim S64 ![] bcast_S_S64 main_cst_9
  let main_v34 : IVec S64 1 := cmpf .olt main_v32 main_v33
  let main_v35 : FVec F S5x64 .f32 := Host.absf main_arg11
  fn_part2 (F := F) main_arg12 main_arg13 main_arg14 main_arg15 main_arg16 main_arg17 main_arg18 main_arg19 main_arg20 main_arg21 main_arg22 main_arg23 main_arg24 main_v4 main_v7 main_v10 main_v13 main_v16 main_v19 main_v22 main_v25 main_v28 main_v31 main_v34 main_v35

def fn {F : FTy → Type} [FloatOps F] (main_arg0 : FVec F S10000x128 .f32) (main_arg1 : FVec F S320000x5 .f32) (main_arg2 : IVec S2x320000 32) (main_arg3 : FVec F S128x64 .f32) (main_arg4 : FVec F S64 .f32) (main_arg5 : FVec F S5x64 .f32) (main_arg6 : FVec F S64 .f32) (main_arg7 : FVec F S128x64 .f32) (main_arg8 : FVec F S64 .f32) (main_arg9 : FVec F S64x64 .f32) (main_arg10 : FVec F S64 .f32) (main_arg11 : FVec F S5x64 .f32) (main_arg12 : FVec F S64 .f32) (main_arg13 : FVec F S128x64 .f32) (main_arg14 : FVec F S64 .f32) (main_arg15 : FVec F S64x64 .f32) (main_arg16 : FVec F S64 .f32) (main_arg17 : FVec F S5x64 .f32) (main_arg18 : FVec F S64 .f32) (main_arg19 : FVec F S128x64 .f32) (main_arg20 : FVec F S64 .f32) (main_arg21 : FVec F S64x128 .f32) (main_arg22 : FVec F S2x64 .f32) (main_arg23 : FVec F S2x64 .f32) (main_arg24 : FVec F S64 .f32) : IVec S2x320000 1 × IVec S10000x128 1 × IVec S320000x5 1 × IVec S128x64 1 × IVec S64 1 × IVec S5x64 1 × IVec S64 1 × IVec S128x64 1 × IVec S64 1 × IVec S64x64 1 × IVec S64 1 × IVec S5x64 1 × IVec S64 1 × IVec S128x64 1 × IVec S64 1 × IVec S64x64 1 × IVec S64 1 × IVec S5x64 1 × IVec S64 1 × IVec S128x64 1 × IVec S64 1 × IVec S64x128 1 × IVec S2x64 1 × IVec S2x64 1 × IVec S64 1 :=
  let main_c : IVec S_ 32 := constantI S_ 32 0#32
  let main_v0 : IVec S2x320000 32 := broadcastInDim S2x320000 ![] bcast_S_S2x320000 main_c
  let main_v1 : IVec S2x320000 1 := cmpi .sge main_arg2 main_v0
  let main_c_0 : IVec S_ 32 := constantI S_ 32 10000#32
  let main_v2 : IVec S2x320000 32 := broadcastInDim S2x320000 ![] bcast_S_S2x320000 main_c_0
  let main_v3 : IVec S2x320000 1 := cmpi .slt main_arg2 main_v2
  let main_v4 : IVec S2x320000 1 := andi main_v1 main_v3
  let main_v5 : FVec F S10000x128 .f32 := Host.absf main_arg0
  let main_cst : FVec F S_ .f32 := constant S_ .f32 0x7F800000#32
  let main_v6 : FVec F S10000x128 .f32 := broadcastInDim S10000x128 ![] bcast_S_S10000x128 main_cst
  let main_v7 : IVec S10000x128 1 := cmpf .olt main_v5 main_v6
  let main_v8 : FVec F S320000x5 .f32 := Host.absf main_arg1
  let main_cst_1 : FVec F S_ .f32 := constant S_ .f32 0x7F800000#32
  let main_v9 : FVec F S320000x5 .f32 := broadcastInDim S320000x5 ![] bcast_S_S320000x5 main_cst_1
  let main_v10 : IVec S320000x5 1 := cmpf .olt main_v8 main_v9
  let main_v11 : FVec F S128x64 .f32 := Host.absf main_arg3
  let main_cst_2 : FVec F S_ .f32 := constant S_ .f32 0x7F800000#32
  let main_v12 : FVec F S128x64 .f32 := broadcastInDim S128x64 ![] bcast_S_S128x64 main_cst_2
  let main_v13 : IVec S128x64 1 := cmpf .olt main_v11 main_v12
  let main_v14 : FVec F S64 .f32 := Host.absf main_arg4
  let main_cst_3 : FVec F S_ .f32 := constant S_ .f32 0x7F800000#32
  let main_v15 : FVec F S64 .f32 := broadcastInDim S64 ![] bcast_S_S64 main_cst_3
  let main_v16 : IVec S64 1 := cmpf .olt main_v14 main_v15
  let main_v17 : FVec F S5x64 .f32 := Host.absf main_arg5
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v4 main_v7 main_v10 main_v13 main_v16 main_v17
-- ==== Kernel.lean ====
abbrev S10000x128 : Shape := ⟨2, ![10000, 128]⟩
abbrev S320000x5 : Shape := ⟨2, ![320000, 5]⟩
abbrev S2x320000 : Shape := ⟨2, ![2, 320000]⟩
abbrev S128x64 : Shape := ⟨2, ![128, 64]⟩
abbrev S64 : Shape := ⟨1, ![64]⟩
abbrev S5x64 : Shape := ⟨2, ![5, 64]⟩
abbrev S64x64 : Shape := ⟨2, ![64, 64]⟩
abbrev S64x128 : Shape := ⟨2, ![64, 128]⟩
abbrev S2x64 : Shape := ⟨2, ![2, 64]⟩
abbrev S1x320000 : Shape := ⟨2, ![1, 320000]⟩
abbrev S320000 : Shape := ⟨1, ![320000]⟩
abbrev S_ : Shape := ⟨0, ![]⟩
abbrev S10240x10240 : Shape := ⟨2, ![10240, 10240]⟩
abbrev S320000x1 : Shape := ⟨2, ![320000, 1]⟩
abbrev S320000x2 : Shape := ⟨2, ![320000, 2]⟩
abbrev S320000x8 : Shape := ⟨2, ![320000, 8]⟩
abbrev S10240x8 : Shape := ⟨2, ![10240, 8]⟩
abbrev S1x64 : Shape := ⟨2, ![1, 64]⟩
abbrev S8x64 : Shape := ⟨2, ![8, 64]⟩
abbrev S10240x128 : Shape := ⟨2, ![10240, 128]⟩
abbrev S10240x64 : Shape := ⟨2, ![10240, 64]⟩
abbrev S128x8 : Shape := ⟨2, ![128, 8]⟩
abbrev S1 : Shape := ⟨1, ![1]⟩
abbrev S2 : Shape := ⟨1, ![2]⟩
abbrev S10240x2 : Shape := ⟨2, ![10240, 2]⟩
abbrev S2x10240 : Shape := ⟨2, ![2, 10240]⟩
abbrev S8x10240 : Shape := ⟨2, ![8, 10240]⟩
abbrev S10000x64 : Shape := ⟨2, ![10000, 64]⟩
abbrev S10000x1 : Shape := ⟨2, ![10000, 1]⟩
abbrev S640000 : Shape := ⟨1, ![640000]⟩
abbrev S2048x128 : Shape := ⟨2, ![2048, 128]⟩
abbrev S2048x64 : Shape := ⟨2, ![2048, 64]⟩
abbrev S512x512 : Shape := ⟨2, ![512, 512]⟩
abbrev S512x64 : Shape := ⟨2, ![512, 64]⟩
abbrev S512x8 : Shape := ⟨2, ![512, 8]⟩
abbrev S2048x8 : Shape := ⟨2, ![2048, 8]⟩
abbrev S8x512 : Shape := ⟨2, ![8, 512]⟩
abbrev S1x512 : Shape := ⟨2, ![1, 512]⟩
abbrev S512 : Shape := ⟨1, ![512]⟩
abbrev S512x1 : Shape := ⟨2, ![512, 1]⟩
abbrev S512x6 : Shape := ⟨2, ![512, 6]⟩
abbrev S512x128 : Shape := ⟨2, ![512, 128]⟩

abbrev nBuf : Space → Nat
  | .hbm => 172
  | .vmem => 76
  | .smem => 0
  | _ => 0

abbrev hbmTy0_0 (i : Nat) : BufTy := match i % 128 with
  | 0 => ⟨S10000x128, .f32⟩
  | 1 => ⟨S320000x5, .f32⟩
  | 2 => ⟨S2x320000, .i32⟩
  | 3 => ⟨S128x64, .f32⟩
  | 4 => ⟨S64, .f32⟩
  | 5 => ⟨S5x64, .f32⟩
  | 6 => ⟨S64, .f32⟩
  | 7 => ⟨S128x64, .f32⟩
  | 8 => ⟨S64, .f32⟩
  | 9 => ⟨S64x64, .f32⟩
  | 10 => ⟨S64, .f32⟩
  | 11 => ⟨S5x64, .f32⟩
  | 12 => ⟨S64, .f32⟩
  | 13 => ⟨S128x64, .f32⟩
  | 14 => ⟨S64, .f32⟩
  | 15 => ⟨S64x64, .f32⟩
  | 16 => ⟨S64, .f32⟩
  | 17 => ⟨S5x64, .f32⟩
  | 18 => ⟨S64, .f32⟩
  | 19 => ⟨S128x64, .f32⟩
  | 20 => ⟨S64, .f32⟩
  | 21 => ⟨S64x128, .f32⟩
  | 22 => ⟨S2x64, .f32⟩
  | 23 => ⟨S2x64, .f32⟩
  | 24 => ⟨S64, .f32⟩
  | 25 => ⟨S1x320000, .i32⟩
  | 26 => ⟨S320000, .i32⟩
  | 27 => ⟨S1x320000, .i32⟩
  | 28 => ⟨S320000, .i32⟩
  | 29 => ⟨S_, .f32⟩
  | 30 => ⟨S10240x10240, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000x1, .i32⟩
  | 47 => ⟨S320000x2, .i32⟩
  | 48 => ⟨S_, .f32⟩
  | 49 => ⟨S320000, .f32⟩
  | 50 => ⟨S10240x10240, .f32⟩
  | 51 => ⟨S_, .f32⟩
  | 52 => ⟨S320000x1, .f32⟩
  | 53 => ⟨S_, .f32⟩
  | 54 => ⟨S320000x2, .f32⟩
  | 55 => ⟨S320000x8, .f32⟩
  | 56 => ⟨S_, .f32⟩
  | 57 => ⟨S10240x8, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S10240x8, .f32⟩
  | 67 => ⟨S64x64, .f32⟩
  | 68 => ⟨S64x64, .f32⟩
  | 69 => ⟨S5x64, .f32⟩
  | 70 => ⟨S64, .f32⟩
  | 71 => ⟨S64, .f32⟩
  | 72 => ⟨S1x64, .f32⟩
  | 73 => ⟨S_, .f32⟩
  | 74 => ⟨S2x64, .f32⟩
  | 75 => ⟨S8x64, .f32⟩
  | 76 => ⟨S64x64, .f32⟩
  | 77 => ⟨S64x64, .f32⟩
  | 78 => ⟨S5x64, .f32⟩
  | 79 => ⟨S64, .f32⟩
  | 80 => ⟨S64, .f32⟩
  | 81 => ⟨S1x64, .f32⟩
  | 82 => ⟨S_, .f32⟩
  | 83 => ⟨S2x64, .f32⟩
  | 84 => ⟨S8x64, .f32⟩
  | 85 => ⟨S64x64, .f32⟩
  | 86 => ⟨S64x64, .f32⟩
  | 87 => ⟨S5x64, .f32⟩
  | 88 => ⟨S64, .f32⟩
  | 89 => ⟨S64, .f32⟩
  | 90 => ⟨S1x64, .f32⟩
  | 91 => ⟨S_, .f32⟩
  | 92 => ⟨S2x64, .f32⟩
  | 93 => ⟨S8x64, .f32⟩
  | 94 => ⟨S_, .i32⟩
  | 95 => ⟨S_, .f32⟩
  | 96 => ⟨S10240x128, .f32⟩
  | 97 => ⟨S1x64, .f32⟩
  | 98 => ⟨S10240x64, .f32⟩
  | 99 => ⟨S10240x64, .f32⟩
  | 100 => ⟨S1x64, .f32⟩
  | 101 => ⟨S10240x64, .f32⟩
  | 102 => ⟨S10240x64, .f32⟩
  | 103 => ⟨S1x64, .f32⟩
  | 104 => ⟨S10240x64, .f32⟩
  | 105 => ⟨S10240x64, .f32⟩
  | 106 => ⟨S_, .f32⟩
  | 107 => ⟨S128x8, .f32⟩
  | 108 => ⟨S1x64, .f32⟩
  | 109 => ⟨S64, .f32⟩
  | 110 => ⟨S_, .i32⟩
  | 111 => ⟨S1, .i32⟩
  | 112 => ⟨S_, .i32⟩
  | 113 => ⟨S1, .i32⟩
  | 114 => ⟨S2, .i32⟩
  | 115 => ⟨S128x8, .f32⟩
  | 116 => ⟨S1x64, .f32⟩
  | 117 => ⟨S64, .f32⟩
  | 118 => ⟨S_, .i32⟩
  | 119 => ⟨S1, .i32⟩
  | 120 => ⟨S_, .i32⟩
  | 121 => ⟨S1, .i32⟩
  | 122 => ⟨S2, .i32⟩
  | 123 => ⟨S128x8, .f32⟩
  | 124 => ⟨S1x64, .f32⟩
  | 125 => ⟨S64, .f32⟩
  | 126 => ⟨S_, .i32⟩
  | 127 => ⟨S1, .i32⟩
  | _ => ⟨S10000x128, .f32⟩

abbrev hbmTy0_1 (i : Nat) : BufTy := match i % 128 with
  | 0 => ⟨S_, .i32⟩
  | 1 => ⟨S1, .i32⟩
  | 2 => ⟨S2, .i32⟩
  | 3 => ⟨S128x8, .f32⟩
  | 4 => ⟨S1x64, .f32⟩
  | 5 => ⟨S64, .f32⟩
  | 6 => ⟨S_, .i32⟩
  | 7 => ⟨S1, .i32⟩
  | 8 => ⟨S_, .i32⟩
  | 9 => ⟨S1, .i32⟩
  | 10 => ⟨S2, .i32⟩
  | 11 => ⟨S128x8, .f32⟩
  | 12 => ⟨S10240x128, .f32⟩
  | 13 => ⟨S10240x8, .f32⟩
  | 14 => ⟨S10240x2, .f32⟩
  | 15 => ⟨S2x10240, .f32⟩
  | 16 => ⟨S_, .i32⟩
  | 17 => ⟨S_, .f32⟩
  | 18 => ⟨S8x10240, .f32⟩
  | 19 => ⟨S10240x8, .f32⟩
  | 20 => ⟨S10240x128, .f32⟩
  | 21 => ⟨S10240x8, .f32⟩
  | 22 => ⟨S10000x64, .f32⟩
  | 23 => ⟨S10000x1, .f32⟩
  | 24 => ⟨S_, .f32⟩
  | 25 => ⟨S10000x1, .f32⟩
  | 26 => ⟨S10000x1, .f32⟩
  | 27 => ⟨S10000x64, .f32⟩
  | 28 => ⟨S10000x64, .f32⟩
  | 29 => ⟨S10000x64, .f32⟩
  | 30 => ⟨S10000x1, .f32⟩
  | 31 => ⟨S_, .f32⟩
  | 32 => ⟨S10000x1, .f32⟩
  | 33 => ⟨S10000x1, .f32⟩
  | 34 => ⟨S10000x64, .f32⟩
  | 35 => ⟨S10000x64, .f32⟩
  | 36 => ⟨S10000x64, .f32⟩
  | 37 => ⟨S_, .f32⟩
  | 38 => ⟨S10000x64, .f32⟩
  | 39 => ⟨S10000x64, .f32⟩
  | 40 => ⟨S1x64, .f32⟩
  | 41 => ⟨S10000x64, .f32⟩
  | 42 => ⟨S10000x64, .f32⟩
  | 43 => ⟨S640000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S1x64, .f32⟩
  | .local _ .vmem, ⟨4, _⟩ => ⟨S2048x64, .f32⟩
  | .local _ .vmem, ⟨5, _⟩ => ⟨S2048x64, .f32⟩
  | .local _ .vmem, ⟨6, _⟩ => ⟨S512x512, .f32⟩
  | .local _ .vmem, ⟨7, _⟩ => ⟨S512x512, .f32⟩
  | .local _ .vmem, ⟨8, _⟩ => ⟨S512x64, .f32⟩
  | .local _ .vmem, ⟨9, _⟩ => ⟨S512x64, .f32⟩
  | .local _ .vmem, ⟨10, _⟩ => ⟨S512x8, .f32⟩
  | .local _ .vmem, ⟨11, _⟩ => ⟨S512x8, .f32⟩
  | .local _ .vmem, ⟨12, _⟩ => ⟨S64x64, .f32⟩
  | .local _ .vmem, ⟨13, _⟩ => ⟨S8x64, .f32⟩
  | .local _ .vmem, ⟨14, _⟩ => ⟨S512x64, .f32⟩
  | .local _ .vmem, ⟨15, _⟩ => ⟨S512x64, .f32⟩
  | .local _ .vmem, ⟨16, _⟩ => ⟨S2048x64, .f32⟩
  | .local _ .vmem, ⟨17, _⟩ => ⟨S2048x64, .f32⟩
  | .local _ .vmem, ⟨18, _⟩ => ⟨S64x64, .f32⟩
  | .local _ .vmem, ⟨19, _⟩ => ⟨S1x64, .f32⟩
  | .local _ .vmem, ⟨20, _⟩ => ⟨S2048x64, .f32⟩
  | .local _ .vmem, ⟨21, _⟩ => ⟨S2048x64, .f32⟩
  | .local _ .vmem, ⟨22, _⟩ => ⟨S512x512, .f32⟩
  | .local _ .vmem, ⟨23, _⟩ => ⟨S512x512, .f32⟩
  | .local _ .vmem, ⟨24, _⟩ => ⟨S512x64, .f32⟩
  | .local _ .vmem, ⟨25, _⟩ => ⟨S512x64, .f32⟩
  | .local _ .vmem, ⟨26, _⟩ => ⟨S512x8, .f32⟩
  | .local _ .vmem, ⟨27, _⟩ => ⟨S512x8, .f32⟩
  | .local _ .vmem, ⟨28, _⟩ => ⟨S64x64, .f32⟩
  | .local _ .vmem, ⟨29, _⟩ => ⟨S8x64, .f32⟩
  | .local _ .vmem, ⟨30, _⟩ => ⟨S512x64, .f32⟩
  | .local _ .vmem, ⟨31, _⟩ => ⟨S512x64, .f32⟩
  | .local _ .vmem, ⟨32, _⟩ => ⟨S2048x64, .f32⟩
  | .local _ .vmem, ⟨33, _⟩ => ⟨S2048x64, .f32⟩
  | .local _ .vmem, ⟨34, _⟩ => ⟨S64x64, .f32⟩
  | .local _ .vmem, ⟨35, _⟩ => ⟨S1x64, .f32⟩
  | .local _ .vmem, ⟨36, _⟩ => ⟨S2048x64, .f32⟩
  | .local _ .vmem, ⟨37, _⟩ => ⟨S2048x64, .f32⟩
  | .local _ .vmem, ⟨38, _⟩ => ⟨S512x512, .f32⟩
  | .local _ .vmem, ⟨39, _⟩ => ⟨S512x512, .f32⟩
  | .local _ .vmem, ⟨40, _⟩ => ⟨S512x64, .f32⟩
  | .local _ .vmem, ⟨41, _⟩ => ⟨S512x64, .f32⟩
  | .local _ .vmem, ⟨42, _⟩ => ⟨S512x8, .f32⟩
  | .local _ .vmem, ⟨43, _⟩ => ⟨S512x8, .f32⟩
  | .local _ .vmem, ⟨44, _⟩ => ⟨S64x64, .f32⟩
  | .local _ .vmem, ⟨45, _⟩ => ⟨S8x64, .f32⟩
  | .local _ .vmem, ⟨46, _⟩ => ⟨S512x64, .f32⟩
  | .local _ .vmem, ⟨47, _⟩ => ⟨S512x64, .f32⟩
  | .local _ .vmem, ⟨48, _⟩ => ⟨S2048x64, .f32⟩
  | .local _ .vmem, ⟨49, _⟩ => ⟨S2048x64, .f32⟩
  | .local _ .vmem, ⟨50, _⟩ => ⟨S64x128, .f32⟩
  | .local _ .vmem, ⟨51, _⟩ => ⟨S128x8, .f32⟩
  | .local _ .vmem, ⟨52, _⟩ => ⟨S2048x128, .f32⟩
  | .local _ .vmem, ⟨53, _⟩ => ⟨S2048x128, .f32⟩
  | .local _ .vmem, ⟨54, _⟩ => ⟨S2048x8, .f32⟩
  | .local _ .vmem, ⟨55, _⟩ => ⟨S2048x8, .f32⟩
  | .local _ .vmem, ⟨56, _⟩ => ⟨S512x512, .f32⟩
  | .local _ .vmem, ⟨57, _⟩ => ⟨S512x512, .f32⟩
  | .local _ .vmem, ⟨58, _⟩ => ⟨S8x512, .f32⟩
  | .local _ .vmem, ⟨59, _⟩ => ⟨S8x512, .f32⟩
  | .local _ .vmem, ⟨60, _⟩ => ⟨S512x8, .f32⟩
  | .local _ .vmem, ⟨61, _⟩ => ⟨S512x8, .f32⟩
  | .local _ .vmem, ⟨62, _⟩ => ⟨S512x512, .f32⟩
  | .local _ .vmem, ⟨63, _⟩ => ⟨S512x512, .f32⟩
  | .local _ .vmem, ⟨64, _⟩ => ⟨S8x512, .f32⟩
  | .local _ .vmem, ⟨65, _⟩ => ⟨S8x512, .f32⟩
  | .local _ .vmem, ⟨66, _⟩ => ⟨S512x8, .f32⟩
  | .local _ .vmem, ⟨67, _⟩ => ⟨S512x8, .f32⟩
  | .local _ .vmem, ⟨68, _⟩ => ⟨S512x8, .f32⟩
  | .local _ .vmem, ⟨69, _⟩ => ⟨S512x8, .f32⟩
  | .local _ .vmem, ⟨70, _⟩ => ⟨S512x128, .f32⟩
  | .local _ .vmem, ⟨71, _⟩ => ⟨S512x128, .f32⟩
  | .local _ .vmem, ⟨72, _⟩ => ⟨S512x128, .f32⟩
  | .local _ .vmem, ⟨73, _⟩ => ⟨S512x128, .f32⟩
  | .local _ .vmem, ⟨74, _⟩ => ⟨S512x8, .f32⟩
  | .local _ .vmem, ⟨75, _⟩ => ⟨S512x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_cst : Ref sig .tc := ⟨.hbm, 29, rfl⟩
abbrev main_call0_v4 : Ref sig .tc := ⟨.hbm, 30, rfl⟩
abbrev main_call0_c : Ref sig .tc := ⟨.hbm, 31, rfl⟩
abbrev main_call0_v5 : Ref sig .tc := ⟨.hbm, 32, rfl⟩
abbrev main_call0_v6 : Ref sig .tc := ⟨.hbm, 33, rfl⟩
abbrev main_call0_c_0 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_c_1 : Ref sig .tc := ⟨.hbm, 38, rfl⟩
abbrev main_call0_v10 : Ref sig .tc := ⟨.hbm, 39, rfl⟩
abbrev main_call0_v11 : Ref sig .tc := ⟨.hbm, 40, rfl⟩
abbrev main_call0_c_2 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_call0_v17 : Ref sig .tc := ⟨.hbm, 47, rfl⟩
abbrev main_call0_cst_3 : Ref sig .tc := ⟨.hbm, 48, rfl⟩
abbrev main_call0_v18 : Ref sig .tc := ⟨.hbm, 49, rfl⟩
abbrev main_call0_v19 : Ref sig .tc := ⟨.hbm, 50, rfl⟩
abbrev main_call0_cst_4 : Ref sig .tc := ⟨.hbm, 51, rfl⟩
abbrev main_call0_v20 : Ref sig .tc := ⟨.hbm, 52, rfl⟩
abbrev main_call0_cst_5 : Ref sig .tc := ⟨.hbm, 53, rfl⟩
abbrev main_call0_v21 : Ref sig .tc := ⟨.hbm, 54, rfl⟩
abbrev main_call0_v22 : Ref sig .tc := ⟨.hbm, 55, rfl⟩
abbrev main_call0_cst_6 : Ref sig .tc := ⟨.hbm, 56, rfl⟩
abbrev main_call0_v23 : Ref sig .tc := ⟨.hbm, 57, rfl⟩
abbrev main_call0_c_7 : Ref sig .tc := ⟨.hbm, 58, rfl⟩
abbrev main_call0_v24 : Ref sig .tc := ⟨.hbm, 59, rfl⟩
abbrev main_call0_v25 : Ref sig .tc := ⟨.hbm, 60, rfl⟩
abbrev main_call0_c_8 : Ref sig .tc := ⟨.hbm, 61, rfl⟩
abbrev main_call0_v26 : Ref sig .tc := ⟨.hbm, 62, rfl⟩
abbrev main_call0_v27 : Ref sig .tc := ⟨.hbm, 63, rfl⟩
abbrev main_call0_v28 : Ref sig .tc := ⟨.hbm, 64, rfl⟩
abbrev main_call0_v29 : Ref sig .tc := ⟨.hbm, 65, rfl⟩
abbrev main_call0_v30 : Ref sig .tc := ⟨.hbm, 66, rfl⟩
abbrev main_call0_v31 : Ref sig .tc := ⟨.hbm, 67, rfl⟩
abbrev main_call0_v32 : Ref sig .tc := ⟨.hbm, 68, rfl⟩
abbrev main_call0_v33 : Ref sig .tc := ⟨.hbm, 69, rfl⟩
abbrev main_call0_v34 : Ref sig .tc := ⟨.hbm, 70, rfl⟩
abbrev main_call0_v35 : Ref sig .tc := ⟨.hbm, 71, rfl⟩
abbrev main_call0_v36 : Ref sig .tc := ⟨.hbm, 72, rfl⟩
abbrev main_call0_cst_9 : Ref sig .tc := ⟨.hbm, 73, rfl⟩
abbrev main_call0_v37 : Ref sig .tc := ⟨.hbm, 74, rfl⟩
abbrev main_call0_v38 : Ref sig .tc := ⟨.hbm, 75, rfl⟩
abbrev main_call0_v39 : Ref sig .tc := ⟨.hbm, 76, rfl⟩
abbrev main_call0_v40 : Ref sig .tc := ⟨.hbm, 77, rfl⟩
abbrev main_call0_v41 : Ref sig .tc := ⟨.hbm, 78, rfl⟩
abbrev main_call0_v42 : Ref sig .tc := ⟨.hbm, 79, rfl⟩
abbrev main_call0_v43 : Ref sig .tc := ⟨.hbm, 80, rfl⟩
abbrev main_call0_v44 : Ref sig .tc := ⟨.hbm, 81, rfl⟩
abbrev main_call0_cst_10 : Ref sig .tc := ⟨.hbm, 82, rfl⟩
abbrev main_call0_v45 : Ref sig .tc := ⟨.hbm, 83, rfl⟩
abbrev main_call0_v46 : Ref sig .tc := ⟨.hbm, 84, rfl⟩
abbrev main_call0_v47 : Ref sig .tc := ⟨.hbm, 85, rfl⟩
abbrev main_call0_v48 : Ref sig .tc := ⟨.hbm, 86, rfl⟩
abbrev main_call0_v49 : Ref sig .tc := ⟨.hbm, 87, rfl⟩
abbrev main_call0_v50 : Ref sig .tc := ⟨.hbm, 88, rfl⟩
abbrev main_call0_v51 : Ref sig .tc := ⟨.hbm, 89, rfl⟩
abbrev main_call0_v52 : Ref sig .tc := ⟨.hbm, 90, rfl⟩
abbrev main_call0_cst_11 : Ref sig .tc := ⟨.hbm, 91, rfl⟩
abbrev main_call0_v53 : Ref sig .tc := ⟨.hbm, 92, rfl⟩
abbrev main_call0_v54 : Ref sig .tc := ⟨.hbm, 93, rfl⟩
abbrev main_call0_c_12 : Ref sig .tc := ⟨.hbm, 94, rfl⟩
abbrev main_call0_call0_v0 : Ref sig .tc := ⟨.hbm, 95, rfl⟩
abbrev main_call0_v55 : Ref sig .tc := ⟨.hbm, 96, rfl⟩
abbrev main_call0_v56 : Ref sig .tc := ⟨.hbm, 97, rfl⟩
abbrev main_call0_v57 : Ref sig .tc := ⟨.hbm, 98, rfl⟩
abbrev main_call0_v58 : Ref sig .tc := ⟨.hbm, 99, rfl⟩
abbrev main_call0_v59 : Ref sig .tc := ⟨.hbm, 100, rfl⟩
abbrev main_call0_v60 : Ref sig .tc := ⟨.hbm, 101, rfl⟩
abbrev main_call0_v61 : Ref sig .tc := ⟨.hbm, 102, rfl⟩
abbrev main_call0_v62 : Ref sig .tc := ⟨.hbm, 103, rfl⟩
abbrev main_call0_v63 : Ref sig .tc := ⟨.hbm, 104, rfl⟩
abbrev main_call0_v64 : Ref sig .tc := ⟨.hbm, 105, rfl⟩
abbrev main_call0_cst_13 : Ref sig .tc := ⟨.hbm, 106, rfl⟩
abbrev main_call0_v65 : Ref sig .tc := ⟨.hbm, 107, rfl⟩
abbrev main_call0_v66 : Ref sig .tc := ⟨.hbm, 108, rfl⟩
abbrev main_call0_v67 : Ref sig .tc := ⟨.hbm, 109, rfl⟩
abbrev main_call0_c_14 : Ref sig .tc := ⟨.hbm, 110, rfl⟩
abbrev main_call0_v68 : Ref sig .tc := ⟨.hbm, 111, rfl⟩
abbrev main_call0_c_15 : Ref sig .tc := ⟨.hbm, 112, rfl⟩
abbrev main_call0_v69 : Ref sig .tc := ⟨.hbm, 113, rfl⟩
abbrev main_call0_v70 : Ref sig .tc := ⟨.hbm, 114, rfl⟩
abbrev main_call0_v71 : Ref sig .tc := ⟨.hbm, 115, rfl⟩
abbrev main_call0_v72 : Ref sig .tc := ⟨.hbm, 116, rfl⟩
abbrev main_call0_v73 : Ref sig .tc := ⟨.hbm, 117, rfl⟩
abbrev main_call0_c_16 : Ref sig .tc := ⟨.hbm, 118, rfl⟩
abbrev main_call0_v74 : Ref sig .tc := ⟨.hbm, 119, rfl⟩
abbrev main_call0_c_17 : Ref sig .tc := ⟨.hbm, 120, rfl⟩
abbrev main_call0_v75 : Ref sig .tc := ⟨.hbm, 121, rfl⟩
abbrev main_call0_v76 : Ref sig .tc := ⟨.hbm, 122, rfl⟩
abbrev main_call0_v77 : Ref sig .tc := ⟨.hbm, 123, rfl⟩
abbrev main_call0_v78 : Ref sig .tc := ⟨.hbm, 124, rfl⟩
abbrev main_call0_v79 : Ref sig .tc := ⟨.hbm, 125, rfl⟩
abbrev main_call0_c_18 : Ref sig .tc := ⟨.hbm, 126, rfl⟩
abbrev main_call0_v80 : Ref sig .tc := ⟨.hbm, 127, rfl⟩
abbrev main_call0_c_19 : Ref sig .tc := ⟨.hbm, 128, rfl⟩
abbrev main_call0_v81 : Ref sig .tc := ⟨.hbm, 129, rfl⟩
abbrev main_call0_v82 : Ref sig .tc := ⟨.hbm, 130, rfl⟩
abbrev main_call0_v83 : Ref sig .tc := ⟨.hbm, 131, rfl⟩
abbrev main_call0_v84 : Ref sig .tc := ⟨.hbm, 132, rfl⟩
abbrev main_call0_v85 : Ref sig .tc := ⟨.hbm, 133, rfl⟩
abbrev main_call0_c_20 : Ref sig .tc := ⟨.hbm, 134, rfl⟩
abbrev main_call0_v86 : Ref sig .tc := ⟨.hbm, 135, rfl⟩
abbrev main_call0_c_21 : Ref sig .tc := ⟨.hbm, 136, rfl⟩
abbrev main_call0_v87 : Ref sig .tc := ⟨.hbm, 137, rfl⟩
abbrev main_call0_v88 : Ref sig .tc := ⟨.hbm, 138, rfl⟩
abbrev main_call0_v89 : Ref sig .tc := ⟨.hbm, 139, rfl⟩
abbrev main_call0_v90_0 : Ref sig .tc := ⟨.hbm, 140, rfl⟩
abbrev main_call0_v90_1 : Ref sig .tc := ⟨.hbm, 141, rfl⟩
abbrev main_call0_v91 : Ref sig .tc := ⟨.hbm, 142, rfl⟩
abbrev main_call0_v92 : Ref sig .tc := ⟨.hbm, 143, rfl⟩
abbrev main_call0_c_22 : Ref sig .tc := ⟨.hbm, 144, rfl⟩
abbrev main_call0_call1_v0 : Ref sig .tc := ⟨.hbm, 145, rfl⟩
abbrev main_call0_v93 : Ref sig .tc := ⟨.hbm, 146, rfl⟩
abbrev main_call0_v94 : Ref sig .tc := ⟨.hbm, 147, rfl⟩
abbrev main_call0_v95_0 : Ref sig .tc := ⟨.hbm, 148, rfl⟩
abbrev main_call0_v95_1 : Ref sig .tc := ⟨.hbm, 149, rfl⟩
abbrev main_call0_v96 : Ref sig .tc := ⟨.hbm, 150, rfl⟩
abbrev main_call0_v97 : Ref sig .tc := ⟨.hbm, 151, rfl⟩
abbrev main_call0_cst_23 : Ref sig .tc := ⟨.hbm, 152, rfl⟩
abbrev main_call0_v98 : Ref sig .tc := ⟨.hbm, 153, rfl⟩
abbrev main_call0_v99 : Ref sig .tc := ⟨.hbm, 154, rfl⟩
abbrev main_call0_v100 : Ref sig .tc := ⟨.hbm, 155, rfl⟩
abbrev main_call0_v101 : Ref sig .tc := ⟨.hbm, 156, rfl⟩
abbrev main_call0_v102 : Ref sig .tc := ⟨.hbm, 157, rfl⟩
abbrev main_call0_v103 : Ref sig .tc := ⟨.hbm, 158, rfl⟩
abbrev main_call0_cst_24 : Ref sig .tc := ⟨.hbm, 159, rfl⟩
abbrev main_call0_v104 : Ref sig .tc := ⟨.hbm, 160, rfl⟩
abbrev main_call0_v105 : Ref sig .tc := ⟨.hbm, 161, rfl⟩
abbrev main_call0_v106 : Ref sig .tc := ⟨.hbm, 162, rfl⟩
abbrev main_call0_v107 : Ref sig .tc := ⟨.hbm, 163, rfl⟩
abbrev main_call0_v108 : Ref sig .tc := ⟨.hbm, 164, rfl⟩
abbrev main_call0_cst_25 : Ref sig .tc := ⟨.hbm, 165, rfl⟩
abbrev main_call0_v109 : Ref sig .tc := ⟨.hbm, 166, rfl⟩
abbrev main_call0_v110 : Ref sig .tc := ⟨.hbm, 167, rfl⟩
abbrev main_call0_v111 : Ref sig .tc := ⟨.hbm, 168, rfl⟩
abbrev main_call0_v112 : Ref sig .tc := ⟨.hbm, 169, rfl⟩
abbrev main_call0_v113 : Ref sig .tc := ⟨.hbm, 170, rfl⟩
abbrev main_v0 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg2_1 : Ref sig .tc := ⟨.vmem, 67, rfl⟩
abbrev cc8_stg3_0 : Ref sig .tc := ⟨.vmem, 68, rfl⟩
abbrev cc8_stg3_1 : Ref sig .tc := ⟨.vmem, 69, rfl⟩
abbrev cc8_stg4_0 : Ref sig .tc := ⟨.vmem, 70, rfl⟩
abbrev cc8_stg4_1 : Ref sig .tc := ⟨.vmem, 71, rfl⟩
abbrev cc8_stg5_0 : Ref sig .tc := ⟨.vmem, 72, rfl⟩
abbrev cc8_stg5_1 : Ref sig .tc := ⟨.vmem, 73, rfl⟩
abbrev cc8_stg6_0 : Ref sig .tc := ⟨.vmem, 74, rfl⟩
abbrev cc8_stg6_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem2_1 : DmaSem sig := 67
abbrev cc8_sem3_0 : DmaSem sig := 68
abbrev cc8_sem3_1 : DmaSem sig := 69
abbrev cc8_sem4_0 : DmaSem sig := 70
abbrev cc8_sem4_1 : DmaSem sig := 71
abbrev cc8_sem5_0 : DmaSem sig := 72
abbrev cc8_sem5_1 : DmaSem sig := 73
abbrev cc8_sem6_0 : DmaSem sig := 74
abbrev cc8_sem6_1 : DmaSem sig := 75

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![20, 20], ![false, false]⟩

def k1_cond1 (i : grid1.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k1_cond2 (i : grid1.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k1_cond3 (i : grid1.Coords) : BitVec 1 :=
  let arg1 : BitVec 32 := BitVec.ofNat 32 (i 1).val
  let c19_i32 : BitVec 32 := 19#32
  let v11 : BitVec 1 := Scalar.cmpi .eq arg1 c19_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![20, 20], ![false, false]⟩

def k3_cond1 (i : grid3.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k3_cond2 (i : grid3.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k3_cond3 (i : grid3.Coords) : BitVec 1 :=
  let arg1 : BitVec 32 := BitVec.ofNat 32 (i 1).val
  let c19_i32 : BitVec 32 := 19#32
  let v11 : BitVec 1 := Scalar.cmpi .eq arg1 c19_i32
  let v12 : BitVec 32 := Scalar.extui v11
  let c0_i32_6 : BitVec 32 := 0#32
  let v13 : BitVec 1 := Scalar.cmpi .ne v12 c0_i32_6
  v13

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S8x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S512x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![20, 20], ![false, false]⟩

def k5_cond1 (i : grid5.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k5_cond2 (i : grid5.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k5_cond3 (i : grid5.Coords) : BitVec 1 :=
  let arg1 : BitVec 32 := BitVec.ofNat 32 (i 1).val
  let c19_i32 : BitVec 32 := 19#32
  let v11 : BitVec 1 := Scalar.cmpi .eq arg1 c19_i32
  let v12 : BitVec 32 := Scalar.extui v11
  let c0_i32_6 : BitVec 32 := 0#32
  let v13 : BitVec 1 := Scalar.cmpi .ne v12 c0_i32_6
  v13

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S512x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S8x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S512x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2048x8 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨2, ![20, 20], ![false, false]⟩

def k7_cond1 (i : grid7.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_10 : BitVec 32 := 0#32
  let v26 : BitVec 1 := Scalar.cmpi .ne v25 c0_i32_10
  v26

def k7_cond2 (i : grid7.Coords) : BitVec 1 :=
  let arg1 : BitVec 32 := BitVec.ofNat 32 (i 1).val
  let c0_i32_11 : BitVec 32 := 0#32
  let v27 : BitVec 1 := Scalar.cmpi .sgt arg1 c0_i32_11
  let v28 : BitVec 32 := Scalar.extui v27
  let c0_i32_12 : BitVec 32 := 0#32
  let v29 : BitVec 1 := Scalar.cmpi .ne v28 c0_i32_12
  v29

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S512x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S8x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x8 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![20, 20], ![false, false]⟩

def k8_cond1 (i : grid8.Coords) : BitVec 1 :=
  let arg1 : BitVec 32 := BitVec.ofNat 32 (i 1).val
  let c0_i32 : BitVec 32 := 0#32
  let v63 : BitVec 1 := Scalar.cmpi .eq arg1 c0_i32
  let v64 : BitVec 32 := Scalar.extui v63
  let c0_i32_25 : BitVec 32 := 0#32
  let v65 : BitVec 1 := Scalar.cmpi .ne v64 c0_i32_25
  v65

def k8_cond2 (i : grid8.Coords) : BitVec 1 :=
  let arg1 : BitVec 32 := BitVec.ofNat 32 (i 1).val
  let c0_i32_26 : BitVec 32 := 0#32
  let v66 : BitVec 1 := Scalar.cmpi .sgt arg1 c0_i32_26
  let v67 : BitVec 32 := Scalar.extui v66
  let c0_i32_27 : BitVec 32 := 0#32
  let v68 : BitVec 1 := Scalar.cmpi .ne v67 c0_i32_27
  v68

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S512x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S8x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x8 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S512x8 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev stage8_4 : Fin 2 → Memref sig .tc .vmem S512x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![false, true]

abbrev stage8_5 : Fin 2 → Memref sig .tc .vmem S512x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, false]

abbrev stage8_6 : Fin 2 → Memref sig .tc .vmem S512x8 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, false]
-- ==== ReferenceIdeal.lean ====
abbrev S10000x128 : Shape := ⟨2, ![10000, 128]⟩
abbrev S320000x5 : Shape := ⟨2, ![320000, 5]⟩
abbrev S2x320000 : Shape := ⟨2, ![2, 320000]⟩
abbrev S128x64 : Shape := ⟨2, ![128, 64]⟩
abbrev S64 : Shape := ⟨1, ![64]⟩
abbrev S5x64 : Shape := ⟨2, ![5, 64]⟩
abbrev S64x64 : Shape := ⟨2, ![64, 64]⟩
abbrev S64x128 : Shape := ⟨2, ![64, 128]⟩
abbrev S2x64 : Shape := ⟨2, ![2, 64]⟩
abbrev S1x320000 : Shape := ⟨2, ![1, 320000]⟩
abbrev S320000 : Shape := ⟨1, ![320000]⟩
abbrev S10000x64 : Shape := ⟨2, ![10000, 64]⟩
abbrev S1x64 : Shape := ⟨2, ![1, 64]⟩
abbrev S320000x64 : Shape := ⟨2, ![320000, 64]⟩
abbrev S_ : Shape := ⟨0, ![]⟩
abbrev S320000x1 : Shape := ⟨2, ![320000, 1]⟩
abbrev S320000x128 : Shape := ⟨2, ![320000, 128]⟩
abbrev S10000x2x64 : Shape := ⟨3, ![10000, 2, 64]⟩
abbrev S1x2x64 : Shape := ⟨3, ![1, 2, 64]⟩
abbrev S10000x2 : Shape := ⟨2, ![10000, 2]⟩
abbrev S320000x2 : Shape := ⟨2, ![320000, 2]⟩
abbrev S10000 : Shape := ⟨1, ![10000]⟩
abbrev S10000x1 : Shape := ⟨2, ![10000, 1]⟩
abbrev S10000x320000 : Shape := ⟨2, ![10000, 320000]⟩
abbrev S10000x320000x1 : Shape := ⟨3, ![10000, 320000, 1]⟩
abbrev S1x320000x2 : Shape := ⟨3, ![1, 320000, 2]⟩
abbrev S10000x320000x2 : Shape := ⟨3, ![10000, 320000, 2]⟩
abbrev S320000x2x64 : Shape := ⟨3, ![320000, 2, 64]⟩
abbrev S320000x2x1 : Shape := ⟨3, ![320000, 2, 1]⟩
abbrev S640000 : Shape := ⟨1, ![640000]⟩

abbrev nBuf : Space → Nat
  | .hbm => 232
  | .vmem => 0
  | .smem => 0
  | _ => 0

abbrev hbmTy0_0 (i : Nat) : BufTy := match i % 128 with
  | 0 => ⟨S10000x128, .f32⟩
  | 1 => ⟨S320000x5, .f32⟩
  | 2 => ⟨S2x320000, .i32⟩
  | 3 => ⟨S128x64, .f32⟩
  | 4 => ⟨S64, .f32⟩
  | 5 => ⟨S5x64, .f32⟩
  | 6 => ⟨S64, .f32⟩
  | 7 => ⟨S128x64, .f32⟩
  | 8 => ⟨S64, .f32⟩
  | 9 => ⟨S64x64, .f32⟩
  | 10 => ⟨S64, .f32⟩
  | 11 => ⟨S5x64, .f32⟩
  | 12 => ⟨S64, .f32⟩
  | 13 => ⟨S128x64, .f32⟩
  | 14 => ⟨S64, .f32⟩
  | 15 => ⟨S64x64, .f32⟩
  | 16 => ⟨S64, .f32⟩
  | 17 => ⟨S5x64, .f32⟩
  | 18 => ⟨S64, .f32⟩
  | 19 => ⟨S128x64, .f32⟩
  | 20 => ⟨S64, .f32⟩
  | 21 => ⟨S64x128, .f32⟩
  | 22 => ⟨S2x64, .f32⟩
  | 23 => ⟨S2x64, .f32⟩
  | 24 => ⟨S64, .f32⟩
  | 25 => ⟨S1x320000, .i32⟩
  | 26 => ⟨S320000, .i32⟩
  | 27 => ⟨S1x320000, .i32⟩
  | 28 => ⟨S320000, .i32⟩
  | 29 => ⟨S10000x64, .f32⟩
  | 30 => ⟨S1x64, .f32⟩
  | 31 => ⟨S10000x64, .f32⟩
  | 32 => ⟨S10000x64, .f32⟩
  | 33 => ⟨S320000x64, .f32⟩
  | 34 => ⟨S1x64, .f32⟩
  | 35 => ⟨S320000x64, .f32⟩
  | 36 => ⟨S320000x64, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000x64, .f32⟩
  | 46 => ⟨S320000x128, .f32⟩
  | 47 => ⟨S320000x64, .f32⟩
  | 48 => ⟨S1x64, .f32⟩
  | 49 => ⟨S320000x64, .f32⟩
  | 50 => ⟨S320000x64, .f32⟩
  | 51 => ⟨S_, .f32⟩
  | 52 => ⟨S10000x64, .f32⟩
  | 53 => ⟨S320000x1, .i32⟩
  | 54 => ⟨S10000x64, .f32⟩
  | 55 => ⟨S_, .f32⟩
  | 56 => ⟨S10000x64, .f32⟩
  | 57 => ⟨S10000x64, .f32⟩
  | 58 => ⟨S10000x64, .f32⟩
  | 59 => ⟨S1x64, .f32⟩
  | 60 => ⟨S10000x64, .f32⟩
  | 61 => ⟨S10000x64, .f32⟩
  | 62 => ⟨S320000x64, .f32⟩
  | 63 => ⟨S1x64, .f32⟩
  | 64 => ⟨S320000x64, .f32⟩
  | 65 => ⟨S320000x64, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000x64, .f32⟩
  | 75 => ⟨S320000x128, .f32⟩
  | 76 => ⟨S320000x64, .f32⟩
  | 77 => ⟨S1x64, .f32⟩
  | 78 => ⟨S320000x64, .f32⟩
  | 79 => ⟨S320000x64, .f32⟩
  | 80 => ⟨S_, .f32⟩
  | 81 => ⟨S10000x64, .f32⟩
  | 82 => ⟨S320000x1, .i32⟩
  | 83 => ⟨S10000x64, .f32⟩
  | 84 => ⟨S_, .f32⟩
  | 85 => ⟨S10000x64, .f32⟩
  | 86 => ⟨S10000x64, .f32⟩
  | 87 => ⟨S10000x64, .f32⟩
  | 88 => ⟨S1x64, .f32⟩
  | 89 => ⟨S10000x64, .f32⟩
  | 90 => ⟨S10000x64, .f32⟩
  | 91 => ⟨S320000x64, .f32⟩
  | 92 => ⟨S1x64, .f32⟩
  | 93 => ⟨S320000x64, .f32⟩
  | 94 => ⟨S320000x64, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S320000x64, .f32⟩
  | 104 => ⟨S320000x128, .f32⟩
  | 105 => ⟨S320000x64, .f32⟩
  | 106 => ⟨S1x64, .f32⟩
  | 107 => ⟨S320000x64, .f32⟩
  | 108 => ⟨S320000x64, .f32⟩
  | 109 => ⟨S_, .f32⟩
  | 110 => ⟨S10000x64, .f32⟩
  | 111 => ⟨S320000x1, .i32⟩
  | 112 => ⟨S10000x64, .f32⟩
  | 113 => ⟨S_, .f32⟩
  | 114 => ⟨S10000x64, .f32⟩
  | 115 => ⟨S10000x64, .f32⟩
  | 116 => ⟨S10000x128, .f32⟩
  | 117 => ⟨S10000x2x64, .f32⟩
  | 118 => ⟨S1x2x64, .f32⟩
  | 119 => ⟨S10000x2x64, .f32⟩
  | 120 => ⟨S10000x2x64, .f32⟩
  | 121 => ⟨S_, .f32⟩
  | 122 => ⟨S10000x2, .f32⟩
  | 123 => ⟨S1x2x64, .f32⟩
  | 124 => ⟨S10000x2x64, .f32⟩
  | 125 => ⟨S10000x2x64, .f32⟩
  | 126 => ⟨S_, .f32⟩
  | 127 => ⟨S10000x2, .f32⟩
  | _ => ⟨S10000x128, .f32⟩

abbrev hbmTy0_1 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S320000x2, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x2, .f32⟩
  | 18 => ⟨S320000x2, .f32⟩
  | 19 => ⟨S_, .f32⟩
  | 20 => ⟨S_, .f32⟩
  | 21 => ⟨S320000x2, .f32⟩
  | 22 => ⟨S320000x2, .i1⟩
  | 23 => ⟨S_, .f32⟩
  | 24 => ⟨S320000x2, .f32⟩
  | 25 => ⟨S320000x2, .f32⟩
  | 26 => ⟨S320000x2, .f32⟩
  | 27 => ⟨S1x320000, .i32⟩
  | 28 => ⟨S10000, .i32⟩
  | 29 => ⟨S10000x1, .i32⟩
  | 30 => ⟨S10000x320000, .i32⟩
  | 31 => ⟨S10000x320000, .i32⟩
  | 32 => ⟨S10000x320000, .i1⟩
  | 33 => ⟨S10000x320000x1, .i1⟩
  | 34 => ⟨S1x320000x2, .f32⟩
  | 35 => ⟨S_, .f32⟩
  | 36 => ⟨S_, .f32⟩
  | 37 => ⟨S10000x320000x2, .i1⟩
  | 38 => ⟨S10000x320000x2, .f32⟩
  | 39 => ⟨S10000x320000x2, .f32⟩
  | 40 => ⟨S10000x320000x2, .f32⟩
  | 41 => ⟨S_, .f32⟩
  | 42 => ⟨S10000x2, .f32⟩
  | 43 => ⟨S10000x2, .f32⟩
  | 44 => ⟨S_, .f32⟩
  | 45 => ⟨S10000x2, .f32⟩
  | 46 => ⟨S10000x2, .i1⟩
  | 47 => ⟨S_, .f32⟩
  | 48 => ⟨S_, .f32⟩
  | 49 => ⟨S10000x2, .f32⟩
  | 50 => ⟨S10000x2, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x2, .f32⟩
  | 60 => ⟨S320000x2, .f32⟩
  | 61 => ⟨S320000x2, .f32⟩
  | 62 => ⟨S_, .f32⟩
  | 63 => ⟨S10000x2, .f32⟩
  | 64 => ⟨S320000x1, .i32⟩
  | 65 => ⟨S10000x2, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000x2, .f32⟩
  | 75 => ⟨S_, .f32⟩
  | 76 => ⟨S320000x2, .f32⟩
  | 77 => ⟨S320000x2, .f32⟩
  | 78 => ⟨S320000x2, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000x2x64, .f32⟩
  | 88 => ⟨S320000x2x1, .f32⟩
  | 89 => ⟨S320000x2x64, .f32⟩
  | 90 => ⟨S320000x2x64, .f32⟩
  | 91 => ⟨S_, .f32⟩
  | 92 => ⟨S10000x2x64, .f32⟩
  | 93 => ⟨S320000x1, .i32⟩
  | 94 => ⟨S10000x2x64, .f32⟩
  | 95 => ⟨S_, .f32⟩
  | 96 => ⟨S10000x64, .f32⟩
  | 97 => ⟨S_, .f32⟩
  | 98 => ⟨S10000x64, .f32⟩
  | 99 => ⟨S10000x64, .f32⟩
  | 100 => ⟨S1x64, .f32⟩
  | 101 => ⟨S10000x64, .f32⟩
  | 102 => ⟨S10000x64, .f32⟩
  | 103 => ⟨S640000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call0_cst : Ref sig .tc := ⟨.hbm, 55, rfl⟩
abbrev main_call0_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_1 : Ref sig .tc := ⟨.hbm, 66, rfl⟩
abbrev main_v36 : Ref sig .tc := ⟨.hbm, 67, rfl⟩
abbrev main_v37 : Ref sig .tc := ⟨.hbm, 68, rfl⟩
abbrev main_c_2 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_3 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call1_cst : Ref sig .tc := ⟨.hbm, 84, rfl⟩
abbrev main_call1_v0 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_4 : Ref sig .tc := ⟨.hbm, 95, rfl⟩
abbrev main_v60 : Ref sig .tc := ⟨.hbm, 96, rfl⟩
abbrev main_v61 : Ref sig .tc := ⟨.hbm, 97, rfl⟩
abbrev main_c_5 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_6 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call2_cst : Ref sig .tc := ⟨.hbm, 113, rfl⟩
abbrev main_call2_v0 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_7 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_8 : Ref sig .tc := ⟨.hbm, 126, rfl⟩
abbrev main_v85 : Ref sig .tc := ⟨.hbm, 127, rfl⟩
abbrev main_c_9 : Ref sig .tc := ⟨.hbm, 128, rfl⟩
abbrev main_v86 : Ref sig .tc := ⟨.hbm, 129, rfl⟩
abbrev main_v87 : Ref sig .tc := ⟨.hbm, 130, rfl⟩
abbrev main_c_10 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_11 : Ref sig .tc := ⟨.hbm, 137, rfl⟩
abbrev main_v93 : Ref sig .tc := ⟨.hbm, 138, rfl⟩
abbrev main_v94 : Ref sig .tc := ⟨.hbm, 139, rfl⟩
abbrev main_c_12 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_13 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_14 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_v110 : Ref sig .tc := ⟨.hbm, 168, rfl⟩
abbrev main_cst_15 : Ref sig .tc := ⟨.hbm, 169, rfl⟩
abbrev main_v111 : Ref sig .tc := ⟨.hbm, 170, rfl⟩
abbrev main_v112 : Ref sig .tc := ⟨.hbm, 171, rfl⟩
abbrev main_cst_16 : Ref sig .tc := ⟨.hbm, 172, rfl⟩
abbrev main_v113 : Ref sig .tc := ⟨.hbm, 173, rfl⟩
abbrev main_v114 : Ref sig .tc := ⟨.hbm, 174, rfl⟩
abbrev main_cst_17 : Ref sig .tc := ⟨.hbm, 175, rfl⟩
abbrev main_call5_v0 : Ref sig .tc := ⟨.hbm, 176, rfl⟩
abbrev main_call5_v1 : Ref sig .tc := ⟨.hbm, 177, rfl⟩
abbrev main_v115 : Ref sig .tc := ⟨.hbm, 178, rfl⟩
abbrev main_c_18 : Ref sig .tc := ⟨.hbm, 179, rfl⟩
abbrev main_v116 : Ref sig .tc := ⟨.hbm, 180, rfl⟩
abbrev main_v117 : Ref sig .tc := ⟨.hbm, 181, rfl⟩
abbrev main_c_19 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_20 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_c_21 : Ref sig .tc := ⟨.hbm, 194, rfl⟩
abbrev main_v128 : Ref sig .tc := ⟨.hbm, 195, rfl⟩
abbrev main_v129 : Ref sig .tc := ⟨.hbm, 196, rfl⟩
abbrev main_c_22 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_23 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_c_24 : Ref sig .tc := ⟨.hbm, 207, rfl⟩
abbrev main_v138 : Ref sig .tc := ⟨.hbm, 208, rfl⟩
abbrev main_v139 : Ref sig .tc := ⟨.hbm, 209, rfl⟩
abbrev main_c_25 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_26 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_cst_27 : Ref sig .tc := ⟨.hbm, 223, rfl⟩
abbrev main_v151 : Ref sig .tc := ⟨.hbm, 224, rfl⟩
abbrev main_cst_28 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩

abbrev nD : Nat := 1
abbrev τ : Topo := Topo.v7x

variable {F : FTy → Type} [FloatOps F]
-- ==== Proof.RegLin.lean ====
/-
The linear regions 0, 2, 4 and the region 6 computing projections and attention logits: body triples and proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: `cc0__lin_kernel` -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What case A of the body leaves in window 3's buffer. -/
def out0_A_3 (x0 : Vec F S2048x128 .f32) (x1 : Vec F S128x64 .f32) (x2 : Vec F S1x64 .f32) : Vec F S2048x64 .f32 :=
  k0_pay1 x0 x1 x2

set_option maxHeartbeats 1000000 in
/-- The body in case A: whole staging memrefs at the inputs' contents, each output's left at its value. -/
theorem run0_A (c : Dev nD) (E : Set ℕ) (i : grid0.Coords) (arg1 : Memref sig .tc .vmem S2048x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S2048x64 .f32) (harg4 : arg4.IsWhole)
    (x0 : Vec F S2048x128 .f32) (x1 : Vec F S128x64 .f32) (x2 : Vec F S1x64 .f32) (d3 : Vec F S2048x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d3
        ∗ (iprop(owns (c : Thread nD τ) arg1 fullShare x0 ∗ owns (c : Thread nD τ) arg2 fullShare x1 ∗ owns (c : Thread nD τ) arg3 fullShare x2 ∗ owns (c : Thread nD τ) arg4 fullShare (out0_A_3 x0 x1 x2)) -∗ K ⟨⟩))
      ⊢ wp frame (wpE (defs₀ (F := F)) Variants.none c none) E (cc0__lin_kernel i arg1 harg1 arg2 harg2 arg3 harg3 arg4 harg4) K := by
  simp only [cc0__lin_kernel_eq_skeleton]; unfold cc0__lin_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro; refine (View.read_writes_full _ _ _ _ _).trans ?_; unfold out0_A_3; simp (disch := decide) only [View.readCov_full, View.readAt_writes_full, View.readCov_unit_lit', View.readCov_cons_unit_lit', View.readAt_eq_ld, View.ld_unit_lit', Memref.IsWhole.read_unread]

/-- The proof data of pipeline 0: the arrays as the region finds them, the buffers after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_A_3 (iblk0 V c 0 t) (iblk0 V c 1 t) (iblk0 V c 2 t)
  Φ _ := Pipeline.ΦA spec0 c
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_A_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1200000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  rw [after0_0, after0_1, after0_2, after0_3]
  iintro ⟨HΦ, Ho, ⟨%d0, H0⟩, ⟨%d1, H1⟩, ⟨%d2, H2⟩, ⟨%d3, H3⟩⟩
  iapply (run0_A c Set.univ (grid0.coords t) _ _ _ _ _ _ _ _ (iblk0 V c 0 t) (iblk0 V c 1 t) (iblk0 V c 2 t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]
/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region0
/-! # Region 2: `cc2__lin_kernel` -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What case A of the body leaves in window 3's buffer. -/
def out2_A_3 (x0 : Vec F S2048x64 .f32) (x1 : Vec F S64x64 .f32) (x2 : Vec F S1x64 .f32) : Vec F S2048x64 .f32 :=
  k2_pay1 x0 x1 x2

set_option maxHeartbeats 1000000 in
/-- The body in case A: whole staging memrefs at the inputs' contents, each output's left at its value. -/
theorem run2_A (c : Dev nD) (E : Set ℕ) (i : grid2.Coords) (arg1 : Memref sig .tc .vmem S2048x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S2048x64 .f32) (harg4 : arg4.IsWhole)
    (x0 : Vec F S2048x64 .f32) (x1 : Vec F S64x64 .f32) (x2 : Vec F S1x64 .f32) (d3 : Vec F S2048x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d3
        ∗ (iprop(owns (c : Thread nD τ) arg1 fullShare x0 ∗ owns (c : Thread nD τ) arg2 fullShare x1 ∗ owns (c : Thread nD τ) arg3 fullShare x2 ∗ owns (c : Thread nD τ) arg4 fullShare (out2_A_3 x0 x1 x2)) -∗ K ⟨⟩))
      ⊢ wp frame (wpE (defs₀ (F := F)) Variants.none c none) E (cc2__lin_kernel i arg1 harg1 arg2 harg2 arg3 harg3 arg4 harg4) K := by
  simp only [cc2__lin_kernel_eq_skeleton]; unfold cc2__lin_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro; refine (View.read_writes_full _ _ _ _ _).trans ?_; unfold out2_A_3; simp (disch := decide) only [View.readCov_full, View.readAt_writes_full, View.readCov_unit_lit', View.readCov_cons_unit_lit', View.readAt_eq_ld, View.ld_unit_lit', Memref.IsWhole.read_unread]

/-- The proof data of pipeline 2: the arrays as the region finds them, the buffers after each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_A_3 (iblk2 V c 0 t) (iblk2 V c 1 t) (iblk2 V c 2 t)
  Φ _ := Pipeline.ΦA spec2 c
  q _ := fullShare
  owed _ := 0
theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_A_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1200000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl]
  rw [after2_0, after2_1, after2_2, after2_3]
  iintro ⟨HΦ, Ho, ⟨%d0, H0⟩, ⟨%d1, H1⟩, ⟨%d2, H2⟩, ⟨%d3, H3⟩⟩
  iapply (run2_A c Set.univ (grid2.coords t) _ _ _ _ _ _ _ _ (iblk2 V c 0 t) (iblk2 V c 1 t) (iblk2 V c 2 t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row2 (t : Fin cfg2.N) :
    defs₀ (F := F) .tc cfg2.body (cfg2.bodyArgs t (cfg2.slots t)) = bodyAt2 t := by
  unfold defs₀; rw [Defs.onTc_tc]
/-- The body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Region2
/-! # Region 4: `cc4__lin_kernel` -/

section Region4
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- What case A of the body leaves in window 3's buffer. -/
def out4_A_3 (x0 : Vec F S2048x64 .f32) (x1 : Vec F S64x64 .f32) (x2 : Vec F S1x64 .f32) : Vec F S2048x64 .f32 :=
  k4_pay1 x0 x1 x2

set_option maxHeartbeats 1000000 in
/-- The body in case A: whole staging memrefs at the inputs' contents, each output's left at its value. -/
theorem run4_A (c : Dev nD) (E : Set ℕ) (i : grid4.Coords) (arg1 : Memref sig .tc .vmem S2048x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S2048x64 .f32) (harg4 : arg4.IsWhole)
    (x0 : Vec F S2048x64 .f32) (x1 : Vec F S64x64 .f32) (x2 : Vec F S1x64 .f32) (d3 : Vec F S2048x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d3
        ∗ (iprop(owns (c : Thread nD τ) arg1 fullShare x0 ∗ owns (c : Thread nD τ) arg2 fullShare x1 ∗ owns (c : Thread nD τ) arg3 fullShare x2 ∗ owns (c : Thread nD τ) arg4 fullShare (out4_A_3 x0 x1 x2)) -∗ K ⟨⟩))
      ⊢ wp frame (wpE (defs₀ (F := F)) Variants.none c none) E (cc4__lin_kernel i arg1 harg1 arg2 harg2 arg3 harg3 arg4 harg4) K := by
  simp only [cc4__lin_kernel_eq_skeleton]; unfold cc4__lin_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro; refine (View.read_writes_full _ _ _ _ _).trans ?_; unfold out4_A_3; simp (disch := decide) only [View.readCov_full, View.readAt_writes_full, View.readCov_unit_lit', View.readCov_cons_unit_lit', View.readAt_eq_ld, View.ld_unit_lit', Memref.IsWhole.read_unread]

/-- The proof data of pipeline 4: the arrays as the region finds them, the buffers after each point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_A_3 (iblk4 V c 0 t) (iblk4 V c 1 t) (iblk4 V c 2 t)
  Φ _ := Pipeline.ΦA spec4 c
  q _ := fullShare
  owed _ := 0
theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_A_3 (iblk4 V c 0 t) (iblk4 V c 1 t) (iblk4 V c 2 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 1200000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl]
  rw [after4_0, after4_1, after4_2, after4_3]
  iintro ⟨HΦ, Ho, ⟨%d0, H0⟩, ⟨%d1, H1⟩, ⟨%d2, H2⟩, ⟨%d3, H3⟩⟩
  iapply (run4_A c Set.univ (grid4.coords t) _ _ _ _ _ _ _ _ (iblk4 V c 0 t) (iblk4 V c 1 t) (iblk4 V c 2 t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row4 (t : Fin cfg4.N) :
    defs₀ (F := F) .tc cfg4.body (cfg4.bodyArgs t (cfg4.slots t)) = bodyAt4 t := by
  unfold defs₀; rw [Defs.onTc_tc]
/-- The body obligation, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Region4
/-! # Region 6: `cc6__hp_al_kernel` -/

section Region6
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- What case A of the body leaves in window 3's buffer. -/
def out6_A_3 (x0 : Vec F S2048x64 .f32) (x1 : Vec F S64x128 .f32) (x2 : Vec F S128x8 .f32) : Vec F S2048x128 .f32 :=
  k6_pay1 x0 x1

/-- What case A of the body leaves in window 4's buffer. -/
def out6_A_4 (x0 : Vec F S2048x64 .f32) (x1 : Vec F S64x128 .f32) (x2 : Vec F S128x8 .f32) : Vec F S2048x8 .f32 :=
  k6_pay2 x0 x1 x2

set_option maxHeartbeats 1000000 in
/-- The body in case A: whole staging memrefs at the inputs' contents, each output's left at its value. -/
theorem run6_A (c : Dev nD) (E : Set ℕ) (i : grid6.Coords) (arg1 : Memref sig .tc .vmem S2048x64 .f32) (harg1 : arg1.IsWhole) (arg2 : Memref sig .tc .vmem S64x128 .f32) (harg2 : arg2.IsWhole) (arg3 : Memref sig .tc .vmem S128x8 .f32) (harg3 : arg3.IsWhole) (arg4 : Memref sig .tc .vmem S2048x128 .f32) (harg4 : arg4.IsWhole) (arg5 : Memref sig .tc .vmem S2048x8 .f32) (harg5 : arg5.IsWhole)
    (x0 : Vec F S2048x64 .f32) (x1 : Vec F S64x128 .f32) (x2 : Vec F S128x8 .f32) (d3 : Vec F S2048x128 .f32) (d4 : Vec F S2048x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d3 ∗ owns (c : Thread nD τ) arg5 fullShare d4
        ∗ (iprop(owns (c : Thread nD τ) arg1 fullShare x0 ∗ owns (c : Thread nD τ) arg2 fullShare x1 ∗ owns (c : Thread nD τ) arg3 fullShare x2 ∗ owns (c : Thread nD τ) arg4 fullShare (out6_A_3 x0 x1 x2) ∗ owns (c : Thread nD τ) arg5 fullShare (out6_A_4 x0 x1 x2)) -∗ K ⟨⟩))
      ⊢ wp frame (wpE (defs₀ (F := F)) Variants.none c none) E (cc6__hp_al_kernel i arg1 harg1 arg2 harg2 arg3 harg3 arg4 harg4 arg5 harg5) K := by
  simp only [cc6__hp_al_kernel_eq_skeleton]; unfold cc6__hp_al_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; refine (View.read_writes_full _ _ _ _ _).trans ?_; unfold out6_A_3; simp (disch := decide) only [View.readCov_full, View.readAt_writes_full, View.readCov_unit_lit', View.readCov_cons_unit_lit', View.readAt_eq_ld, View.ld_unit_lit', Memref.IsWhole.read_unread]
  iexists _; isplitr
  swap; · iexact H4
  ipureintro; refine (View.read_writes_full _ _ _ _ _).trans ?_; unfold out6_A_4; simp (disch := decide) only [View.readCov_full, View.readAt_writes_full, View.readCov_unit_lit', View.readCov_cons_unit_lit', View.readAt_eq_ld, View.ld_unit_lit', Memref.IsWhole.read_unread]

/-- The proof data of pipeline 6: the arrays as the region finds them, the buffers after each point. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_A_3 (iblk6 V c 0 t) (iblk6 V c 1 t) (iblk6 V c 2 t)
    | ⟨4, _⟩ => out6_A_4 (iblk6 V c 0 t) (iblk6 V c 1 t) (iblk6 V c 2 t)
  Φ _ := Pipeline.ΦA spec6 c
  q _ := fullShare
  owed _ := 0
theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_A_3 (iblk6 V c 0 t) (iblk6 V c 1 t) (iblk6 V c 2 t) := by dsimp only [dat6]
theorem after6_4 (c : Dev nD) (t : Fin cfg6.N) : (dat6 V c).after 4 t = out6_A_4 (iblk6 V c 0 t) (iblk6 V c 1 t) (iblk6 V c 2 t) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

set_option maxHeartbeats 1200000 in
/-- The body at any point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl]
  rw [after6_0, after6_1, after6_2, after6_3, after6_4]
  iintro ⟨HΦ, Ho, ⟨%d0, H0⟩, ⟨%d1, H1⟩, ⟨%d2, H2⟩, ⟨%d3, H3⟩, ⟨%d4, H4⟩⟩
  iapply (run6_A c Set.univ (grid6.coords t) _ _ _ _ _ _ _ _ _ _ (iblk6 V c 0 t) (iblk6 V c 1 t) (iblk6 V c 2 t) _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row6 (t : Fin cfg6.N) :
    defs₀ (F := F) .tc cfg6.body (cfg6.bodyArgs t (cfg6.slots t)) = bodyAt6 t := by
  unfold defs₀; rw [Defs.onTc_tc]
/-- The body obligation, at every point. -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Region6

end Cert.KernelIdeal.Reg

end
-- ==== Proof.RegConv1.lean ====
/-
The first convolution region: body triples case by case, the buffer point by point, proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: `cc1__conv_kernel` -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What case A of the body leaves in window 5's buffer. -/
def out1_A_5 (x0 : Vec F S512x512 .f32) (x1 : Vec F S512x64 .f32) (x2 : Vec F S512x8 .f32) (x3 : Vec F S64x64 .f32) (x4 : Vec F S8x64 .f32) : Vec F S512x64 .f32 :=
  k1_pay1 x0 x1

/-- What case B of the body leaves in window 5's buffer. -/
def out1_B_5 (x0 : Vec F S512x512 .f32) (x1 : Vec F S512x64 .f32) (x2 : Vec F S512x8 .f32) (x3 : Vec F S64x64 .f32) (x4 : Vec F S8x64 .f32) (d5 : Vec F S512x64 .f32) : Vec F S512x64 .f32 :=
  k1_pay2 x0 x1 d5

/-- What case C of the body leaves in window 5's buffer. -/
def out1_C_5 (x0 : Vec F S512x512 .f32) (x1 : Vec F S512x64 .f32) (x2 : Vec F S512x8 .f32) (x3 : Vec F S64x64 .f32) (x4 : Vec F S8x64 .f32) (d5 : Vec F S512x64 .f32) : Vec F S512x64 .f32 :=
  k1_pay3 (k1_pay2 x0 x1 d5) x3 x2 x4

abbrev cond1_0 (i : grid1.Coords) : Prop := k1_cond1 i = 1#1
theorem hcond1_0 : ∀ t : Fin cfg1.N, cond1_0 (grid1.coords t) ↔ t.val % 20 = 0 :=
  (by decide +kernel : ∀ t : Fin grid1.N, cond1_0 (grid1.coords t) ↔ t.val % 20 = 0)

abbrev cond1_1 (i : grid1.Coords) : Prop := k1_cond2 i = 1#1
theorem hcond1_1 : ∀ t : Fin cfg1.N, cond1_1 (grid1.coords t) ↔ 1 ≤ t.val % 20 :=
  (by decide +kernel : ∀ t : Fin grid1.N, cond1_1 (grid1.coords t) ↔ 1 ≤ t.val % 20)

abbrev cond1_2 (i : grid1.Coords) : Prop := k1_cond3 i = 1#1
theorem hcond1_2 : ∀ t : Fin cfg1.N, cond1_2 (grid1.coords t) ↔ t.val % 20 = 19 :=
  (by decide +kernel : ∀ t : Fin grid1.N, cond1_2 (grid1.coords t) ↔ t.val % 20 = 19)
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := by decide +kernel
/-- The positions at which output 5's buffer holds nothing the body stored since its last write-back. -/
def freshTab1_5 : ℕ → Bool
  | 0 => true
  | n + 1 => (0x8000080000800008000080000800008000080000800008000080000800008000080000800008000080000800008000080000 : ℕ).testBit n
theorem freshTab1_5_step : ∀ t : Fin cfg1.N,
    freshTab1_5 (t.val + 1) = ((cfg1.win 5).flush t || (cfg1.idle 5 (cfg1.grid.coords t) && freshTab1_5 t.val)) := by decide +kernel
theorem notFresh1_5 : ∀ t : Fin cfg1.N, ¬t.val % 20 = 0 → cfg1.fresh 5 t.val = false := by
  intro t; rw [Pipeline.Cfg.fresh_tab cfg1 5 freshTab1_5 rfl freshTab1_5_step t.val (Nat.le_of_lt t.isLt)]; revert t; decide +kernel

set_option maxHeartbeats 1000000 in
/-- The body in case A: whole staging memrefs at the inputs' contents, each output's left at its value. -/
theorem run1_A (c : Dev nD) (E : Set ℕ) (i : grid1.Coords) (arg2 : Memref sig .tc .vmem S512x512 .f32) (harg2 : arg2.IsWhole) (arg3 : Memref sig .tc .vmem S512x64 .f32) (harg3 : arg3.IsWhole) (arg4 : Memref sig .tc .vmem S512x8 .f32) (harg4 : arg4.IsWhole) (arg5 : Memref sig .tc .vmem S64x64 .f32) (harg5 : arg5.IsWhole) (arg6 : Memref sig .tc .vmem S8x64 .f32) (harg6 : arg6.IsWhole) (arg7 : Memref sig .tc .vmem S512x64 .f32) (harg7 : arg7.IsWhole) (hc0 : cond1_0 i) (hc1 : ¬cond1_1 i) (hc2 : ¬cond1_2 i)
    (x0 : Vec F S512x512 .f32) (x1 : Vec F S512x64 .f32) (x2 : Vec F S512x8 .f32) (x3 : Vec F S64x64 .f32) (x4 : Vec F S8x64 .f32) (d5 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_A_5 x0 x1 x2 x3 x4)) -∗ K ⟨⟩))
      ⊢ wp frame (wpE (defs₀ (F := F)) Variants.none c none) E (cc1__conv_kernel i arg2 harg2 arg3 harg3 arg4 harg4 arg5 harg5 arg6 harg6 arg7 harg7) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro; refine (View.read_writes_full _ _ _ _ _).trans ?_; unfold out1_A_5; simp (disch := decide) only [View.readCov_full, View.readAt_writes_full, View.readCov_unit_lit', View.readCov_cons_unit_lit', View.readAt_eq_ld, View.ld_unit_lit', Memref.IsWhole.read_unread]

set_option maxHeartbeats 1000000 in
/-- The body in case B: whole staging memrefs at the inputs' contents, each output's left at its value. -/
theorem run1_B (c : Dev nD) (E : Set ℕ) (i : grid1.Coords) (arg2 : Memref sig .tc .vmem S512x512 .f32) (harg2 : arg2.IsWhole) (arg3 : Memref sig .tc .vmem S512x64 .f32) (harg3 : arg3.IsWhole) (arg4 : Memref sig .tc .vmem S512x8 .f32) (harg4 : arg4.IsWhole) (arg5 : Memref sig .tc .vmem S64x64 .f32) (harg5 : arg5.IsWhole) (arg6 : Memref sig .tc .vmem S8x64 .f32) (harg6 : arg6.IsWhole) (arg7 : Memref sig .tc .vmem S512x64 .f32) (harg7 : arg7.IsWhole) (hc0 : ¬cond1_0 i) (hc1 : cond1_1 i) (hc2 : ¬cond1_2 i)
    (x0 : Vec F S512x512 .f32) (x1 : Vec F S512x64 .f32) (x2 : Vec F S512x8 .f32) (x3 : Vec F S64x64 .f32) (x4 : Vec F S8x64 .f32) (d5 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_B_5 x0 x1 x2 x3 x4 d5)) -∗ K ⟨⟩))
      ⊢ wp frame (wpE (defs₀ (F := F)) Variants.none c none) E (cc1__conv_kernel i arg2 harg2 arg3 harg3 arg4 harg4 arg5 harg5 arg6 harg6 arg7 harg7) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro; refine (View.read_writes_full _ _ _ _ _).trans ?_; unfold out1_B_5; simp (disch := decide) only [View.readCov_full, View.readAt_writes_full, View.readCov_unit_lit', View.readCov_cons_unit_lit', View.readAt_eq_ld, View.ld_unit_lit', Memref.IsWhole.read_unread]

set_option maxHeartbeats 1000000 in
/-- The body in case C: whole staging memrefs at the inputs' contents, each output's left at its value. -/
theorem run1_C (c : Dev nD) (E : Set ℕ) (i : grid1.Coords) (arg2 : Memref sig .tc .vmem S512x512 .f32) (harg2 : arg2.IsWhole) (arg3 : Memref sig .tc .vmem S512x64 .f32) (harg3 : arg3.IsWhole) (arg4 : Memref sig .tc .vmem S512x8 .f32) (harg4 : arg4.IsWhole) (arg5 : Memref sig .tc .vmem S64x64 .f32) (harg5 : arg5.IsWhole) (arg6 : Memref sig .tc .vmem S8x64 .f32) (harg6 : arg6.IsWhole) (arg7 : Memref sig .tc .vmem S512x64 .f32) (harg7 : arg7.IsWhole) (hc0 : ¬cond1_0 i) (hc1 : cond1_1 i) (hc2 : cond1_2 i)
    (x0 : Vec F S512x512 .f32) (x1 : Vec F S512x64 .f32) (x2 : Vec F S512x8 .f32) (x3 : Vec F S64x64 .f32) (x4 : Vec F S8x64 .f32) (d5 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_C_5 x0 x1 x2 x3 x4 d5)) -∗ K ⟨⟩))
      ⊢ wp frame (wpE (defs₀ (F := F)) Variants.none c none) E (cc1__conv_kernel i arg2 harg2 arg3 harg3 arg4 harg4 arg5 harg5 arg6 harg6 arg7 harg7) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro; refine (View.read_writes_full _ _ _ _ _).trans ?_; unfold out1_C_5; delta run1_C.sl.v14; delta run1_C.sl.H5_1; simp (disch := decide) only [View.readCov_full, View.readAt_writes_full, View.readCov_unit_lit', View.readCov_cons_unit_lit', View.readAt_eq_ld, View.ld_unit_lit', Memref.IsWhole.read_unread]

/-- Output window 5's buffer after point `n`. -/
def outs1_5 (c : Dev nD) : (n : ℕ) → n < cfg1.N → Vec F S512x64 .f32
  | 0, hn => out1_A_5 (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if (n + 1) % 20 = 0 then out1_A_5 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) else if (n + 1) % 20 = 19 then out1_C_5 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outs1_5 c n (Nat.lt_of_succ_lt hn)) else out1_B_5 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outs1_5 c n (Nat.lt_of_succ_lt hn))
theorem outs1_5_A (c : Dev nD) (t : Fin cfg1.N) (h : t.val % 20 = 0) :
    outs1_5 V c t.val t.isLt = out1_A_5 (iblk1 V c 0 t) (iblk1 V c 1 t) (iblk1 V c 2 t) (iblk1 V c 3 t) (iblk1 V c 4 t) := by
  obtain ⟨n, hn⟩ := t
  cases n with
  | zero => exact rfl
  | succ n => exact if_pos h
theorem outs1_5_B (c : Dev nD) (t : Fin cfg1.N) (h : ¬t.val % 20 = 0) (h19 : ¬t.val % 20 = 19) :
    outs1_5 V c t.val t.isLt = out1_B_5 (iblk1 V c 0 t) (iblk1 V c 1 t) (iblk1 V c 2 t) (iblk1 V c 3 t) (iblk1 V c 4 t) (outs1_5 V c (t.val - 1) (Nat.lt_of_le_of_lt (Nat.sub_le _ _) t.isLt)) := by
  obtain ⟨n, hn⟩ := t
  cases n with
  | zero => exact absurd (Nat.zero_mod _) h
  | succ n => exact (if_neg h).trans (if_neg h19)
theorem outs1_5_C (c : Dev nD) (t : Fin cfg1.N) (h : ¬t.val % 20 = 0) (h19 : t.val % 20 = 19) :
    outs1_5 V c t.val t.isLt = out1_C_5 (iblk1 V c 0 t) (iblk1 V c 1 t) (iblk1 V c 2 t) (iblk1 V c 3 t) (iblk1 V c 4 t) (outs1_5 V c (t.val - 1) (Nat.lt_of_le_of_lt (Nat.sub_le _ _) t.isLt)) := by
  obtain ⟨n, hn⟩ := t
  cases n with
  | zero => exact absurd (Nat.zero_mod _) h
  | succ n => exact (if_neg h).trans (if_pos h19)

/-- The proof data of pipeline 1: the arrays as the region finds them, the buffers after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outs1_5 V c t.val t.isLt
  Φ _ := Pipeline.ΦA spec1 c
  q _ := fullShare
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outs1_5 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (h : ¬t.val % 20 = 0) (d) :
    (dat1 V c).before 5 t d = outs1_5 V c (t.val - 1) (Nat.lt_of_le_of_lt (Nat.sub_le _ _) t.isLt) := by
  rw [Dat.before_out_traj _ 5 rfl (fun _ _ => rfl) (fun t _ hi _ => absurd ((live1_5 t).symm.trans hi) Bool.false_ne_true) t.val t rfl d,
    if_neg (by rw [notFresh1_5 t h]; exact Bool.false_ne_true)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 1200000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  rw [show (dat1 V c).leavesExact 4 t = owns (c : Thread nD τ) (st1_4 t) fullShare ((dat1 V c).after 4 t) from by
    unfold Dat.leavesExact; rw [live1_4 t], after1_4]
  rw [show (dat1 V c).leavesExact 5 t = owns (c : Thread nD τ) (st1_5 t) fullShare ((dat1 V c).after 5 t) from by
    unfold Dat.leavesExact; rw [live1_5 t], after1_5]
  by_cases h0 : t.val % 20 = 0
  · rw [outs1_5_A V c t h0]
    have hc0 := (hcond1_0 t).mpr (by omega)
    have hc1 := fun h => (show ¬_ from by omega) ((hcond1_1 t).mp h)
    have hc2 := fun h => (show ¬_ from by omega) ((hcond1_2 t).mp h)
    iintro ⟨HΦ, Ho, ⟨%d0, H0⟩, ⟨%d1, H1⟩, ⟨%d2, H2⟩, ⟨%d3, H3⟩, ⟨%d4, H4⟩, ⟨%d5, H5⟩⟩
    iapply (run1_A c Set.univ (grid1.coords t) _ _ _ _ _ _ _ _ _ _ _ _ (hc0) (hc1) (hc2) (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · by_cases h19 : t.val % 20 = 19
    · rw [outs1_5_C V c t h0 h19]
      simp only [before1_5 V c t h0]
      have hc0 := fun h => (show ¬_ from by omega) ((hcond1_0 t).mp h)
      have hc1 := (hcond1_1 t).mpr (by omega)
      have hc2 := (hcond1_2 t).mpr (by omega)
      iintro ⟨HΦ, Ho, ⟨%d0, H0⟩, ⟨%d1, H1⟩, ⟨%d2, H2⟩, ⟨%d3, H3⟩, ⟨%d4, H4⟩, ⟨%d5, H5⟩⟩
      iapply (run1_C c Set.univ (grid1.coords t) _ _ _ _ _ _ _ _ _ _ _ _ (hc0) (hc1) (hc2) (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [outs1_5_B V c t h0 h19]
      simp only [before1_5 V c t h0]
      have hc0 := fun h => (show ¬_ from by omega) ((hcond1_0 t).mp h)
      have hc1 := (hcond1_1 t).mpr (by omega)
      have hc2 := fun h => (show ¬_ from by omega) ((hcond1_2 t).mp h)
      iintro ⟨HΦ, Ho, ⟨%d0, H0⟩, ⟨%d1, H1⟩, ⟨%d2, H2⟩, ⟨%d3, H3⟩, ⟨%d4, H4⟩, ⟨%d5, H5⟩⟩
      iapply (run1_B c Set.univ (grid1.coords t) _ _ _ _ _ _ _ _ _ _ _ _ (hc0) (hc1) (hc2) (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

theorem defs₀_row1 (t : Fin cfg1.N) :
    defs₀ (F := F) .tc cfg1.body (cfg1.bodyArgs t (cfg1.slots t)) = bodyAt1 t := by
  unfold defs₀; rw [Defs.onTc_tc]
/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region1

end Cert.KernelIdeal.Reg

end
-- ==== Proof.RegConv3.lean ====
/-
The second convolution region: body triples case by case, the buffer point by point, proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: `cc3__conv_kernel` -/

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- What case A of the body leaves in window 5's buffer. -/
def out3_A_5 (x0 : Vec F S512x512 .f32) (x1 : Vec F S512x64 .f32) (x2 : Vec F S512x8 .f32) (x3 : Vec F S64x64 .f32) (x4 : Vec F S8x64 .f32) : Vec F S512x64 .f32 :=
  k3_pay1 x0 x1

/-- What case B of the body leaves in window 5's buffer. -/
def out3_B_5 (x0 : Vec F S512x512 .f32) (x1 : Vec F S512x64 .f32) (x2 : Vec F S512x8 .f32) (x3 : Vec F S64x64 .f32) (x4 : Vec F S8x64 .f32) (d5 : Vec F S512x64 .f32) : Vec F S512x64 .f32 :=
  k3_pay2 x0 x1 d5

/-- What case C of the body leaves in window 5's buffer. -/
def out3_C_5 (x0 : Vec F S512x512 .f32) (x1 : Vec F S512x64 .f32) (x2 : Vec F S512x8 .f32) (x3 : Vec F S64x64 .f32) (x4 : Vec F S8x64 .f32) (d5 : Vec F S512x64 .f32) : Vec F S512x64 .f32 :=
  k3_pay3 (k3_pay2 x0 x1 d5) x3 x2 x4

abbrev cond3_0 (i : grid3.Coords) : Prop := k3_cond1 i = 1#1
theorem hcond3_0 : ∀ t : Fin cfg3.N, cond3_0 (grid3.coords t) ↔ t.val % 20 = 0 :=
  (by decide +kernel : ∀ t : Fin grid3.N, cond3_0 (grid3.coords t) ↔ t.val % 20 = 0)

abbrev cond3_1 (i : grid3.Coords) : Prop := k3_cond2 i = 1#1
theorem hcond3_1 : ∀ t : Fin cfg3.N, cond3_1 (grid3.coords t) ↔ 1 ≤ t.val % 20 :=
  (by decide +kernel : ∀ t : Fin grid3.N, cond3_1 (grid3.coords t) ↔ 1 ≤ t.val % 20)

abbrev cond3_2 (i : grid3.Coords) : Prop := k3_cond3 i = 1#1
theorem hcond3_2 : ∀ t : Fin cfg3.N, cond3_2 (grid3.coords t) ↔ t.val % 20 = 19 :=
  (by decide +kernel : ∀ t : Fin grid3.N, cond3_2 (grid3.coords t) ↔ t.val % 20 = 19)
theorem live3_0 : ∀ t : Fin cfg3.N, cfg3.idle 0 (grid3.coords t) = false := fun _ => rfl
theorem live3_1 : ∀ t : Fin cfg3.N, cfg3.idle 1 (grid3.coords t) = false := fun _ => rfl
theorem live3_2 : ∀ t : Fin cfg3.N, cfg3.idle 2 (grid3.coords t) = false := fun _ => rfl
theorem live3_3 : ∀ t : Fin cfg3.N, cfg3.idle 3 (grid3.coords t) = false := fun _ => rfl
theorem live3_4 : ∀ t : Fin cfg3.N, cfg3.idle 4 (grid3.coords t) = false := fun _ => rfl
theorem live3_5 : ∀ t : Fin cfg3.N, cfg3.idle 5 (grid3.coords t) = false := by decide +kernel
/-- The positions at which output 5's buffer holds nothing the body stored since its last write-back. -/
def freshTab3_5 : ℕ → Bool
  | 0 => true
  | n + 1 => (0x8000080000800008000080000800008000080000800008000080000800008000080000800008000080000800008000080000 : ℕ).testBit n
theorem freshTab3_5_step : ∀ t : Fin cfg3.N,
    freshTab3_5 (t.val + 1) = ((cfg3.win 5).flush t || (cfg3.idle 5 (cfg3.grid.coords t) && freshTab3_5 t.val)) := by decide +kernel
theorem notFresh3_5 : ∀ t : Fin cfg3.N, ¬t.val % 20 = 0 → cfg3.fresh 5 t.val = false := by
  intro t; rw [Pipeline.Cfg.fresh_tab cfg3 5 freshTab3_5 rfl freshTab3_5_step t.val (Nat.le_of_lt t.isLt)]; revert t; decide +kernel

set_option maxHeartbeats 1000000 in
/-- The body in case A: whole staging memrefs at the inputs' contents, each output's left at its value. -/
theorem run3_A (c : Dev nD) (E : Set ℕ) (i : grid3.Coords) (arg2 : Memref sig .tc .vmem S512x512 .f32) (harg2 : arg2.IsWhole) (arg3 : Memref sig .tc .vmem S512x64 .f32) (harg3 : arg3.IsWhole) (arg4 : Memref sig .tc .vmem S512x8 .f32) (harg4 : arg4.IsWhole) (arg5 : Memref sig .tc .vmem S64x64 .f32) (harg5 : arg5.IsWhole) (arg6 : Memref sig .tc .vmem S8x64 .f32) (harg6 : arg6.IsWhole) (arg7 : Memref sig .tc .vmem S512x64 .f32) (harg7 : arg7.IsWhole) (hc0 : cond3_0 i) (hc1 : ¬cond3_1 i) (hc2 : ¬cond3_2 i)
    (x0 : Vec F S512x512 .f32) (x1 : Vec F S512x64 .f32) (x2 : Vec F S512x8 .f32) (x3 : Vec F S64x64 .f32) (x4 : Vec F S8x64 .f32) (d5 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_A_5 x0 x1 x2 x3 x4)) -∗ K ⟨⟩))
      ⊢ wp frame (wpE (defs₀ (F := F)) Variants.none c none) E (cc3__conv_kernel i arg2 harg2 arg3 harg3 arg4 harg4 arg5 harg5 arg6 harg6 arg7 harg7) K := by
  simp only [cc3__conv_kernel_eq_skeleton]; unfold cc3__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro; refine (View.read_writes_full _ _ _ _ _).trans ?_; unfold out3_A_5; simp (disch := decide) only [View.readCov_full, View.readAt_writes_full, View.readCov_unit_lit', View.readCov_cons_unit_lit', View.readAt_eq_ld, View.ld_unit_lit', Memref.IsWhole.read_unread]

set_option maxHeartbeats 1000000 in
/-- The body in case B: whole staging memrefs at the inputs' contents, each output's left at its value. -/
theorem run3_B (c : Dev nD) (E : Set ℕ) (i : grid3.Coords) (arg2 : Memref sig .tc .vmem S512x512 .f32) (harg2 : arg2.IsWhole) (arg3 : Memref sig .tc .vmem S512x64 .f32) (harg3 : arg3.IsWhole) (arg4 : Memref sig .tc .vmem S512x8 .f32) (harg4 : arg4.IsWhole) (arg5 : Memref sig .tc .vmem S64x64 .f32) (harg5 : arg5.IsWhole) (arg6 : Memref sig .tc .vmem S8x64 .f32) (harg6 : arg6.IsWhole) (arg7 : Memref sig .tc .vmem S512x64 .f32) (harg7 : arg7.IsWhole) (hc0 : ¬cond3_0 i) (hc1 : cond3_1 i) (hc2 : ¬cond3_2 i)
    (x0 : Vec F S512x512 .f32) (x1 : Vec F S512x64 .f32) (x2 : Vec F S512x8 .f32) (x3 : Vec F S64x64 .f32) (x4 : Vec F S8x64 .f32) (d5 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_B_5 x0 x1 x2 x3 x4 d5)) -∗ K ⟨⟩))
      ⊢ wp frame (wpE (defs₀ (F := F)) Variants.none c none) E (cc3__conv_kernel i arg2 harg2 arg3 harg3 arg4 harg4 arg5 harg5 arg6 harg6 arg7 harg7) K := by
  simp only [cc3__conv_kernel_eq_skeleton]; unfold cc3__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro; refine (View.read_writes_full _ _ _ _ _).trans ?_; unfold out3_B_5; simp (disch := decide) only [View.readCov_full, View.readAt_writes_full, View.readCov_unit_lit', View.readCov_cons_unit_lit', View.readAt_eq_ld, View.ld_unit_lit', Memref.IsWhole.read_unread]

set_option maxHeartbeats 1000000 in
/-- The body in case C: whole staging memrefs at the inputs' contents, each output's left at its value. -/
theorem run3_C (c : Dev nD) (E : Set ℕ) (i : grid3.Coords) (arg2 : Memref sig .tc .vmem S512x512 .f32) (harg2 : arg2.IsWhole) (arg3 : Memref sig .tc .vmem S512x64 .f32) (harg3 : arg3.IsWhole) (arg4 : Memref sig .tc .vmem S512x8 .f32) (harg4 : arg4.IsWhole) (arg5 : Memref sig .tc .vmem S64x64 .f32) (harg5 : arg5.IsWhole) (arg6 : Memref sig .tc .vmem S8x64 .f32) (harg6 : arg6.IsWhole) (arg7 : Memref sig .tc .vmem S512x64 .f32) (harg7 : arg7.IsWhole) (hc0 : ¬cond3_0 i) (hc1 : cond3_1 i) (hc2 : cond3_2 i)
    (x0 : Vec F S512x512 .f32) (x1 : Vec F S512x64 .f32) (x2 : Vec F S512x8 .f32) (x3 : Vec F S64x64 .f32) (x4 : Vec F S8x64 .f32) (d5 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_C_5 x0 x1 x2 x3 x4 d5)) -∗ K ⟨⟩))
      ⊢ wp frame (wpE (defs₀ (F := F)) Variants.none c none) E (cc3__conv_kernel i arg2 harg2 arg3 harg3 arg4 harg4 arg5 harg5 arg6 harg6 arg7 harg7) K := by
  simp only [cc3__conv_kernel_eq_skeleton]; unfold cc3__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro; refine (View.read_writes_full _ _ _ _ _).trans ?_; unfold out3_C_5; delta run3_C.sl.v14; delta run3_C.sl.H5_1; simp (disch := decide) only [View.readCov_full, View.readAt_writes_full, View.readCov_unit_lit', View.readCov_cons_unit_lit', View.readAt_eq_ld, View.ld_unit_lit', Memref.IsWhole.read_unread]

/-- Output window 5's buffer after point `n`. -/
def outs3_5 (c : Dev nD) : (n : ℕ) → n < cfg3.N → Vec F S512x64 .f32
  | 0, hn => out3_A_5 (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn =>
    if (n + 1) % 20 = 0 then out3_A_5 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) else if (n + 1) % 20 = 19 then out3_C_5 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outs3_5 c n (Nat.lt_of_succ_lt hn)) else out3_B_5 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outs3_5 c n (Nat.lt_of_succ_lt hn))
theorem outs3_5_A (c : Dev nD) (t : Fin cfg3.N) (h : t.val % 20 = 0) :
    outs3_5 V c t.val t.isLt = out3_A_5 (iblk3 V c 0 t) (iblk3 V c 1 t) (iblk3 V c 2 t) (iblk3 V c 3 t) (iblk3 V c 4 t) := by
  obtain ⟨n, hn⟩ := t
  cases n with
  | zero => exact rfl
  | succ n => exact if_pos h
theorem outs3_5_B (c : Dev nD) (t : Fin cfg3.N) (h : ¬t.val % 20 = 0) (h19 : ¬t.val % 20 = 19) :
    outs3_5 V c t.val t.isLt = out3_B_5 (iblk3 V c 0 t) (iblk3 V c 1 t) (iblk3 V c 2 t) (iblk3 V c 3 t) (iblk3 V c 4 t) (outs3_5 V c (t.val - 1) (Nat.lt_of_le_of_lt (Nat.sub_le _ _) t.isLt)) := by
  obtain ⟨n, hn⟩ := t
  cases n with
  | zero => exact absurd (Nat.zero_mod _) h
  | succ n => exact (if_neg h).trans (if_neg h19)
theorem outs3_5_C (c : Dev nD) (t : Fin cfg3.N) (h : ¬t.val % 20 = 0) (h19 : t.val % 20 = 19) :
    outs3_5 V c t.val t.isLt = out3_C_5 (iblk3 V c 0 t) (iblk3 V c 1 t) (iblk3 V c 2 t) (iblk3 V c 3 t) (iblk3 V c 4 t) (outs3_5 V c (t.val - 1) (Nat.lt_of_le_of_lt (Nat.sub_le _ _) t.isLt)) := by
  obtain ⟨n, hn⟩ := t
  cases n with
  | zero => exact absurd (Nat.zero_mod _) h
  | succ n => exact (if_neg h).trans (if_pos h19)

/-- The proof data of pipeline 3: the arrays as the region finds them, the buffers after each point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outs3_5 V c t.val t.isLt
  Φ _ := Pipeline.ΦA spec3 c
  q _ := fullShare
  owed _ := 0
theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outs3_5 V c t.val t.isLt := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (h : ¬t.val % 20 = 0) (d) :
    (dat3 V c).before 5 t d = outs3_5 V c (t.val - 1) (Nat.lt_of_le_of_lt (Nat.sub_le _ _) t.isLt) := by
  rw [Dat.before_out_traj _ 5 rfl (fun _ _ => rfl) (fun t _ hi _ => absurd ((live3_5 t).symm.trans hi) Bool.false_ne_true) t.val t rfl d,
    if_neg (by rw [notFresh3_5 t h]; exact Bool.false_ne_true)]
  dsimp only [dat3]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 1200000 in
/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  rw [show (dat3 V c).leavesExact 2 t = owns (c : Thread nD τ) (st3_2 t) fullShare ((dat3 V c).after 2 t) from by
    unfold Dat.leavesExact; rw [live3_2 t], after3_2]
  rw [show (dat3 V c).leavesExact 3 t = owns (c : Thread nD τ) (st3_3 t) fullShare ((dat3 V c).after 3 t) from by
    unfold Dat.leavesExact; rw [live3_3 t], after3_3]
  rw [show (dat3 V c).leavesExact 4 t = owns (c : Thread nD τ) (st3_4 t) fullShare ((dat3 V c).after 4 t) from by
    unfold Dat.leavesExact; rw [live3_4 t], after3_4]
  rw [show (dat3 V c).leavesExact 5 t = owns (c : Thread nD τ) (st3_5 t) fullShare ((dat3 V c).after 5 t) from by
    unfold Dat.leavesExact; rw [live3_5 t], after3_5]
  by_cases h0 : t.val % 20 = 0
  · rw [outs3_5_A V c t h0]
    have hc0 := (hcond3_0 t).mpr (by omega)
    have hc1 := fun h => (show ¬_ from by omega) ((hcond3_1 t).mp h)
    have hc2 := fun h => (show ¬_ from by omega) ((hcond3_2 t).mp h)
    iintro ⟨HΦ, Ho, ⟨%d0, H0⟩, ⟨%d1, H1⟩, ⟨%d2, H2⟩, ⟨%d3, H3⟩, ⟨%d4, H4⟩, ⟨%d5, H5⟩⟩
    iapply (run3_A c Set.univ (grid3.coords t) _ _ _ _ _ _ _ _ _ _ _ _ (hc0) (hc1) (hc2) (iblk3 V c 0 t) (iblk3 V c 1 t) (iblk3 V c 2 t) (iblk3 V c 3 t) (iblk3 V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · by_cases h19 : t.val % 20 = 19
    · rw [outs3_5_C V c t h0 h19]
      simp only [before3_5 V c t h0]
      have hc0 := fun h => (show ¬_ from by omega) ((hcond3_0 t).mp h)
      have hc1 := (hcond3_1 t).mpr (by omega)
      have hc2 := (hcond3_2 t).mpr (by omega)
      iintro ⟨HΦ, Ho, ⟨%d0, H0⟩, ⟨%d1, H1⟩, ⟨%d2, H2⟩, ⟨%d3, H3⟩, ⟨%d4, H4⟩, ⟨%d5, H5⟩⟩
      iapply (run3_C c Set.univ (grid3.coords t) _ _ _ _ _ _ _ _ _ _ _ _ (hc0) (hc1) (hc2) (iblk3 V c 0 t) (iblk3 V c 1 t) (iblk3 V c 2 t) (iblk3 V c 3 t) (iblk3 V c 4 t) _ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [outs3_5_B V c t h0 h19]
      simp only [before3_5 V c t h0]
      have hc0 := fun h => (show ¬_ from by omega) ((hcond3_0 t).mp h)
      have hc1 := (hcond3_1 t).mpr (by omega)
      have hc2 := fun h => (show ¬_ from by omega) ((hcond3_2 t).mp h)
      iintro ⟨HΦ, Ho, ⟨%d0, H0⟩, ⟨%d1, H1⟩, ⟨%d2, H2⟩, ⟨%d3, H3⟩, ⟨%d4, H4⟩, ⟨%d5, H5⟩⟩
      iapply (run3_B c Set.univ (grid3.coords t) _ _ _ _ _ _ _ _ _ _ _ _ (hc0) (hc1) (hc2) (iblk3 V c 0 t) (iblk3 V c 1 t) (iblk3 V c 2 t) (iblk3 V c 3 t) (iblk3 V c 4 t) _ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

theorem defs₀_row3 (t : Fin cfg3.N) :
    defs₀ (F := F) .tc cfg3.body (cfg3.bodyArgs t (cfg3.slots t)) = bodyAt3 t := by
  unfold defs₀; rw [Defs.onTc_tc]
/-- The body obligation, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Region3

end Cert.KernelIdeal.Reg

end
-- ==== Proof.RegConv5.lean ====
/-
The third convolution region: body triples case by case, the buffer point by point, proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: `cc5__conv_kernel` -/

section Region5
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- What case A of the body leaves in window 5's buffer. -/
def out5_A_5 (x0 : Vec F S512x512 .f32) (x1 : Vec F S512x64 .f32) (x2 : Vec F S512x8 .f32) (x3 : Vec F S64x64 .f32) (x4 : Vec F S8x64 .f32) : Vec F S512x64 .f32 :=
  k5_pay1 x0 x1

/-- What case B of the body leaves in window 5's buffer. -/
def out5_B_5 (x0 : Vec F S512x512 .f32) (x1 : Vec F S512x64 .f32) (x2 : Vec F S512x8 .f32) (x3 : Vec F S64x64 .f32) (x4 : Vec F S8x64 .f32) (d5 : Vec F S512x64 .f32) : Vec F S512x64 .f32 :=
  k5_pay2 x0 x1 d5

/-- What case C of the body leaves in window 5's buffer. -/
def out5_C_5 (x0 : Vec F S512x512 .f32) (x1 : Vec F S512x64 .f32) (x2 : Vec F S512x8 .f32) (x3 : Vec F S64x64 .f32) (x4 : Vec F S8x64 .f32) (d5 : Vec F S512x64 .f32) : Vec F S512x64 .f32 :=
  k5_pay3 (k5_pay2 x0 x1 d5) x3 x2 x4

abbrev cond5_0 (i : grid5.Coords) : Prop := k5_cond1 i = 1#1
theorem hcond5_0 : ∀ t : Fin cfg5.N, cond5_0 (grid5.coords t) ↔ t.val % 20 = 0 :=
  (by decide +kernel : ∀ t : Fin grid5.N, cond5_0 (grid5.coords t) ↔ t.val % 20 = 0)

abbrev cond5_1 (i : grid5.Coords) : Prop := k5_cond2 i = 1#1
theorem hcond5_1 : ∀ t : Fin cfg5.N, cond5_1 (grid5.coords t) ↔ 1 ≤ t.val % 20 :=
  (by decide +kernel : ∀ t : Fin grid5.N, cond5_1 (grid5.coords t) ↔ 1 ≤ t.val % 20)

abbrev cond5_2 (i : grid5.Coords) : Prop := k5_cond3 i = 1#1
theorem hcond5_2 : ∀ t : Fin cfg5.N, cond5_2 (grid5.coords t) ↔ t.val % 20 = 19 :=
  (by decide +kernel : ∀ t : Fin grid5.N, cond5_2 (grid5.coords t) ↔ t.val % 20 = 19)
theorem live5_0 : ∀ t : Fin cfg5.N, cfg5.idle 0 (grid5.coords t) = false := fun _ => rfl
theorem live5_1 : ∀ t : Fin cfg5.N, cfg5.idle 1 (grid5.coords t) = false := fun _ => rfl
theorem live5_2 : ∀ t : Fin cfg5.N, cfg5.idle 2 (grid5.coords t) = false := fun _ => rfl
theorem live5_3 : ∀ t : Fin cfg5.N, cfg5.idle 3 (grid5.coords t) = false := fun _ => rfl
theorem live5_4 : ∀ t : Fin cfg5.N, cfg5.idle 4 (grid5.coords t) = false := fun _ => rfl
theorem live5_5 : ∀ t : Fin cfg5.N, cfg5.idle 5 (grid5.coords t) = false := by decide +kernel
/-- The positions at which output 5's buffer holds nothing the body stored since its last write-back. -/
def freshTab5_5 : ℕ → Bool
  | 0 => true
  | n + 1 => (0x8000080000800008000080000800008000080000800008000080000800008000080000800008000080000800008000080000 : ℕ).testBit n
theorem freshTab5_5_step : ∀ t : Fin cfg5.N,
    freshTab5_5 (t.val + 1) = ((cfg5.win 5).flush t || (cfg5.idle 5 (cfg5.grid.coords t) && freshTab5_5 t.val)) := by decide +kernel
theorem notFresh5_5 : ∀ t : Fin cfg5.N, ¬t.val % 20 = 0 → cfg5.fresh 5 t.val = false := by
  intro t; rw [Pipeline.Cfg.fresh_tab cfg5 5 freshTab5_5 rfl freshTab5_5_step t.val (Nat.le_of_lt t.isLt)]; revert t; decide +kernel

set_option maxHeartbeats 1000000 in
/-- The body in case A: whole staging memrefs at the inputs' contents, each output's left at its value. -/
theorem run5_A (c : Dev nD) (E : Set ℕ) (i : grid5.Coords) (arg2 : Memref sig .tc .vmem S512x512 .f32) (harg2 : arg2.IsWhole) (arg3 : Memref sig .tc .vmem S512x64 .f32) (harg3 : arg3.IsWhole) (arg4 : Memref sig .tc .vmem S512x8 .f32) (harg4 : arg4.IsWhole) (arg5 : Memref sig .tc .vmem S64x64 .f32) (harg5 : arg5.IsWhole) (arg6 : Memref sig .tc .vmem S8x64 .f32) (harg6 : arg6.IsWhole) (arg7 : Memref sig .tc .vmem S512x64 .f32) (harg7 : arg7.IsWhole) (hc0 : cond5_0 i) (hc1 : ¬cond5_1 i) (hc2 : ¬cond5_2 i)
    (x0 : Vec F S512x512 .f32) (x1 : Vec F S512x64 .f32) (x2 : Vec F S512x8 .f32) (x3 : Vec F S64x64 .f32) (x4 : Vec F S8x64 .f32) (d5 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5_A_5 x0 x1 x2 x3 x4)) -∗ K ⟨⟩))
      ⊢ wp frame (wpE (defs₀ (F := F)) Variants.none c none) E (cc5__conv_kernel i arg2 harg2 arg3 harg3 arg4 harg4 arg5 harg5 arg6 harg6 arg7 harg7) K := by
  simp only [cc5__conv_kernel_eq_skeleton]; unfold cc5__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro; refine (View.read_writes_full _ _ _ _ _).trans ?_; unfold out5_A_5; simp (disch := decide) only [View.readCov_full, View.readAt_writes_full, View.readCov_unit_lit', View.readCov_cons_unit_lit', View.readAt_eq_ld, View.ld_unit_lit', Memref.IsWhole.read_unread]

set_option maxHeartbeats 1000000 in
/-- The body in case B: whole staging memrefs at the inputs' contents, each output's left at its value. -/
theorem run5_B (c : Dev nD) (E : Set ℕ) (i : grid5.Coords) (arg2 : Memref sig .tc .vmem S512x512 .f32) (harg2 : arg2.IsWhole) (arg3 : Memref sig .tc .vmem S512x64 .f32) (harg3 : arg3.IsWhole) (arg4 : Memref sig .tc .vmem S512x8 .f32) (harg4 : arg4.IsWhole) (arg5 : Memref sig .tc .vmem S64x64 .f32) (harg5 : arg5.IsWhole) (arg6 : Memref sig .tc .vmem S8x64 .f32) (harg6 : arg6.IsWhole) (arg7 : Memref sig .tc .vmem S512x64 .f32) (harg7 : arg7.IsWhole) (hc0 : ¬cond5_0 i) (hc1 : cond5_1 i) (hc2 : ¬cond5_2 i)
    (x0 : Vec F S512x512 .f32) (x1 : Vec F S512x64 .f32) (x2 : Vec F S512x8 .f32) (x3 : Vec F S64x64 .f32) (x4 : Vec F S8x64 .f32) (d5 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5_B_5 x0 x1 x2 x3 x4 d5)) -∗ K ⟨⟩))
      ⊢ wp frame (wpE (defs₀ (F := F)) Variants.none c none) E (cc5__conv_kernel i arg2 harg2 arg3 harg3 arg4 harg4 arg5 harg5 arg6 harg6 arg7 harg7) K := by
  simp only [cc5__conv_kernel_eq_skeleton]; unfold cc5__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro; refine (View.read_writes_full _ _ _ _ _).trans ?_; unfold out5_B_5; simp (disch := decide) only [View.readCov_full, View.readAt_writes_full, View.readCov_unit_lit', View.readCov_cons_unit_lit', View.readAt_eq_ld, View.ld_unit_lit', Memref.IsWhole.read_unread]

set_option maxHeartbeats 1000000 in
/-- The body in case C: whole staging memrefs at the inputs' contents, each output's left at its value. -/
theorem run5_C (c : Dev nD) (E : Set ℕ) (i : grid5.Coords) (arg2 : Memref sig .tc .vmem S512x512 .f32) (harg2 : arg2.IsWhole) (arg3 : Memref sig .tc .vmem S512x64 .f32) (harg3 : arg3.IsWhole) (arg4 : Memref sig .tc .vmem S512x8 .f32) (harg4 : arg4.IsWhole) (arg5 : Memref sig .tc .vmem S64x64 .f32) (harg5 : arg5.IsWhole) (arg6 : Memref sig .tc .vmem S8x64 .f32) (harg6 : arg6.IsWhole) (arg7 : Memref sig .tc .vmem S512x64 .f32) (harg7 : arg7.IsWhole) (hc0 : ¬cond5_0 i) (hc1 : cond5_1 i) (hc2 : cond5_2 i)
    (x0 : Vec F S512x512 .f32) (x1 : Vec F S512x64 .f32) (x2 : Vec F S512x8 .f32) (x3 : Vec F S64x64 .f32) (x4 : Vec F S8x64 .f32) (d5 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5_C_5 x0 x1 x2 x3 x4 d5)) -∗ K ⟨⟩))
      ⊢ wp frame (wpE (defs₀ (F := F)) Variants.none c none) E (cc5__conv_kernel i arg2 harg2 arg3 harg3 arg4 harg4 arg5 harg5 arg6 harg6 arg7 harg7) K := by
  simp only [cc5__conv_kernel_eq_skeleton]; unfold cc5__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro; refine (View.read_writes_full _ _ _ _ _).trans ?_; unfold out5_C_5; delta run5_C.sl.v14; delta run5_C.sl.H5_1; simp (disch := decide) only [View.readCov_full, View.readAt_writes_full, View.readCov_unit_lit', View.readCov_cons_unit_lit', View.readAt_eq_ld, View.ld_unit_lit', Memref.IsWhole.read_unread]

/-- Output window 5's buffer after point `n`. -/
def outs5_5 (c : Dev nD) : (n : ℕ) → n < cfg5.N → Vec F S512x64 .f32
  | 0, hn => out5_A_5 (iblk5 V c 0 ⟨0, hn⟩) (iblk5 V c 1 ⟨0, hn⟩) (iblk5 V c 2 ⟨0, hn⟩) (iblk5 V c 3 ⟨0, hn⟩) (iblk5 V c 4 ⟨0, hn⟩)
  | n + 1, hn =>
    if (n + 1) % 20 = 0 then out5_A_5 (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) else if (n + 1) % 20 = 19 then out5_C_5 (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outs5_5 c n (Nat.lt_of_succ_lt hn)) else out5_B_5 (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outs5_5 c n (Nat.lt_of_succ_lt hn))
theorem outs5_5_A (c : Dev nD) (t : Fin cfg5.N) (h : t.val % 20 = 0) :
    outs5_5 V c t.val t.isLt = out5_A_5 (iblk5 V c 0 t) (iblk5 V c 1 t) (iblk5 V c 2 t) (iblk5 V c 3 t) (iblk5 V c 4 t) := by
  obtain ⟨n, hn⟩ := t
  cases n with
  | zero => exact rfl
  | succ n => exact if_pos h
theorem outs5_5_B (c : Dev nD) (t : Fin cfg5.N) (h : ¬t.val % 20 = 0) (h19 : ¬t.val % 20 = 19) :
    outs5_5 V c t.val t.isLt = out5_B_5 (iblk5 V c 0 t) (iblk5 V c 1 t) (iblk5 V c 2 t) (iblk5 V c 3 t) (iblk5 V c 4 t) (outs5_5 V c (t.val - 1) (Nat.lt_of_le_of_lt (Nat.sub_le _ _) t.isLt)) := by
  obtain ⟨n, hn⟩ := t
  cases n with
  | zero => exact absurd (Nat.zero_mod _) h
  | succ n => exact (if_neg h).trans (if_neg h19)
theorem outs5_5_C (c : Dev nD) (t : Fin cfg5.N) (h : ¬t.val % 20 = 0) (h19 : t.val % 20 = 19) :
    outs5_5 V c t.val t.isLt = out5_C_5 (iblk5 V c 0 t) (iblk5 V c 1 t) (iblk5 V c 2 t) (iblk5 V c 3 t) (iblk5 V c 4 t) (outs5_5 V c (t.val - 1) (Nat.lt_of_le_of_lt (Nat.sub_le _ _) t.isLt)) := by
  obtain ⟨n, hn⟩ := t
  cases n with
  | zero => exact absurd (Nat.zero_mod _) h
  | succ n => exact (if_neg h).trans (if_pos h19)

/-- The proof data of pipeline 5: the arrays as the region finds them, the buffers after each point. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => outs5_5 V c t.val t.isLt
  Φ _ := Pipeline.ΦA spec5 c
  q _ := fullShare
  owed _ := 0
theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = outs5_5 V c t.val t.isLt := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (h : ¬t.val % 20 = 0) (d) :
    (dat5 V c).before 5 t d = outs5_5 V c (t.val - 1) (Nat.lt_of_le_of_lt (Nat.sub_le _ _) t.isLt) := by
  rw [Dat.before_out_traj _ 5 rfl (fun _ _ => rfl) (fun t _ hi _ => absurd ((live5_5 t).symm.trans hi) Bool.false_ne_true) t.val t rfl d,
    if_neg (by rw [notFresh5_5 t h]; exact Bool.false_ne_true)]
  dsimp only [dat5]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 1200000 in
/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl]
  rw [show (dat5 V c).leavesExact 0 t = owns (c : Thread nD τ) (st5_0 t) fullShare ((dat5 V c).after 0 t) from by
    unfold Dat.leavesExact; rw [live5_0 t], after5_0]
  rw [show (dat5 V c).leavesExact 1 t = owns (c : Thread nD τ) (st5_1 t) fullShare ((dat5 V c).after 1 t) from by
    unfold Dat.leavesExact; rw [live5_1 t], after5_1]
  rw [show (dat5 V c).leavesExact 2 t = owns (c : Thread nD τ) (st5_2 t) fullShare ((dat5 V c).after 2 t) from by
    unfold Dat.leavesExact; rw [live5_2 t], after5_2]
  rw [show (dat5 V c).leavesExact 3 t = owns (c : Thread nD τ) (st5_3 t) fullShare ((dat5 V c).after 3 t) from by
    unfold Dat.leavesExact; rw [live5_3 t], after5_3]
  rw [show (dat5 V c).leavesExact 4 t = owns (c : Thread nD τ) (st5_4 t) fullShare ((dat5 V c).after 4 t) from by
    unfold Dat.leavesExact; rw [live5_4 t], after5_4]
  rw [show (dat5 V c).leavesExact 5 t = owns (c : Thread nD τ) (st5_5 t) fullShare ((dat5 V c).after 5 t) from by
    unfold Dat.leavesExact; rw [live5_5 t], after5_5]
  by_cases h0 : t.val % 20 = 0
  · rw [outs5_5_A V c t h0]
    have hc0 := (hcond5_0 t).mpr (by omega)
    have hc1 := fun h => (show ¬_ from by omega) ((hcond5_1 t).mp h)
    have hc2 := fun h => (show ¬_ from by omega) ((hcond5_2 t).mp h)
    iintro ⟨HΦ, Ho, ⟨%d0, H0⟩, ⟨%d1, H1⟩, ⟨%d2, H2⟩, ⟨%d3, H3⟩, ⟨%d4, H4⟩, ⟨%d5, H5⟩⟩
    iapply (run5_A c Set.univ (grid5.coords t) _ _ _ _ _ _ _ _ _ _ _ _ (hc0) (hc1) (hc2) (iblk5 V c 0 t) (iblk5 V c 1 t) (iblk5 V c 2 t) (iblk5 V c 3 t) (iblk5 V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · by_cases h19 : t.val % 20 = 19
    · rw [outs5_5_C V c t h0 h19]
      simp only [before5_5 V c t h0]
      have hc0 := fun h => (show ¬_ from by omega) ((hcond5_0 t).mp h)
      have hc1 := (hcond5_1 t).mpr (by omega)
      have hc2 := (hcond5_2 t).mpr (by omega)
      iintro ⟨HΦ, Ho, ⟨%d0, H0⟩, ⟨%d1, H1⟩, ⟨%d2, H2⟩, ⟨%d3, H3⟩, ⟨%d4, H4⟩, ⟨%d5, H5⟩⟩
      iapply (run5_C c Set.univ (grid5.coords t) _ _ _ _ _ _ _ _ _ _ _ _ (hc0) (hc1) (hc2) (iblk5 V c 0 t) (iblk5 V c 1 t) (iblk5 V c 2 t) (iblk5 V c 3 t) (iblk5 V c 4 t) _ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [outs5_5_B V c t h0 h19]
      simp only [before5_5 V c t h0]
      have hc0 := fun h => (show ¬_ from by omega) ((hcond5_0 t).mp h)
      have hc1 := (hcond5_1 t).mpr (by omega)
      have hc2 := fun h => (show ¬_ from by omega) ((hcond5_2 t).mp h)
      iintro ⟨HΦ, Ho, ⟨%d0, H0⟩, ⟨%d1, H1⟩, ⟨%d2, H2⟩, ⟨%d3, H3⟩, ⟨%d4, H4⟩, ⟨%d5, H5⟩⟩
      iapply (run5_B c Set.univ (grid5.coords t) _ _ _ _ _ _ _ _ _ _ _ _ (hc0) (hc1) (hc2) (iblk5 V c 0 t) (iblk5 V c 1 t) (iblk5 V c 2 t) (iblk5 V c 3 t) (iblk5 V c 4 t) _ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

theorem defs₀_row5 (t : Fin cfg5.N) :
    defs₀ (F := F) .tc cfg5.body (cfg5.bodyArgs t (cfg5.slots t)) = bodyAt5 t := by
  unfold defs₀; rw [Defs.onTc_tc]
/-- The body obligation, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Region5

end Cert.KernelIdeal.Reg

end
-- ==== Proof.RegMax.lean ====
/-
The region of the masked maxima: body triples case by case, the buffer point by point, proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: `cc7__max_kernel` -/

section Region7
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
abbrev r7_0 : Rect S8x512 := Rect.unit (s := S8x512) ![0, 0] S1x512.size inb_S8x512_S1x512_0_0
abbrev r7_1 : Rect S8x512 := Rect.unit (s := S8x512) ![1, 0] S1x512.size inb_S8x512_S1x512_1_0

/-- What case A of the body leaves in window 2's buffer. -/
def out7_A_2 (x0 : Vec F S512x512 .f32) (x1 : Vec F S8x512 .f32) : Vec F S512x8 .f32 :=
  k7_pay1 x0 (View.ld x1 r7_0) (View.ld x1 r7_1)

/-- What case B of the body leaves in window 2's buffer. -/
def out7_B_2 (x0 : Vec F S512x512 .f32) (x1 : Vec F S8x512 .f32) (d2 : Vec F S512x8 .f32) : Vec F S512x8 .f32 :=
  k7_pay2 x0 (View.ld x1 r7_0) (View.ld x1 r7_1) d2

abbrev cond7_0 (i : grid7.Coords) : Prop := k7_cond1 i = 1#1
theorem hcond7_0 : ∀ t : Fin cfg7.N, cond7_0 (grid7.coords t) ↔ t.val % 20 = 0 :=
  (by decide +kernel : ∀ t : Fin grid7.N, cond7_0 (grid7.coords t) ↔ t.val % 20 = 0)

abbrev cond7_1 (i : grid7.Coords) : Prop := k7_cond2 i = 1#1
theorem hcond7_1 : ∀ t : Fin cfg7.N, cond7_1 (grid7.coords t) ↔ 1 ≤ t.val % 20 :=
  (by decide +kernel : ∀ t : Fin grid7.N, cond7_1 (grid7.coords t) ↔ 1 ≤ t.val % 20)
theorem live7_0 : ∀ t : Fin cfg7.N, cfg7.idle 0 (grid7.coords t) = false := fun _ => rfl
theorem live7_1 : ∀ t : Fin cfg7.N, cfg7.idle 1 (grid7.coords t) = false := fun _ => rfl
theorem live7_2 : ∀ t : Fin cfg7.N, cfg7.idle 2 (grid7.coords t) = false := by decide +kernel
/-- The positions at which output 2's buffer holds nothing the body stored since its last write-back. -/
def freshTab7_2 : ℕ → Bool
  | 0 => true
  | n + 1 => (0x8000080000800008000080000800008000080000800008000080000800008000080000800008000080000800008000080000 : ℕ).testBit n
theorem freshTab7_2_step : ∀ t : Fin cfg7.N,
    freshTab7_2 (t.val + 1) = ((cfg7.win 2).flush t || (cfg7.idle 2 (cfg7.grid.coords t) && freshTab7_2 t.val)) := by decide +kernel
theorem notFresh7_2 : ∀ t : Fin cfg7.N, ¬t.val % 20 = 0 → cfg7.fresh 2 t.val = false := by
  intro t; rw [Pipeline.Cfg.fresh_tab cfg7 2 freshTab7_2 rfl freshTab7_2_step t.val (Nat.le_of_lt t.isLt)]; revert t; decide +kernel

set_option maxHeartbeats 1000000 in
/-- The body in case A: whole staging memrefs at the inputs' contents, each output's left at its value. -/
theorem run7_A (c : Dev nD) (E : Set ℕ) (i : grid7.Coords) (arg2 : Memref sig .tc .vmem S512x512 .f32) (harg2 : arg2.IsWhole) (arg3 : Memref sig .tc .vmem S8x512 .f32) (harg3 : arg3.IsWhole) (arg4 : Memref sig .tc .vmem S512x8 .f32) (harg4 : arg4.IsWhole) (hc0 : cond7_0 i) (hc1 : ¬cond7_1 i)
    (x0 : Vec F S512x512 .f32) (x1 : Vec F S8x512 .f32) (d2 : Vec F S512x8 .f32) (K : PUnit → sProp 𝕄) :
    iprop(owns (c : Thread nD τ) arg2 fullShare x0 ∗ owns (c : Thread nD τ) arg3 fullShare x1 ∗ owns (c : Thread nD τ) arg4 fullShare d2
        ∗ (iprop(owns (c : Thread nD τ) arg2 fullShare x0 ∗ owns (c : Thread nD τ) arg3 fullShare x1 ∗ owns (c : Thread nD τ) arg4 fullShare (out7_A_2 x0 x1)) -∗ K ⟨⟩))
      ⊢ wp frame (wpE (defs₀ (F := F)) Variants.none c none) E (cc7__max_kernel i arg2 harg2 arg3 harg3 arg4 harg4) K := by
  simp only [cc7__max_kernel_eq_skeleton]; unfold cc7__max_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro; refine (View.read_writes_full _ _ _ _ _).trans ?_; unfold out7_A_2; simp (disch := decide) only [View.readCov_full, View.readAt_writes_full, View.readCov_unit_lit', View.readCov_cons_unit_lit', View.readAt_eq_ld, View.ld_unit_lit', Memref.IsWhole.read_unread]; try rfl

set_option maxHeartbeats 1000000 in
/-- The body in case B: whole staging memrefs at the inputs' contents, each output's left at its value. -/
theorem run7_B (c : Dev nD) (E : Set ℕ) (i : grid7.Coords) (arg2 : Memref sig .tc .vmem S512x512 .f32) (harg2 : arg2.IsWhole) (arg3 : Memref sig .tc .vmem S8x512 .f32) (harg3 : arg3.IsWhole) (arg4 : Memref sig .tc .vmem S512x8 .f32) (harg4 : arg4.IsWhole) (hc0 : ¬cond7_0 i) (hc1 : cond7_1 i)
    (x0 : Vec F S512x512 .f32) (x1 : Vec F S8x512 .f32) (d2 : Vec F S512x8 .f32) (K : PUnit → sProp 𝕄) :
    iprop(owns (c : Thread nD τ) arg2 fullShare x0 ∗ owns (c : Thread nD τ) arg3 fullShare x1 ∗ owns (c : Thread nD τ) arg4 fullShare d2
        ∗ (iprop(owns (c : Thread nD τ) arg2 fullShare x0 ∗ owns (c : Thread nD τ) arg3 fullShare x1 ∗ owns (c : Thread nD τ) arg4 fullShare (out7_B_2 x0 x1 d2)) -∗ K ⟨⟩))
      ⊢ wp frame (wpE (defs₀ (F := F)) Variants.none c none) E (cc7__max_kernel i arg2 harg2 arg3 harg3 arg4 harg4) K := by
  simp only [cc7__max_kernel_eq_skeleton]; unfold cc7__max_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro; refine (View.read_writes_full _ _ _ _ _).trans ?_; unfold out7_B_2; simp (disch := decide) only [View.readCov_full, View.readAt_writes_full, View.readCov_unit_lit', View.readCov_cons_unit_lit', View.readAt_eq_ld, View.ld_unit_lit', Memref.IsWhole.read_unread]; try rfl

/-- Output window 2's buffer after point `n`. -/
def outs7_2 (c : Dev nD) : (n : ℕ) → n < cfg7.N → Vec F S512x8 .f32
  | 0, hn => out7_A_2 (iblk7 V c 0 ⟨0, hn⟩) (iblk7 V c 1 ⟨0, hn⟩)
  | n + 1, hn =>
    if (n + 1) % 20 = 0 then out7_A_2 (iblk7 V c 0 ⟨n + 1, hn⟩) (iblk7 V c 1 ⟨n + 1, hn⟩) else out7_B_2 (iblk7 V c 0 ⟨n + 1, hn⟩) (iblk7 V c 1 ⟨n + 1, hn⟩) (outs7_2 c n (Nat.lt_of_succ_lt hn))
theorem outs7_2_A (c : Dev nD) (t : Fin cfg7.N) (h : t.val % 20 = 0) :
    outs7_2 V c t.val t.isLt = out7_A_2 (iblk7 V c 0 t) (iblk7 V c 1 t) := by
  obtain ⟨n, hn⟩ := t
  cases n with
  | zero => exact rfl
  | succ n => exact if_pos h
theorem outs7_2_B (c : Dev nD) (t : Fin cfg7.N) (h : ¬t.val % 20 = 0) :
    outs7_2 V c t.val t.isLt = out7_B_2 (iblk7 V c 0 t) (iblk7 V c 1 t) (outs7_2 V c (t.val - 1) (Nat.lt_of_le_of_lt (Nat.sub_le _ _) t.isLt)) := by
  obtain ⟨n, hn⟩ := t
  cases n with
  | zero => exact absurd (Nat.zero_mod _) h
  | succ n => exact if_neg h

/-- The proof data of pipeline 7: the arrays as the region finds them, the buffers after each point. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => outs7_2 V c t.val t.isLt
  Φ _ := Pipeline.ΦA spec7 c
  q _ := fullShare
  owed _ := 0
theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = outs7_2 V c t.val t.isLt := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (h : ¬t.val % 20 = 0) (d) :
    (dat7 V c).before 2 t d = outs7_2 V c (t.val - 1) (Nat.lt_of_le_of_lt (Nat.sub_le _ _) t.isLt) := by
  rw [Dat.before_out_traj _ 2 rfl (fun _ _ => rfl) (fun t _ hi _ => absurd ((live7_2 t).symm.trans hi) Bool.false_ne_true) t.val t rfl d,
    if_neg (by rw [notFresh7_2 t h]; exact Bool.false_ne_true)]
  dsimp only [dat7]

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 1200000 in
/-- The body at any point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl]
  rw [show (dat7 V c).leavesExact 0 t = owns (c : Thread nD τ) (st7_0 t) fullShare ((dat7 V c).after 0 t) from by
    unfold Dat.leavesExact; rw [live7_0 t], after7_0]
  rw [show (dat7 V c).leavesExact 1 t = owns (c : Thread nD τ) (st7_1 t) fullShare ((dat7 V c).after 1 t) from by
    unfold Dat.leavesExact; rw [live7_1 t], after7_1]
  rw [show (dat7 V c).leavesExact 2 t = owns (c : Thread nD τ) (st7_2 t) fullShare ((dat7 V c).after 2 t) from by
    unfold Dat.leavesExact; rw [live7_2 t], after7_2]
  by_cases h0 : t.val % 20 = 0
  · rw [outs7_2_A V c t h0]
    have hc0 := (hcond7_0 t).mpr (by omega)
    have hc1 := fun h => (show ¬_ from by omega) ((hcond7_1 t).mp h)
    iintro ⟨HΦ, Ho, ⟨%d0, H0⟩, ⟨%d1, H1⟩, ⟨%d2, H2⟩⟩
    iapply (run7_A c Set.univ (grid7.coords t) _ _ _ _ _ _ (hc0) (hc1) (iblk7 V c 0 t) (iblk7 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · rw [outs7_2_B V c t h0]
    simp only [before7_2 V c t h0]
    have hc0 := fun h => (show ¬_ from by omega) ((hcond7_0 t).mp h)
    have hc1 := (hcond7_1 t).mpr (by omega)
    iintro ⟨HΦ, Ho, ⟨%d0, H0⟩, ⟨%d1, H1⟩, ⟨%d2, H2⟩⟩
    iapply (run7_B c Set.univ (grid7.coords t) _ _ _ _ _ _ (hc0) (hc1) (iblk7 V c 0 t) (iblk7 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem defs₀_row7 (t : Fin cfg7.N) :
    defs₀ (F := F) .tc cfg7.body (cfg7.bodyArgs t (cfg7.slots t)) = bodyAt7 t := by
  unfold defs₀; rw [Defs.onTc_tc]
/-- The body obligation, at every point. -/
theorem body_obligation7 (c : Dev nD) : BodyObligation (dat7 (F := F) V c) (defs₀ (F := F)) Variants.none () Set.univ := fun t => by
  rw [bigSep_W7, bigSep_W7, defs₀_row7]
  exact triple_restated (sound_body7 V c t) rfl .rfl fun _ => .rfl

end Region7

end Cert.KernelIdeal.Reg

end
-- ==== Proof.RegGat.lean ====
/-
The region of the attention numerators and denominators: body triples case by case, the buffers point by point, proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: `cc8__gat_kernel` -/

section Region8
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
abbrev r8_s0 : Rect S8x512 := Rect.unit (s := S8x512) ![0, 0] S1x512.size inb_S8x512_S1x512_0_0
abbrev r8_s1 : Rect S8x512 := Rect.unit (s := S8x512) ![1, 0] S1x512.size inb_S8x512_S1x512_1_0
abbrev r8_0 : Rect S512x8 := Rect.unit (s := S512x8) ![0, 0] S512x1.size inb_S512x8_S512x1_0_0
abbrev r8_1 : Rect S512x8 := Rect.unit (s := S512x8) ![0, 1] S512x1.size inb_S512x8_S512x1_0_1
abbrev r8_2 : Rect S512x8 := Rect.unit (s := S512x8) ![0, 2] S512x1.size inb_S512x8_S512x1_0_2
abbrev r8_3 : Rect S512x8 := Rect.unit (s := S512x8) ![0, 3] S512x1.size inb_S512x8_S512x1_0_3
abbrev r8_l : Rect S512x128 := Rect.unit (s := S512x128) ![0, 0] S512x64.size inb_S512x128_S512x64_0_0
abbrev r8_h : Rect S512x128 := Rect.unit (s := S512x128) ![0, 64] S512x64.size inb_S512x128_S512x64_0_64

/-- What case A of the body leaves in window 5's buffer. -/
def out8_A_5 (x0 : Vec F S512x512 .f32) (x1 : Vec F S8x512 .f32) (x2 : Vec F S512x8 .f32) (x3 : Vec F S512x8 .f32) (x4 : Vec F S512x128 .f32) : Vec F S512x128 .f32 :=
  k8_pay2 (k8_pay6 x0) (k8_pay8 x0 (View.ld x2 r8_2) (View.ld x1 r8_s0) (View.ld x3 r8_0) (View.ld x4 r8_l)) (k8_pay10 (View.ld x2 r8_3)) (k8_pay11 (View.ld x2 r8_3) (View.ld x1 r8_s1)) (View.ld x3 r8_1) (View.ld x4 r8_h)

/-- What case B of the body leaves in window 5's buffer. -/
def out8_B_5 (x0 : Vec F S512x512 .f32) (x1 : Vec F S8x512 .f32) (x2 : Vec F S512x8 .f32) (x3 : Vec F S512x8 .f32) (x4 : Vec F S512x128 .f32) (d5 : Vec F S512x128 .f32) : Vec F S512x128 .f32 :=
  k8_pay4 (k8_pay6 x0) (k8_pay8 x0 (View.ld x2 r8_2) (View.ld x1 r8_s0) (View.ld x3 r8_0) (View.ld x4 r8_l)) (k8_pay10 (View.ld x2 r8_3)) (k8_pay11 (View.ld x2 r8_3) (View.ld x1 r8_s1)) (View.ld x3 r8_1) (View.ld x4 r8_h) d5

/-- What case A of the body leaves in window 6's buffer. -/
def out8_A_6 (x0 : Vec F S512x512 .f32) (x1 : Vec F S8x512 .f32) (x2 : Vec F S512x8 .f32) (x3 : Vec F S512x8 .f32) (x4 : Vec F S512x128 .f32) : Vec F S512x8 .f32 :=
  k8_pay3 (k8_pay6 x0) (k8_pay9 x0 (View.ld x2 r8_2) (View.ld x1 r8_s0) (View.ld x3 r8_0)) (k8_pay10 (View.ld x2 r8_3)) (k8_pay11 (View.ld x2 r8_3) (View.ld x1 r8_s1)) (View.ld x3 r8_1)

/-- What case B of the body leaves in window 6's buffer. -/
def out8_B_6 (x0 : Vec F S512x512 .f32) (x1 : Vec F S8x512 .f32) (x2 : Vec F S512x8 .f32) (x3 : Vec F S512x8 .f32) (x4 : Vec F S512x128 .f32) (d6 : Vec F S512x8 .f32) : Vec F S512x8 .f32 :=
  k8_pay5 (k8_pay6 x0) (k8_pay9 x0 (View.ld x2 r8_2) (View.ld x1 r8_s0) (View.ld x3 r8_0)) (k8_pay10 (View.ld x2 r8_3)) (k8_pay11 (View.ld x2 r8_3) (View.ld x1 r8_s1)) (View.ld x3 r8_1) d6

abbrev cond8_0 (i : grid8.Coords) : Prop := k8_cond1 i = 1#1
theorem hcond8_0 : ∀ t : Fin cfg8.N, cond8_0 (grid8.coords t) ↔ t.val % 20 = 0 :=
  (by decide +kernel : ∀ t : Fin grid8.N, cond8_0 (grid8.coords t) ↔ t.val % 20 = 0)

abbrev cond8_1 (i : grid8.Coords) : Prop := k8_cond2 i = 1#1
theorem hcond8_1 : ∀ t : Fin cfg8.N, cond8_1 (grid8.coords t) ↔ 1 ≤ t.val % 20 :=
  (by decide +kernel : ∀ t : Fin grid8.N, cond8_1 (grid8.coords t) ↔ 1 ≤ t.val % 20)
theorem live8_0 : ∀ t : Fin cfg8.N, cfg8.idle 0 (grid8.coords t) = false := fun _ => rfl
theorem live8_1 : ∀ t : Fin cfg8.N, cfg8.idle 1 (grid8.coords t) = false := fun _ => rfl
theorem live8_2 : ∀ t : Fin cfg8.N, cfg8.idle 2 (grid8.coords t) = false := fun _ => rfl
theorem live8_3 : ∀ t : Fin cfg8.N, cfg8.idle 3 (grid8.coords t) = false := fun _ => rfl
theorem live8_4 : ∀ t : Fin cfg8.N, cfg8.idle 4 (grid8.coords t) = false := fun _ => rfl
theorem live8_5 : ∀ t : Fin cfg8.N, cfg8.idle 5 (grid8.coords t) = false := by decide +kernel
/-- The positions at which output 5's buffer holds nothing the body stored since its last write-back. -/
def freshTab8_5 : ℕ → Bool
  | 0 => true
  | n + 1 => (0x8000080000800008000080000800008000080000800008000080000800008000080000800008000080000800008000080000 : ℕ).testBit n
theorem freshTab8_5_step : ∀ t : Fin cfg8.N,
    freshTab8_5 (t.val + 1) = ((cfg8.win 5).flush t || (cfg8.idle 5 (cfg8.grid.coords t) && freshTab8_5 t.val)) := by decide +kernel
theorem notFresh8_5 : ∀ t : Fin cfg8.N, ¬t.val % 20 = 0 → cfg8.fresh 5 t.val = false := by
  intro t; rw [Pipeline.Cfg.fresh_tab cfg8 5 freshTab8_5 rfl freshTab8_5_step t.val (Nat.le_of_lt t.isLt)]; revert t; decide +kernel
theorem live8_6 : ∀ t : Fin cfg8.N, cfg8.idle 6 (grid8.coords t) = false := by decide +kernel
/-- The positions at which output 6's buffer holds nothing the body stored since its last write-back. -/
def freshTab8_6 : ℕ → Bool
  | 0 => true
  | n + 1 => (0x8000080000800008000080000800008000080000800008000080000800008000080000800008000080000800008000080000 : ℕ).testBit n
theorem freshTab8_6_step : ∀ t : Fin cfg8.N,
    freshTab8_6 (t.val + 1) = ((cfg8.win 6).flush t || (cfg8.idle 6 (cfg8.grid.coords t) && freshTab8_6 t.val)) := by decide +kernel
theorem notFresh8_6 : ∀ t : Fin cfg8.N, ¬t.val % 20 = 0 → cfg8.fresh 6 t.val = false := by
  intro t; rw [Pipeline.Cfg.fresh_tab cfg8 6 freshTab8_6 rfl freshTab8_6_step t.val (Nat.le_of_lt t.isLt)]; revert t; decide +kernel

set_option maxHeartbeats 1000000 in
/-- The body in case A: whole staging memrefs at the inputs' contents, each output's left at its value. -/
theorem run8_A (c : Dev nD) (E : Set ℕ) (i : grid8.Coords) (arg2 : Memref sig .tc .vmem S512x512 .f32) (harg2 : arg2.IsWhole) (arg3 : Memref sig .tc .vmem S8x512 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x8 .f32) (harg8 : arg8.IsWhole) (hc0 : cond8_0 i) (hc1 : ¬cond8_1 i)
    (x0 : Vec F S512x512 .f32) (x1 : Vec F S8x512 .f32) (x2 : Vec F S512x8 .f32) (x3 : Vec F S512x8 .f32) (x4 : Vec F S512x128 .f32) (d5 : Vec F S512x128 .f32) (d6 : Vec F S512x8 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out8_A_5 x0 x1 x2 x3 x4) ∗ owns (c : Thread nD τ) arg8 fullShare (out8_A_6 x0 x1 x2 x3 x4)) -∗ K ⟨⟩))
      ⊢ wp frame (wpE (defs₀ (F := F)) Variants.none c none) E (cc8__gat_kernel i arg2 harg2 arg3 harg3 arg4 harg4 arg5 harg5 arg6 harg6 arg7 harg7 arg8 harg8) K := by
  simp only [cc8__gat_kernel_eq_skeleton]; unfold cc8__gat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro; refine (View.read_writes_full _ _ _ _ _).trans ?_; unfold out8_A_5; delta run8_A.sl.r run8_A.sl.r_1 run8_A.sl.r_2 run8_A.sl.r_3 run8_A.sl.r_4; simp (disch := decide) only [View.readCov_full, View.readAt_writes_full, View.readCov_unit_lit', View.readCov_cons_unit_lit', View.readAt_eq_ld, View.ld_unit_lit', Memref.IsWhole.read_unread]; try rfl
  iexists _; isplitr
  swap; · iexact H6
  ipureintro; refine (View.read_writes_full _ _ _ _ _).trans ?_; unfold out8_A_6; delta run8_A.sl.r run8_A.sl.r_1 run8_A.sl.r_2 run8_A.sl.r_3 run8_A.sl.r_4; simp (disch := decide) only [View.readCov_full, View.readAt_writes_full, View.readCov_unit_lit', View.readCov_cons_unit_lit', View.readAt_eq_ld, View.ld_unit_lit', Memref.IsWhole.read_unread]; try rfl

set_option maxHeartbeats 1000000 in
/-- The body in case B: whole staging memrefs at the inputs' contents, each output's left at its value. -/
theorem run8_B (c : Dev nD) (E : Set ℕ) (i : grid8.Coords) (arg2 : Memref sig .tc .vmem S512x512 .f32) (harg2 : arg2.IsWhole) (arg3 : Memref sig .tc .vmem S8x512 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x8 .f32) (harg8 : arg8.IsWhole) (hc0 : ¬cond8_0 i) (hc1 : cond8_1 i)
    (x0 : Vec F S512x512 .f32) (x1 : Vec F S8x512 .f32) (x2 : Vec F S512x8 .f32) (x3 : Vec F S512x8 .f32) (x4 : Vec F S512x128 .f32) (d5 : Vec F S512x128 .f32) (d6 : Vec F S512x8 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out8_B_5 x0 x1 x2 x3 x4 d5) ∗ owns (c : Thread nD τ) arg8 fullShare (out8_B_6 x0 x1 x2 x3 x4 d6)) -∗ K ⟨⟩))
      ⊢ wp frame (wpE (defs₀ (F := F)) Variants.none c none) E (cc8__gat_kernel i arg2 harg2 arg3 harg3 arg4 harg4 arg5 harg5 arg6 harg6 arg7 harg7 arg8 harg8) K := by
  simp only [cc8__gat_kernel_eq_skeleton]; unfold cc8__gat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro; refine (View.read_writes_full _ _ _ _ _).trans ?_; unfold out8_B_5; delta run8_B.sl.r run8_B.sl.r_1 run8_B.sl.r_2 run8_B.sl.r_3 run8_B.sl.r_4; simp (disch := decide) only [View.readCov_full, View.readAt_writes_full, View.readCov_unit_lit', View.readCov_cons_unit_lit', View.readAt_eq_ld, View.ld_unit_lit', Memref.IsWhole.read_unread]; try rfl
  iexists _; isplitr
  swap; · iexact H6
  ipureintro; refine (View.read_writes_full _ _ _ _ _).trans ?_; unfold out8_B_6; delta run8_B.sl.r run8_B.sl.r_1 run8_B.sl.r_2 run8_B.sl.r_3 run8_B.sl.r_4; simp (disch := decide) only [View.readCov_full, View.readAt_writes_full, View.readCov_unit_lit', View.readCov_cons_unit_lit', View.readAt_eq_ld, View.ld_unit_lit', Memref.IsWhole.read_unread]; try rfl

/-- Output window 5's buffer after point `n`. -/
def outs8_5 (c : Dev nD) : (n : ℕ) → n < cfg8.N → Vec F S512x128 .f32
  | 0, hn => out8_A_5 (iblk8 V c 0 ⟨0, hn⟩) (iblk8 V c 1 ⟨0, hn⟩) (iblk8 V c 2 ⟨0, hn⟩) (iblk8 V c 3 ⟨0, hn⟩) (iblk8 V c 4 ⟨0, hn⟩)
  | n + 1, hn =>
    if (n + 1) % 20 = 0 then out8_A_5 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) else out8_B_5 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outs8_5 c n (Nat.lt_of_succ_lt hn))
theorem outs8_5_A (c : Dev nD) (t : Fin cfg8.N) (h : t.val % 20 = 0) :
    outs8_5 V c t.val t.isLt = out8_A_5 (iblk8 V c 0 t) (iblk8 V c 1 t) (iblk8 V c 2 t) (iblk8 V c 3 t) (iblk8 V c 4 t) := by
  obtain ⟨n, hn⟩ := t
  cases n with
  | zero => exact rfl
  | succ n => exact if_pos h
theorem outs8_5_B (c : Dev nD) (t : Fin cfg8.N) (h : ¬t.val % 20 = 0) :
    outs8_5 V c t.val t.isLt = out8_B_5 (iblk8 V c 0 t) (iblk8 V c 1 t) (iblk8 V c 2 t) (iblk8 V c 3 t) (iblk8 V c 4 t) (outs8_5 V c (t.val - 1) (Nat.lt_of_le_of_lt (Nat.sub_le _ _) t.isLt)) := by
  obtain ⟨n, hn⟩ := t
  cases n with
  | zero => exact absurd (Nat.zero_mod _) h
  | succ n => exact if_neg h

/-- Output window 6's buffer after point `n`. -/
def outs8_6 (c : Dev nD) : (n : ℕ) → n < cfg8.N → Vec F S512x8 .f32
  | 0, hn => out8_A_6 (iblk8 V c 0 ⟨0, hn⟩) (iblk8 V c 1 ⟨0, hn⟩) (iblk8 V c 2 ⟨0, hn⟩) (iblk8 V c 3 ⟨0, hn⟩) (iblk8 V c 4 ⟨0, hn⟩)
  | n + 1, hn =>
    if (n + 1) % 20 = 0 then out8_A_6 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) else out8_B_6 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outs8_6 c n (Nat.lt_of_succ_lt hn))
theorem outs8_6_A (c : Dev nD) (t : Fin cfg8.N) (h : t.val % 20 = 0) :
    outs8_6 V c t.val t.isLt = out8_A_6 (iblk8 V c 0 t) (iblk8 V c 1 t) (iblk8 V c 2 t) (iblk8 V c 3 t) (iblk8 V c 4 t) := by
  obtain ⟨n, hn⟩ := t
  cases n with
  | zero => exact rfl
  | succ n => exact if_pos h
theorem outs8_6_B (c : Dev nD) (t : Fin cfg8.N) (h : ¬t.val % 20 = 0) :
    outs8_6 V c t.val t.isLt = out8_B_6 (iblk8 V c 0 t) (iblk8 V c 1 t) (iblk8 V c 2 t) (iblk8 V c 3 t) (iblk8 V c 4 t) (outs8_6 V c (t.val - 1) (Nat.lt_of_le_of_lt (Nat.sub_le _ _) t.isLt)) := by
  obtain ⟨n, hn⟩ := t
  cases n with
  | zero => exact absurd (Nat.zero_mod _) h
  | succ n => exact if_neg h

/-- The proof data of pipeline 8: the arrays as the region finds them, the buffers after each point. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => outs8_5 V c t.val t.isLt
    | ⟨6, _⟩ => outs8_6 V c t.val t.isLt
  Φ _ := Pipeline.ΦA spec8 c
  q _ := fullShare
  owed _ := 0
theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = outs8_5 V c t.val t.isLt := by dsimp only [dat8]
theorem after8_6 (c : Dev nD) (t : Fin cfg8.N) : (dat8 V c).after 6 t = outs8_6 V c t.val t.isLt := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (h : ¬t.val % 20 = 0) (d) :
    (dat8 V c).before 5 t d = outs8_5 V c (t.val - 1) (Nat.lt_of_le_of_lt (Nat.sub_le _ _) t.isLt) := by
  rw [Dat.before_out_traj _ 5 rfl (fun _ _ => rfl) (fun t _ hi _ => absurd ((live8_5 t).symm.trans hi) Bool.false_ne_true) t.val t rfl d,
    if_neg (by rw [notFresh8_5 t h]; exact Bool.false_ne_true)]
  dsimp only [dat8]
theorem before8_6 (c : Dev nD) (t : Fin cfg8.N) (h : ¬t.val % 20 = 0) (d) :
    (dat8 V c).before 6 t d = outs8_6 V c (t.val - 1) (Nat.lt_of_le_of_lt (Nat.sub_le _ _) t.isLt) := by
  rw [Dat.before_out_traj _ 6 rfl (fun _ _ => rfl) (fun t _ hi _ => absurd ((live8_6 t).symm.trans hi) Bool.false_ne_true) t.val t rfl d,
    if_neg (by rw [notFresh8_6 t h]; exact Bool.false_ne_true)]
  dsimp only [dat8]

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t)

set_option maxHeartbeats 1200000 in
/-- The body at any point. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl]
  rw [show (dat8 V c).leavesExact 0 t = owns (c : Thread nD τ) (st8_0 t) fullShare ((dat8 V c).after 0 t) from by
    unfold Dat.leavesExact; rw [live8_0 t], after8_0]
  rw [show (dat8 V c).leavesExact 1 t = owns (c : Thread nD τ) (st8_1 t) fullShare ((dat8 V c).after 1 t) from by
    unfold Dat.leavesExact; rw [live8_1 t], after8_1]
  rw [show (dat8 V c).leavesExact 2 t = owns (c : Thread nD τ) (st8_2 t) fullShare ((dat8 V c).after 2 t) from by
    unfold Dat.leavesExact; rw [live8_2 t], after8_2]
  rw [show (dat8 V c).leavesExact 3 t = owns (c : Thread nD τ) (st8_3 t) fullShare ((dat8 V c).after 3 t) from by
    unfold Dat.leavesExact; rw [live8_3 t], after8_3]
  rw [show (dat8 V c).leavesExact 4 t = owns (c : Thread nD τ) (st8_4 t) fullShare ((dat8 V c).after 4 t) from by
    unfold Dat.leavesExact; rw [live8_4 t], after8_4]
  rw [show (dat8 V c).leavesExact 5 t = owns (c : Thread nD τ) (st8_5 t) fullShare ((dat8 V c).after 5 t) from by
    unfold Dat.leavesExact; rw [live8_5 t], after8_5]
  rw [show (dat8 V c).leavesExact 6 t = owns (c : Thread nD τ) (st8_6 t) fullShare ((dat8 V c).after 6 t) from by
    unfold Dat.leavesExact; rw [live8_6 t], after8_6]
  by_cases h0 : t.val % 20 = 0
  · rw [outs8_5_A V c t h0, outs8_6_A V c t h0]
    have hc0 := (hcond8_0 t).mpr (by omega)
    have hc1 := fun h => (show ¬_ from by omega) ((hcond8_1 t).mp h)
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run8_A c Set.univ (grid8.coords t) _ _ _ _ _ _ _ _ _ _ _ _ _ _ (hc0) (hc1) (iblk8 V c 0 t) (iblk8 V c 1 t) (iblk8 V c 2 t) (iblk8 V c 3 t) (iblk8 V c 4 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outs8_5_B V c t h0, outs8_6_B V c t h0]
    simp only [before8_5 V c t h0, before8_6 V c t h0]
    have hc0 := fun h => (show ¬_ from by omega) ((hcond8_0 t).mp h)
    have hc1 := (hcond8_1 t).mpr (by omega)
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run8_B c Set.univ (grid8.coords t) _ _ _ _ _ _ _ _ _ _ _ _ _ _ (hc0) (hc1) (iblk8 V c 0 t) (iblk8 V c 1 t) (iblk8 V c 2 t) (iblk8 V c 3 t) (iblk8 V c 4 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row8 (t : Fin cfg8.N) :
    defs₀ (F := F) .tc cfg8.body (cfg8.bodyArgs t (cfg8.slots t)) = bodyAt8 t := by
  unfold defs₀; rw [Defs.onTc_tc]
/-- The body obligation, at every point. -/
theorem body_obligation8 (c : Dev nD) : BodyObligation (dat8 (F := F) V c) (defs₀ (F := F)) Variants.none () Set.univ := fun t => by
  rw [bigSep_W8, bigSep_W8, defs₀_row8]
  exact triple_restated (sound_body8 V c t) rfl .rfl fun _ => .rfl

end Region8

end Cert.KernelIdeal.Reg

end
-- ==== Proof.Bound.lean ====
/-
The buffers of @main at the boundaries between its host stretches and its pipelines.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow
public import Idealize.ShloMosaic.Lib.Pipeline.FrameSuffix
public import Idealize.ShloMosaic.Lib.Pipeline.RegionsLoop
public import proofs.«01_k».proof.Proof.RegLin
public import proofs.«01_k».proof.Proof.RegConv1
public import proofs.«01_k».proof.Proof.RegConv3
public import proofs.«01_k».proof.Proof.RegConv5
public import proofs.«01_k».proof.Proof.RegMax
public import proofs.«01_k».proof.Proof.RegGat

@[expose] public section

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays of @main. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

set_option maxHeartbeats 4000000 in
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_v0, main_call0_v1, main_call0_v2, main_call0_v3, main_call0_cst, main_call0_v4, main_call0_c, main_call0_v5, main_call0_v6, main_call0_c_0, main_call0_v7, main_call0_v8, main_call0_v9, main_call0_c_1, main_call0_v10, main_call0_v11, main_call0_c_2, main_call0_v12, main_call0_v13, main_call0_v14, main_call0_v15, main_call0_v16, main_call0_v17, main_call0_cst_3, main_call0_v18, main_call0_v19, main_call0_cst_4, main_call0_v20, main_call0_cst_5, main_call0_v21, main_call0_v22, main_call0_cst_6, main_call0_v23, main_call0_c_7, main_call0_v24, main_call0_v25, main_call0_c_8, main_call0_v26, main_call0_v27, main_call0_v28, main_call0_v29, main_call0_v30, main_call0_v31, main_call0_v32, main_call0_v33, main_call0_v34, main_call0_v35, main_call0_v36, main_call0_cst_9, main_call0_v37, main_call0_v38, main_call0_v39, main_call0_v40, main_call0_v41, main_call0_v42, main_call0_v43, main_call0_v44, main_call0_cst_10, main_call0_v45, main_call0_v46, main_call0_v47, main_call0_v48, main_call0_v49, main_call0_v50, main_call0_v51, main_call0_v52, main_call0_cst_11, main_call0_v53, main_call0_v54, main_call0_c_12, main_call0_call0_v0, main_call0_v55, main_call0_v56]
set_option maxHeartbeats 4000000 in
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

set_option maxHeartbeats 4000000 in
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_call0_v59]
set_option maxHeartbeats 4000000 in
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

set_option maxHeartbeats 4000000 in
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_call0_v62]
set_option maxHeartbeats 4000000 in
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

set_option maxHeartbeats 4000000 in
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_call0_cst_13, main_call0_v65, main_call0_v66, main_call0_v67, main_call0_c_14, main_call0_v68, main_call0_c_15, main_call0_v69, main_call0_v70, main_call0_v71, main_call0_v72, main_call0_v73, main_call0_c_16, main_call0_v74, main_call0_c_17, main_call0_v75, main_call0_v76, main_call0_v77, main_call0_v78, main_call0_v79, main_call0_c_18, main_call0_v80, main_call0_c_19, main_call0_v81, main_call0_v82, main_call0_v83, main_call0_v84, main_call0_v85, main_call0_c_20, main_call0_v86, main_call0_c_21, main_call0_v87, main_call0_v88, main_call0_v89]
set_option maxHeartbeats 4000000 in
theorem hostOps6_writes : (hostOps6 : List (HloOp τ sig (Elt F))).Forall fun op => op.writes ⊆ (hostOps6_W.map (Proc.devRef (τ := τ) .tc)).toFinset :=
  StableHlo.forall_writes_sub_of_map rfl
theorem hostOps6_args : ∀ a ∈ argRefs, a ∉ hostOps6_W := ListAll.forall_mem_of_all_decide (by decide +kernel)

set_option maxHeartbeats 4000000 in
theorem hostOps7_fresh : (hostOps7 : List (HloOp τ sig (Elt F))).Forall fun op => op.fresh = ∅ := by
  simp only [List.Forall]; repeat' constructor
/-- The reference each operation of `hostOps7` writes, in order. -/
abbrev hostOps7_W : List (Ref sig .tc) := [main_call0_v91, main_call0_v92, main_call0_c_22, main_call0_call1_v0, main_call0_v93]
set_option maxHeartbeats 4000000 in
theorem hostOps7_writes : (hostOps7 : List (HloOp τ sig (Elt F))).Forall fun op => op.writes ⊆ (hostOps7_W.map (Proc.devRef (τ := τ) .tc)).toFinset :=
  StableHlo.forall_writes_sub_of_map rfl
theorem hostOps7_args : ∀ a ∈ argRefs, a ∉ hostOps7_W := ListAll.forall_mem_of_all_decide (by decide +kernel)

set_option maxHeartbeats 4000000 in
theorem hostOps9_fresh : (hostOps9 : List (HloOp τ sig (Elt F))).Forall fun op => op.fresh = ∅ := by
  simp only [List.Forall]; repeat' constructor
/-- The reference each operation of `hostOps9` writes, in order. -/
abbrev hostOps9_W : List (Ref sig .tc) := [main_call0_v96, main_call0_v97, main_call0_cst_23, main_call0_v98, main_call0_v99, main_call0_v100, main_call0_v101, main_call0_v102, main_call0_v103, main_call0_cst_24, main_call0_v104, main_call0_v105, main_call0_v106, main_call0_v107, main_call0_v108, main_call0_cst_25, main_call0_v109, main_call0_v110, main_call0_v111, main_call0_v112, main_call0_v113, main_v0]
set_option maxHeartbeats 4000000 in
theorem hostOps9_writes : (hostOps9 : List (HloOp τ sig (Elt F))).Forall fun op => op.writes ⊆ (hostOps9_W.map (Proc.devRef (τ := τ) .tc)).toFinset :=
  StableHlo.forall_writes_sub_of_map rfl
theorem hostOps9_args : ∀ a ∈ argRefs, a ∉ hostOps9_W := ListAll.forall_mem_of_all_decide (by decide +kernel)

/-! ## The buffers at each boundary of @main -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same at the references of the TensorCore. -/
abbrev V1 : (c : Dev nD) → (b : Ref sig .tc) → Buf (Elt F) ((c : Thread nD τ).loc b) := fun c b => W1 m ρ c b

/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same at the references of the TensorCore. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same at the references of the TensorCore. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same at the references of the TensorCore. -/
abbrev V4 : (c : Dev nD) → (b : Ref sig .tc) → Buf (Elt F) ((c : Thread nD τ).loc b) := fun c b => W4 m ρ c b

/-- After region 2: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same at the references of the TensorCore. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After region 3: its arrays at what the pipeline leaves, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same at the references of the TensorCore. -/
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)
/-- The same at the references of the TensorCore. -/
abbrev V7 : (c : Dev nD) → (b : Ref sig .tc) → Buf (Elt F) ((c : Thread nD τ).loc b) := fun c b => W7 m ρ c b

/-- After region 4: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
theorem W8_of (c : Dev nD) (r : Ref sig .tc) (h : ∀ w : Fin cfg4.W, Pipeline.arrRef spec4 w = r → (cfg4.win w).isOut = false) :
    W8 m ρ c (Proc.devRef .tc r) = W7 m ρ c (Proc.devRef .tc r) := by
  by_cases hw : ∃ w : Fin cfg4.W, Pipeline.arrRef spec4 w = r
  · obtain ⟨w, rfl⟩ := hw
    exact (W8_arr m ρ c w).trans (((dat4 (V7 m ρ) c).arrAt_in w (h w rfl) _).trans (A_eq4 (V7 m ρ) c w))
  · exact W8_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn4 a ha)).trans (W7_args m ρ c a ha)
/-- The same at the references of the TensorCore. -/
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After region 5: its arrays at what the pipeline leaves, every other buffer as entered. -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
theorem W9_of (c : Dev nD) (r : Ref sig .tc) (h : ∀ w : Fin cfg5.W, Pipeline.arrRef spec5 w = r → (cfg5.win w).isOut = false) :
    W9 m ρ c (Proc.devRef .tc r) = W8 m ρ c (Proc.devRef .tc r) := by
  by_cases hw : ∃ w : Fin cfg5.W, Pipeline.arrRef spec5 w = r
  · obtain ⟨w, rfl⟩ := hw
    exact (W9_arr m ρ c w).trans (((dat5 (V8 m ρ) c).arrAt_in w (h w rfl) _).trans (A_eq5 (V8 m ρ) c w))
  · exact W9_of_ne m ρ c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn5 a ha)).trans (W8_args m ρ c a ha)
/-- The same at the references of the TensorCore. -/
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-- After `hostOps6`. -/
abbrev W10 : Dev nD → Valuation τ sig (Elt F) := fun c => StableHlo.after hostOps6 (W9 m ρ c)
theorem W10_of (c : Dev nD) (r : Ref sig .tc) (h : r ∉ hostOps6_W) : W10 m ρ c (Proc.devRef .tc r) = W9 m ρ c (Proc.devRef .tc r) :=
  StableHlo.after_of_writes_sub hostOps6 _ hostOps6_writes h
theorem W10_args (c : Dev nD) : ∀ a ∈ argRefs, W10 m ρ c (Proc.devRef .tc a) = m ((c : Thread nD τ).loc a) :=
  fun a ha => (W10_of m ρ c a (hostOps6_args a ha)).trans (W9_args m ρ c a ha)
/-- The same at the references of the TensorCore. -/
abbrev V10 : (c : Dev nD) → (b : Ref sig .tc) → Buf (Elt F) ((c : Thread nD τ).loc b) := fun c b => W10 m ρ c b

/-- After region 6: its arrays at what the pipeline leaves, every other buffer as entered. -/
def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
theorem W11_of (c : Dev nD) (r : Ref sig .tc) (h : ∀ w : Fin cfg6.W, Pipeline.arrRef spec6 w = r → (cfg6.win w).isOut = false) :
    W11 m ρ c (Proc.devRef .tc r) = W10 m ρ c (Proc.devRef .tc r) := by
  by_cases hw : ∃ w : Fin cfg6.W, Pipeline.arrRef spec6 w = r
  · obtain ⟨w, rfl⟩ := hw
    exact (W11_arr m ρ c w).trans (((dat6 (V10 m ρ) c).arrAt_in w (h w rfl) _).trans (A_eq6 (V10 m ρ) c w))
  · exact W11_of_ne m ρ c r fun w e => hw ⟨w, e⟩
theorem argsIn6 : ∀ a ∈ argRefs, ∀ w : Fin cfg6.W, Pipeline.arrRef spec6 w = a → (cfg6.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn6 a ha)).trans (W10_args m ρ c a ha)
/-- The same at the references of the TensorCore. -/
abbrev V11 : (c : Dev nD) → (b : Ref sig .tc) → Buf (Elt F) ((c : Thread nD τ).loc b) := fun c b => W11 m ρ c b
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)

/-- After `hostOps7`. -/
abbrev W12 : Dev nD → Valuation τ sig (Elt F) := fun c => StableHlo.after hostOps7 (W11 m ρ c)
theorem W12_of (c : Dev nD) (r : Ref sig .tc) (h : r ∉ hostOps7_W) : W12 m ρ c (Proc.devRef .tc r) = W11 m ρ c (Proc.devRef .tc r) :=
  StableHlo.after_of_writes_sub hostOps7 _ hostOps7_writes h
theorem W12_args (c : Dev nD) : ∀ a ∈ argRefs, W12 m ρ c (Proc.devRef .tc a) = m ((c : Thread nD τ).loc a) :=
  fun a ha => (W12_of m ρ c a (hostOps7_args a ha)).trans (W11_args m ρ c a ha)
/-- The same at the references of the TensorCore. -/
abbrev V12 : (c : Dev nD) → (b : Ref sig .tc) → Buf (Elt F) ((c : Thread nD τ).loc b) := fun c b => W12 m ρ c b

/-- After region 7: its arrays at what the pipeline leaves, every other buffer as entered. -/
def W13 (c : Dev nD) : Valuation τ sig (Elt F) :=
  Pipeline.withArrays spec7 c (W12 m ρ c) fun w => (dat7 (V12 m ρ) c).arrAt w cfg7.N
theorem W13_arr (c : Dev nD) (w : Fin cfg7.W) :
    W13 m ρ c (Proc.devRef .tc (Pipeline.arrRef spec7 w)) = (dat7 (V12 m ρ) c).arrAt w cfg7.N := by
  unfold W13; exact Pipeline.withArrays_arr spec7 launch7.win.arr_inj c _ _ w
theorem W13_of_ne (c : Dev nD) (b : Ref sig .tc) (hb : ∀ w, Pipeline.arrRef spec7 w ≠ b) :
    W13 m ρ c (Proc.devRef .tc b) = W12 m ρ c (Proc.devRef .tc b) := by
  unfold W13; exact Pipeline.withArrays_of_ne spec7 c _ _ b hb
theorem W13_of (c : Dev nD) (r : Ref sig .tc) (h : ∀ w : Fin cfg7.W, Pipeline.arrRef spec7 w = r → (cfg7.win w).isOut = false) :
    W13 m ρ c (Proc.devRef .tc r) = W12 m ρ c (Proc.devRef .tc r) := by
  by_cases hw : ∃ w : Fin cfg7.W, Pipeline.arrRef spec7 w = r
  · obtain ⟨w, rfl⟩ := hw
    exact (W13_arr m ρ c w).trans (((dat7 (V12 m ρ) c).arrAt_in w (h w rfl) _).trans (A_eq7 (V12 m ρ) c w))
  · exact W13_of_ne m ρ c r fun w e => hw ⟨w, e⟩
theorem argsIn7 : ∀ a ∈ argRefs, ∀ w : Fin cfg7.W, Pipeline.arrRef spec7 w = a → (cfg7.win w).isOut = false :=
  ListAll.forall_mem_of_all_decide (by decide +kernel)
theorem W13_args (c : Dev nD) : ∀ a ∈ argRefs, W13 m ρ c (Proc.devRef .tc a) = m ((c : Thread nD τ).loc a) :=
  fun a ha => (W13_of m ρ c a (argsIn7 a ha)).trans (W12_args m ρ c a ha)
/-- The same at the references of the TensorCore. -/
abbrev V13 : (c : Dev nD) → (b : Ref sig .tc) → Buf (Elt F) ((c : Thread nD τ).loc b) := fun c b => W13 m ρ c b
theorem hF7 (c : Dev nD) (w : Fin cfg7.W) : (dat7 (V12 m ρ) c).arrAt w cfg7.N = V13 m ρ c (Pipeline.arrRef spec7 w) :=
  (W13_arr m ρ c w).symm
theorem hrest7 (c : Dev nD) : ∀ b, b ∉ Finset.univ.image (Pipeline.arrRef spec7) → V13 m ρ c b = V12 m ρ c b :=
  fun b hb => W13_of_ne m ρ c b fun w e => hb (Finset.mem_image.mpr ⟨w, Finset.mem_univ _, e⟩)

/-- After region 8: its arrays at what the pipeline leaves, every other buffer as entered. -/
def W14 (c : Dev nD) : Valuation τ sig (Elt F) :=
  Pipeline.withArrays spec8 c (W13 m ρ c) fun w => (dat8 (V13 m ρ) c).arrAt w cfg8.N
theorem W14_arr (c : Dev nD) (w : Fin cfg8.W) :
    W14 m ρ c (Proc.devRef .tc (Pipeline.arrRef spec8 w)) = (dat8 (V13 m ρ) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) := by
  unfold W14; exact Pipeline.withArrays_of_ne spec8 c _ _ b hb
theorem W14_of (c : Dev nD) (r : Ref sig .tc) (h : ∀ w : Fin cfg8.W, Pipeline.arrRef spec8 w = r → (cfg8.win w).isOut = false) :
    W14 m ρ c (Proc.devRef .tc r) = W13 m ρ c (Proc.devRef .tc r) := by
  by_cases hw : ∃ w : Fin cfg8.W, Pipeline.arrRef spec8 w = r
  · obtain ⟨w, rfl⟩ := hw
    exact (W14_arr m ρ c w).trans (((dat8 (V13 m ρ) c).arrAt_in w (h w rfl) _).trans (A_eq8 (V13 m ρ) c w))
  · exact W14_of_ne m ρ c r fun w e => hw ⟨w, e⟩
theorem argsIn8 : ∀ a ∈ argRefs, ∀ w : Fin cfg8.W, Pipeline.arrRef spec8 w = a → (cfg8.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn8 a ha)).trans (W13_args m ρ c a ha)
/-- The same at the references of the TensorCore. -/
abbrev V14 : (c : Dev nD) → (b : Ref sig .tc) → Buf (Elt F) ((c : Thread nD τ).loc b) := fun c b => W14 m ρ c b
theorem hF8 (c : Dev nD) (w : Fin cfg8.W) : (dat8 (V13 m ρ) c).arrAt w cfg8.N = V14 m ρ c (Pipeline.arrRef spec8 w) :=
  (W14_arr m ρ c w).symm
theorem hrest8 (c : Dev nD) : ∀ b, b ∉ Finset.univ.image (Pipeline.arrRef spec8) → V14 m ρ c b = V13 m ρ c b :=
  fun b hb => W14_of_ne m ρ c b fun w e => hb (Finset.mem_image.mpr ⟨w, Finset.mem_univ _, e⟩)

/-- After `hostOps9`. -/
abbrev W15 : Dev nD → Valuation τ sig (Elt F) := fun c => StableHlo.after hostOps9 (W14 m ρ c)
theorem W15_of (c : Dev nD) (r : Ref sig .tc) (h : r ∉ hostOps9_W) : W15 m ρ c (Proc.devRef .tc r) = W14 m ρ c (Proc.devRef .tc r) :=
  StableHlo.after_of_writes_sub hostOps9 _ hostOps9_writes h
theorem W15_args (c : Dev nD) : ∀ a ∈ argRefs, W15 m ρ c (Proc.devRef .tc a) = m ((c : Thread nD τ).loc a) :=
  fun a ha => (W15_of m ρ c a (hostOps9_args a ha)).trans (W14_args m ρ c a ha)
/-- The same at the references of the TensorCore. -/
abbrev V15 : (c : Dev nD) → (b : Ref sig .tc) → Buf (Elt F) ((c : Thread nD τ).loc b) := fun c b => W15 m ρ c b

end Cert.KernelIdeal.Reg

end
-- ==== Proof.Run.lean ====
/-
The run of @main: its pipelines and host stretches one after another.
-/
module

public import Idealize.ShloMosaic.Lib.Pipeline.RegionsLoop
public import proofs.«01_k».proof.Proof.Bound

@[expose] public section

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline prefetches a table. -/
abbrev adm : (p : Fin 9) → (pcfgs (F := F) p).Adm := fun p => (cfgs p).toPCfg_adm
/-- Every pipeline's proof data, each at what its region is entered from. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V8 m ρ) c
  | ⟨6, _⟩ => fun c => dat6 (V10 m ρ) c
  | ⟨7, _⟩ => fun c => dat7 (V12 m ρ) c
  | ⟨8, _⟩ => fun c => dat8 (V13 m ρ) c
abbrev 𝒱₀ : Variants := Variants.none
abbrev L : GSem nD τ sig → Finset Unit := fun _ => ∅
abbrev lv : GSem nD τ sig → Unit → ℕ := fun _ _ => 0
/-- What rides beside the buffers: the generator register and an empty debt. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W15 m ρ c) ∗ ∃ r, prngReg c r)

set_option backward.isDefEq.respectTransparency.types false in
/-- Region 0 as a segment, from the buffers at boundary 1 to the buffers at boundary 2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment, from the buffers at boundary 2 to the buffers at boundary 3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment, from the buffers at boundary 4 to the buffers at boundary 5. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment, from the buffers at boundary 5 to the buffers at boundary 6. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment, from the buffers at boundary 7 to the buffers at boundary 8. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) (A_eq4 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment, from the buffers at boundary 8 to the buffers at boundary 9. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) (A_eq5 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment, from the buffers at boundary 10 to the buffers at boundary 11. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) (A_eq6 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 as a segment, from the buffers at boundary 12 to the buffers at boundary 13. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V12 m ρ) c).loose
  hwaits := Pipeline.hwaits_of_owed_zero _ _ _ _ L lv 7 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec7 c (V12 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V12 m ρ c) (A_eq7 (V12 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V12 m ρ c) (V13 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 as a segment, from the buffers at boundary 13 to the buffers at boundary 14. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V13 m ρ) c).loose
  hwaits := Pipeline.hwaits_of_owed_zero _ _ _ _ L lv 8 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec8 c (V13 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V13 m ρ c) (A_eq8 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V13 m ρ c) (V14 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .region (reg5 m ρ),
    .host (hseg hostOps6 hostOps6_sub hostOps6_fresh (W9 m ρ)),
    .region (reg6 m ρ),
    .host (hseg hostOps7 hostOps7_sub hostOps7_fresh (W11 m ρ)),
    .region (reg7 m ρ),
    .region (reg8 m ρ),
    .host (hseg hostOps9 hostOps9_sub hostOps9_fresh (W14 m ρ)) ]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- The whole run: every execution of @main ends, with every buffer at the last boundary's contents and every counter zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W15 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨h, funext fun g => hz g (.inr (no_unscoped g.2))⟩)

/-- The run read at the result and at the arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  (θ_run defs _ _).mono (fun r h => ⟨fun c =>
    ⟨(h.1 c _ (mem_uc main_arg0 (by decide))).trans (W15_args m ρ c main_arg0 (by decide)),
     (h.1 c _ (mem_uc main_arg1 (by decide))).trans (W15_args m ρ c main_arg1 (by decide)),
     (h.1 c _ (mem_uc main_arg2 (by decide))).trans (W15_args m ρ c main_arg2 (by decide)),
     (h.1 c _ (mem_uc main_arg3 (by decide))).trans (W15_args m ρ c main_arg3 (by decide)),
     (h.1 c _ (mem_uc main_arg4 (by decide))).trans (W15_args m ρ c main_arg4 (by decide)),
     (h.1 c _ (mem_uc main_arg5 (by decide))).trans (W15_args m ρ c main_arg5 (by decide)),
     (h.1 c _ (mem_uc main_arg6 (by decide))).trans (W15_args m ρ c main_arg6 (by decide)),
     (h.1 c _ (mem_uc main_arg7 (by decide))).trans (W15_args m ρ c main_arg7 (by decide)),
     (h.1 c _ (mem_uc main_arg8 (by decide))).trans (W15_args m ρ c main_arg8 (by decide)),
     (h.1 c _ (mem_uc main_arg9 (by decide))).trans (W15_args m ρ c main_arg9 (by decide)),
     (h.1 c _ (mem_uc main_arg10 (by decide))).trans (W15_args m ρ c main_arg10 (by decide)),
     (h.1 c _ (mem_uc main_arg11 (by decide))).trans (W15_args m ρ c main_arg11 (by decide)),
     (h.1 c _ (mem_uc main_arg12 (by decide))).trans (W15_args m ρ c main_arg12 (by decide)),
     (h.1 c _ (mem_uc main_arg13 (by decide))).trans (W15_args m ρ c main_arg13 (by decide)),
     (h.1 c _ (mem_uc main_arg14 (by decide))).trans (W15_args m ρ c main_arg14 (by decide)),
     (h.1 c _ (mem_uc main_arg15 (by decide))).trans (W15_args m ρ c main_arg15 (by decide)),
     (h.1 c _ (mem_uc main_arg16 (by decide))).trans (W15_args m ρ c main_arg16 (by decide)),
     (h.1 c _ (mem_uc main_arg17 (by decide))).trans (W15_args m ρ c main_arg17 (by decide)),
     (h.1 c _ (mem_uc main_arg18 (by decide))).trans (W15_args m ρ c main_arg18 (by decide)),
     (h.1 c _ (mem_uc main_arg19 (by decide))).trans (W15_args m ρ c main_arg19 (by decide)),
     (h.1 c _ (mem_uc main_arg20 (by decide))).trans (W15_args m ρ c main_arg20 (by decide)),
     (h.1 c _ (mem_uc main_arg21 (by decide))).trans (W15_args m ρ c main_arg21 (by decide)),
     (h.1 c _ (mem_uc main_arg22 (by decide))).trans (W15_args m ρ c main_arg22 (by decide)),
     (h.1 c _ (mem_uc main_arg23 (by decide))).trans (W15_args m ρ c main_arg23 (by decide)),
     (h.1 c _ (mem_uc main_arg24 (by decide))).trans (W15_args m ρ c main_arg24 (by decide))⟩, h.2⟩) (run m ρ)

end Cert.KernelIdeal.Reg

end
-- ==== Proof.SameRun.lean ====
/-
The two printings of the kernel are one program: what the idealized kernel's run ends with at any float instance, the
kernel's run ends with.
-/
module

public import proofs.«01_k».proof.Proof.Run
public import proofs.«01_k».proof.Proof.Gen.Kernel
public import Idealize.ShloMosaic.Adequacy
public import Idealize.ShloMosaic.Init
public import Idealize.ShloMosaic.Lib.Tactic
public import Idealize.ShloMosaic.Lib.Claim
public import proofs.«01_k».proof.Defs

@[expose] public section

set_option maxRecDepth 100000

noncomputable section

namespace Cert.KernelIdeal.Reg

open Idealize.ShloMosaic Idealize.ShloMosaic.TcCoe Idealize.SL.Sem

variable {F : FTy → Type} [FloatOps F]

set_option maxHeartbeats 4000000 in
theorem frames_same [h1 : Cert.Kernel.Facts] [h2 : Cert.KernelIdeal.Facts] :
  (∀ (m : (ℓ : Loc Cert.Kernel.nD Cert.Kernel.τ Cert.Kernel.sig) → Buf (Elt F) ℓ) (ρ : Dev Cert.Kernel.nD → PrngReg),
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0))
  = (∀ (m : (ℓ : Loc Cert.KernelIdeal.nD Cert.KernelIdeal.τ Cert.KernelIdeal.sig) → Buf (Elt F) ℓ) (ρ : Dev Cert.KernelIdeal.nD → PrngReg),
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)) := by
  sl_kernel_rfl

theorem frame_kernel : Cert.quiescent_Kernel (hKernel := Cert.Kernel.Gen.facts) := fun m g _ =>
  (frames_same (F := Bits) (h1 := Cert.Kernel.Gen.facts) (h2 := Cert.KernelIdeal.Gen.facts)).mpr (fun m ρ => frame m ρ) m g

theorem frame_ideal : Cert.quiescent_KernelIdeal (hKernelIdeal := Cert.KernelIdeal.Gen.facts) := fun m g _ => frame m g

end Cert.KernelIdeal.Reg

end
-- ==== Proof.RefRun.lean ====
module

public import proofs.«01_k».proof.Proof.Gen.ReferenceIdeal
public import proofs.«01_k».proof.Defs
public import Idealize.ShloMosaic.Lib.Claim
public import Idealize.ShloMosaic.Lib.Quiescent

@[expose] public section

set_option maxRecDepth 16384

noncomputable section

namespace Cert.ReferenceIdeal.Val
open Cert.ReferenceIdeal Cert.ReferenceIdeal.Gen
open Idealize.ShloMosaic Idealize.ShloMosaic.TcCoe

set_option maxHeartbeats 8000000 in
theorem frame : Cert.quiescent_ReferenceIdeal := by
  intro m g _
  hlo_run
  · exact fun _ => by simp only [and_self]
  · exact sem_eq_zero_of_no_sems (sig := sig) (by decide) _

end Cert.ReferenceIdeal.Val
end
-- ==== Proof.HostDefs.lean ====
module

public import proofs.«01_k».proof.Proof.Gen.KernelIdeal.Launch
public import Idealize.ShloMosaic.Lib.Claim
public import Idealize.ShloMosaic.Lib.Pointwise

@[expose] public section

set_option maxRecDepth 16384

noncomputable section

namespace Cert.KernelIdeal.Host
open Cert.KernelIdeal
open Idealize.ShloMosaic Idealize.ShloMosaic.TcCoe
open Facts₀

/-- The source node of each edge: the first row of the edge list. -/
def sources (x : IVec S2x320000 32) : IVec S320000 32 := shapeCast S320000 (extractStridedSlice S1x320000 ![0, 0] x slices_S2x320000_S1x320000_0_0) shapeCasts_S1x320000_S320000
/-- The target node of each edge: the second row. -/
def targets (x : IVec S2x320000 32) : IVec S320000 32 := shapeCast S320000 (extractStridedSlice S1x320000 ![1, 0] x slices_S2x320000_S1x320000_1_0) shapeCasts_S1x320000_S320000
/-- The nodes as an index column; a negative one counts from the end. -/
def wrapped (e : IVec S320000 32) : IVec S320000x1 32 :=
  broadcastInDim S320000x1 ![0] bcast_S320000_S320000x1_0 (select (cmpi .slt e (broadcastInDim S320000 ![] bcast_S_S320000 (constantI S_ 32 0#32))) (addi e (broadcastInDim S320000 ![] bcast_S_S320000 (constantI S_ 32 10240#32))) e)
/-- The table of edge counts: at (target, source), how many edges there are. -/
def adjacency (x : IVec S2x320000 32) : FVec Ideal S10240x10240 .f32 :=
  Host.scatterAdd scatter_S10240x10240_S320000x2_S320000_n_01_01_1 (broadcastInDim S10240x10240 ![] bcast_S_S10240x10240 (constant S_ .f32 0x00000000#32))
    (concatenate S320000x2 1 [⟨S320000x1, wrapped (targets x)⟩, ⟨S320000x1, wrapped (sources x)⟩] concatenates_S320000x1_S320000x1_S320000x2_d1) (broadcastInDim S320000 ![] bcast_S_S320000 (constant S_ .f32 0x3F800000#32))
/-- Each edge's own row: its attributes, a one and two zeros. -/
def edgeRows (ea : FVec Ideal S320000x5 .f32) : FVec Ideal S320000x8 .f32 :=
  concatenate S320000x8 1 [⟨S320000x5, ea⟩, ⟨S320000x1, broadcastInDim S320000x1 ![] bcast_S_S320000x1 (constant S_ .f32 0x3F800000#32)⟩, ⟨S320000x2, broadcastInDim S320000x2 ![] bcast_S_S320000x2 (constant S_ .f32 0x00000000#32)⟩] concatenates_S320000x5_S320000x1_S320000x2_S320000x8_d1
/-- The edges' rows summed into their targets. -/
def edgeSums (x : IVec S2x320000 32) (ea : FVec Ideal S320000x5 .f32) : FVec Ideal S10240x8 .f32 :=
  Host.scatterAdd scatter_S10240x8_S320000x1_S320000x8_1_0_0_1 (broadcastInDim S10240x8 ![] bcast_S_S10240x8 (constant S_ .f32 0x00000000#32)) (wrapped (targets x)) (edgeRows ea)
/-- The upper half of a combining map. -/
def upper (wc : FVec Ideal S128x64 .f32) : FVec Ideal S64x64 .f32 := extractStridedSlice S64x64 ![0, 0] wc slices_S128x64_S64x64_0_0
/-- The lower half. -/
def lower (wc : FVec Ideal S128x64 .f32) : FVec Ideal S64x64 .f32 := extractStridedSlice S64x64 ![64, 0] wc slices_S128x64_S64x64_64_0
/-- What an edge's own row is multiplied by. -/
def edgeMap (we : FVec Ideal S5x64 .f32) (be : FVec Ideal S64 .f32) (wc : FVec Ideal S128x64 .f32) (bc : FVec Ideal S64 .f32) : FVec Ideal S8x64 .f32 :=
  concatenate S8x64 0 [⟨S5x64, Host.dotGeneral dot_S5x64_S64x64_S5x64_1_0_0_1_n_n none we (lower wc)⟩,
    ⟨S1x64, broadcastInDim S1x64 ![1] bcast_S64_S1x64_1 (addf (Host.dotGeneral dot_S64_S64x64_S64_0_0_n_1_n_n none be (lower wc)) bc)⟩,
    ⟨S2x64, broadcastInDim S2x64 ![] bcast_S_S2x64 (constant S_ .f32 0x00000000#32)⟩] concatenates_S5x64_S1x64_S2x64_S8x64_d0
/-- The node rows with zero rows below. -/
def padded (x : FVec Ideal S10000x128 .f32) : FVec Ideal S10240x128 .f32 :=
  pad S10240x128 ![0, 0] ![240, 0] ![0, 0] x (sitofp .f32 (constantI S_ 32 0#32) : FVec Ideal S_ .f32) pads_S10000x128_S10240x128_02400_000 h_S_
/-- A bias as a row. -/
def row (b : FVec Ideal S64 .f32) : FVec Ideal S1x64 .f32 := shapeCast S1x64 b shapeCasts_S64_S1x64
/-- A row of a head table. -/
def headRow0 (v : FVec Ideal S2x64 .f32) : FVec Ideal S64 .f32 := shapeCast S64 (extractStridedSlice S1x64 ![0, 0] v slices_S2x64_S1x64_0_0) shapeCasts_S1x64_S64
/-- The other row. -/
def headRow1 (v : FVec Ideal S2x64 .f32) : FVec Ideal S64 .f32 := shapeCast S64 (extractStridedSlice S1x64 ![1, 0] v slices_S2x64_S1x64_1_0) shapeCasts_S1x64_S64
/-- A place in the score table. -/
def place (r q : BitVec 32) : IVec S2 32 := concatenate S2 0 [⟨S1, broadcastInDim S1 ![] bcast_S_S1 (constantI S_ 32 r)⟩, ⟨S1, broadcastInDim S1 ![] bcast_S_S1 (constantI S_ 32 q)⟩] concatenates_S1_S1_S2_d0
/-- A row written down a column of the score table, from a place on. -/
def placed (c : FVec Ideal S128x8 .f32) (r q : BitVec 32) (v : FVec Ideal S64 .f32) : FVec Ideal S128x8 .f32 :=
  Host.scatter scatter_S128x8_S2_S64_0_1_01_0 (fun _ b => b) c (place r q) v
/-- The score table. -/
def scoreMap (asrc : FVec Ideal S2x64 .f32) (adst : FVec Ideal S2x64 .f32) : FVec Ideal S128x8 .f32 :=
  placed (placed (placed (placed (broadcastInDim S128x8 ![] bcast_S_S128x8 (constant S_ .f32 0x00000000#32)) 0#32 0#32 (headRow0 asrc)) 64#32 1#32 (headRow1 asrc)) 0#32 2#32 (headRow0 adst)) 64#32 3#32 (headRow1 adst)
/-- The source scores, as rows. -/
def scoreRows (al : FVec Ideal S10240x8 .f32) : FVec Ideal S8x10240 .f32 :=
  pad S8x10240 ![0, 0] ![6, 0] ![0, 0] (transpose S2x10240 [1, 0] (extractStridedSlice S10240x2 ![0, 0] al slices_S10240x8_S10240x2_0_0) transposes_S10240x2_S2x10240_1_0) (sitofp .f32 (constantI S_ 32 0#32) : FVec Ideal S_ .f32) pads_S2x10240_S8x10240_060_000 h_S_
/-- A head's normalised sum. -/
def normal0 (num : FVec Ideal S10240x128 .f32) (den : FVec Ideal S10240x8 .f32) : FVec Ideal S10000x64 .f32 :=
  Host.divf (extractStridedSlice S10000x64 ![0, 0] num slices_S10240x128_S10000x64_0_0) (broadcastInDim S10000x64 ![0, 1] bcast_S10000x1_S10000x64_0_1 (addf (extractStridedSlice S10000x1 ![0, 0] den slices_S10240x8_S10000x1_0_0) (broadcastInDim S10000x1 ![] bcast_S_S10000x1 (constant S_ .f32 0x24E69595#32))))
/-- The other head's. -/
def normal1 (num : FVec Ideal S10240x128 .f32) (den : FVec Ideal S10240x8 .f32) : FVec Ideal S10000x64 .f32 :=
  Host.divf (extractStridedSlice S10000x64 ![0, 64] num slices_S10240x128_S10000x64_0_64) (broadcastInDim S10000x64 ![0, 1] bcast_S10000x1_S10000x64_0_1 (addf (extractStridedSlice S10000x1 ![0, 1] den slices_S10240x8_S10000x1_0_1) (broadcastInDim S10000x1 ![] bcast_S_S10000x1 (constant S_ .f32 0x24E69595#32))))
/-- The mean over the heads, and the bias. -/
def mean (num : FVec Ideal S10240x128 .f32) (den : FVec Ideal S10240x8 .f32) (bg : FVec Ideal S64 .f32) : FVec Ideal S10000x64 .f32 :=
  addf (mulf (broadcastInDim S10000x64 ![] bcast_S_S10000x64 (constant S_ .f32 0x3F000000#32)) (addf (normal0 num den) (normal1 num den))) (broadcastInDim S10000x64 ![0, 1] bcast_S1x64_S10000x64_0_1 (broadcastInDim S1x64 ![1] bcast_S64_S1x64_1 bg))
/-- The result's row-major line. -/
def flat (y : FVec Ideal S10000x64 .f32) : FVec Ideal S640000 .f32 := shapeCast S640000 y shapeCasts_S10000x64_S640000

end Cert.KernelIdeal.Host

end
-- ==== Proof.Rows.lean ====
module

public import Idealize.ShloMosaic.Lib.Routing.OpsPair
public import Idealize.ShloMosaic.Lib.Routing.OpsSet
public import Idealize.ShloMosaic.Lib.Routing.Ops
public import Idealize.ShloMosaic.Lib.Pointwise

/-! Rows scattered into and gathered from a table, read at an element. -/

@[expose] public section

noncomputable section

namespace Cert.Rows

open Idealize.ShloMosaic Idealize.ShloMosaic.Routing

/-- Rows of `E` updates into a table of `N` rows. -/
abbrev row2 (N C E : Nat) (wf : ScatterDims.WF ⟨2, ![N, C]⟩ ⟨2, ![E, 1]⟩ ⟨2, ![E, C]⟩ [1] [0] [0] 1) : ScatterDims ⟨2, ![N, C]⟩ ⟨2, ![E, 1]⟩ ⟨2, ![E, C]⟩ :=
  { updateWindowDims := [1], insertedWindowDims := [0], scatterDimsToOperandDims := [0], indexVectorDim := 1, wf := wf }

theorem row2_hit {N C E : Nat} (wf) (idx : IVec ⟨2, ![E, 1]⟩ 32) (e : Fin E) (q : Fin C) (n : Fin N) (p : Fin C) :
    (row2 N C E wf).resultIdx? (ix2 e q) idx = some (ix2 n p) ↔ (idx (ix2 e 0)).toInt = (n.val : Int) ∧ q = p := by
  rw [resultIdx?_eq_some]
  have s0 : (row2 N C E wf).start (ix2 e q) idx 0 = (idx (ix2 e 0)).toInt := by
    unfold ScatterDims.start
    rw [dif_pos (show (0 : Fin 2) ∈ (row2 N C E wf).scatterDimsToOperandDims from List.mem_singleton.mpr rfl)]
    refine congrArg (fun i => (idx i).toInt) (funext fun b => Fin.ext ?_)
    match b with
    | ⟨0, _⟩ => rfl
    | ⟨1, _⟩ => rfl
  have s1 : (row2 N C E wf).start (ix2 e q) idx 1 = 0 := rfl
  have w0 : (row2 N C E wf).window (ix2 e q) 0 = 0 := rfl
  have w1 : (row2 N C E wf).window (ix2 e q) 1 = q.val := rfl
  constructor
  · intro h
    have h0 := h 0
    have h1 := h 1
    rw [s0, w0] at h0
    rw [s1, w1] at h1
    exact ⟨by simpa using h0, Fin.ext (by simpa using h1)⟩
  · rintro ⟨h0, h1⟩ a
    match a with
    | ⟨0, _⟩ => show (row2 N C E wf).start (ix2 e q) idx 0 + ((row2 N C E wf).window (ix2 e q) 0 : Int) = n.val; rw [s0, w0]; simpa using h0
    | ⟨1, _⟩ => show (row2 N C E wf).start (ix2 e q) idx 1 + ((row2 N C E wf).window (ix2 e q) 1 : Int) = p.val; rw [s1, w1, h1]; simp

/-- Rows added into a table: an entry and the rows that land on it. -/
theorem row2_add {N C E : Nat} (wf) (x : FVec Ideal ⟨2, ![N, C]⟩ .f32) (idx : IVec ⟨2, ![E, 1]⟩ 32) (upd : FVec Ideal ⟨2, ![E, C]⟩ .f32) (n : Fin N) (p : Fin C) :
    Host.scatterAdd (row2 N C E wf) x idx upd (ix2 n p) = x (ix2 n p) + ∑ e : Fin E with (idx (ix2 e 0)).toInt = (n.val : Int), upd (ix2 e p) := by
  show Ideal.hostScatterAdd (row2 N C E wf) x idx upd (ix2 n p) = _
  unfold Ideal.hostScatterAdd
  refine congrArg (x (ix2 n p) + ·) (Finset.sum_nbij' (fun k => k 0) (fun e => ix2 e p) ?_ ?_ ?_ ?_ ?_)
  · intro k hk
    rw [eq_ix2 k] at hk
    exact Finset.mem_filter.mpr ⟨Finset.mem_univ _, ((row2_hit wf idx _ _ n p).mp (Finset.mem_filter.mp hk).2).1⟩
  · intro e he
    exact Finset.mem_filter.mpr ⟨Finset.mem_univ _, (row2_hit wf idx _ _ n p).mpr ⟨(Finset.mem_filter.mp he).2, rfl⟩⟩
  · intro k hk
    have h := hk
    rw [eq_ix2 k] at h
    have h2 := ((row2_hit wf idx _ _ n p).mp (Finset.mem_filter.mp h).2).2
    conv_rhs => rw [eq_ix2 k]
    rw [h2]
  · intro e _; rfl
  · intro k hk
    have h := hk
    rw [eq_ix2 k] at h
    have h2 := ((row2_hit wf idx _ _ n p).mp (Finset.mem_filter.mp h).2).2
    conv_lhs => rw [eq_ix2 k]
    rw [h2]

/-- Planes of `E` updates into a table of `N` planes. -/
abbrev row3 (N C D E : Nat) (wf : ScatterDims.WF ⟨3, ![N, C, D]⟩ ⟨2, ![E, 1]⟩ ⟨3, ![E, C, D]⟩ [1, 2] [0] [0] 1) : ScatterDims ⟨3, ![N, C, D]⟩ ⟨2, ![E, 1]⟩ ⟨3, ![E, C, D]⟩ :=
  { updateWindowDims := [1, 2], insertedWindowDims := [0], scatterDimsToOperandDims := [0], indexVectorDim := 1, wf := wf }

theorem row3_hit {N C D E : Nat} (wf) (idx : IVec ⟨2, ![E, 1]⟩ 32) (e : Fin E) (q : Fin C) (r : Fin D) (n : Fin N) (p : Fin C) (s : Fin D) :
    (row3 N C D E wf).resultIdx? (ix3 e q r) idx = some (ix3 n p s) ↔ (idx (ix2 e 0)).toInt = (n.val : Int) ∧ q = p ∧ r = s := by
  rw [resultIdx?_eq_some]
  have s0 : (row3 N C D E wf).start (ix3 e q r) idx 0 = (idx (ix2 e 0)).toInt := by
    unfold ScatterDims.start
    rw [dif_pos (show (0 : Fin 3) ∈ (row3 N C D E wf).scatterDimsToOperandDims from List.mem_singleton.mpr rfl)]
    refine congrArg (fun i => (idx i).toInt) (funext fun b => Fin.ext ?_)
    match b with
    | ⟨0, _⟩ => rfl
    | ⟨1, _⟩ => rfl
  have s1 : (row3 N C D E wf).start (ix3 e q r) idx 1 = 0 := rfl
  have s2 : (row3 N C D E wf).start (ix3 e q r) idx 2 = 0 := rfl
  have w0 : (row3 N C D E wf).window (ix3 e q r) 0 = 0 := rfl
  have w1 : (row3 N C D E wf).window (ix3 e q r) 1 = q.val := rfl
  have w2 : (row3 N C D E wf).window (ix3 e q r) 2 = r.val := rfl
  constructor
  · intro h
    have h0 := h 0
    have h1 := h 1
    have h2 := h 2
    rw [s0, w0] at h0
    rw [s1, w1] at h1
    rw [s2, w2] at h2
    exact ⟨by simpa using h0, Fin.ext (by simpa using h1), Fin.ext (by simpa using h2)⟩
  · rintro ⟨h0, h1, h2⟩ a
    match a with
    | ⟨0, _⟩ => show (row3 N C D E wf).start (ix3 e q r) idx 0 + ((row3 N C D E wf).window (ix3 e q r) 0 : Int) = n.val; rw [s0, w0]; simpa using h0
    | ⟨1, _⟩ => show (row3 N C D E wf).start (ix3 e q r) idx 1 + ((row3 N C D E wf).window (ix3 e q r) 1 : Int) = p.val; rw [s1, w1, h1]; simp
    | ⟨2, _⟩ => show (row3 N C D E wf).start (ix3 e q r) idx 2 + ((row3 N C D E wf).window (ix3 e q r) 2 : Int) = s.val; rw [s2, w2, h2]; simp

/-- Planes added into a table. -/
theorem row3_add {N C D E : Nat} (wf) (x : FVec Ideal ⟨3, ![N, C, D]⟩ .f32) (idx : IVec ⟨2, ![E, 1]⟩ 32) (upd : FVec Ideal ⟨3, ![E, C, D]⟩ .f32) (n : Fin N) (p : Fin C) (s : Fin D) :
    Host.scatterAdd (row3 N C D E wf) x idx upd (ix3 n p s) = x (ix3 n p s) + ∑ e : Fin E with (idx (ix2 e 0)).toInt = (n.val : Int), upd (ix3 e p s) := by
  show Ideal.hostScatterAdd (row3 N C D E wf) x idx upd (ix3 n p s) = _
  unfold Ideal.hostScatterAdd
  refine congrArg (x (ix3 n p s) + ·) (Finset.sum_nbij' (fun k => k 0) (fun e => ix3 e p s) ?_ ?_ ?_ ?_ ?_)
  · intro k hk
    rw [eq_ix3 k] at hk
    exact Finset.mem_filter.mpr ⟨Finset.mem_univ _, ((row3_hit wf idx _ _ _ n p s).mp (Finset.mem_filter.mp hk).2).1⟩
  · intro e he
    exact Finset.mem_filter.mpr ⟨Finset.mem_univ _, (row3_hit wf idx _ _ _ n p s).mpr ⟨(Finset.mem_filter.mp he).2, rfl, rfl⟩⟩
  · intro k hk
    have h := hk
    rw [eq_ix3 k] at h
    have h2 := ((row3_hit wf idx _ _ _ n p s).mp (Finset.mem_filter.mp h).2).2
    conv_rhs => rw [eq_ix3 k]
    rw [h2.1, h2.2]
  · intro e _; rfl
  · intro k hk
    have h := hk
    rw [eq_ix3 k] at h
    have h2 := ((row3_hit wf idx _ _ _ n p s).mp (Finset.mem_filter.mp h).2).2
    conv_lhs => rw [eq_ix3 k]
    rw [h2.1, h2.2]

/-- Single values into the entries of a table named by two indices. -/
abbrev pair (N M E : Nat) (wf : ScatterDims.WF ⟨2, ![N, M]⟩ ⟨2, ![E, 2]⟩ ⟨1, ![E]⟩ [] [0, 1] [0, 1] 1) : ScatterDims ⟨2, ![N, M]⟩ ⟨2, ![E, 2]⟩ ⟨1, ![E]⟩ :=
  { updateWindowDims := [], insertedWindowDims := [0, 1], scatterDimsToOperandDims := [0, 1], indexVectorDim := 1, wf := wf }

theorem pair_hit {N M E : Nat} (wf) (idx : IVec ⟨2, ![E, 2]⟩ 32) (e : Fin E) (n : Fin N) (p : Fin M) :
    (pair N M E wf).resultIdx? (ix1 e) idx = some (ix2 n p) ↔ (idx (ix2 e 0)).toInt = (n.val : Int) ∧ (idx (ix2 e 1)).toInt = (p.val : Int) := by
  rw [resultIdx?_eq_some]
  have s0 : (pair N M E wf).start (ix1 e) idx 0 = (idx (ix2 e 0)).toInt := by
    unfold ScatterDims.start
    rw [dif_pos (show (0 : Fin 2) ∈ (pair N M E wf).scatterDimsToOperandDims from List.mem_cons_self ..)]
    refine congrArg (fun i => (idx i).toInt) (funext fun b => Fin.ext ?_)
    match b with
    | ⟨0, _⟩ => rfl
    | ⟨1, _⟩ => rfl
  have s1 : (pair N M E wf).start (ix1 e) idx 1 = (idx (ix2 e 1)).toInt := by
    unfold ScatterDims.start
    rw [dif_pos (show (1 : Fin 2) ∈ (pair N M E wf).scatterDimsToOperandDims from List.mem_cons_of_mem _ (List.mem_cons_self ..))]
    refine congrArg (fun i => (idx i).toInt) (funext fun b => Fin.ext ?_)
    match b with
    | ⟨0, _⟩ => rfl
    | ⟨1, _⟩ => rfl
  have w0 : (pair N M E wf).window (ix1 e) 0 = 0 := rfl
  have w1 : (pair N M E wf).window (ix1 e) 1 = 0 := rfl
  constructor
  · intro h
    have h0 := h 0
    have h1 := h 1
    rw [s0, w0] at h0
    rw [s1, w1] at h1
    exact ⟨by simpa using h0, by simpa using h1⟩
  · rintro ⟨h0, h1⟩ a
    match a with
    | ⟨0, _⟩ => show (pair N M E wf).start (ix1 e) idx 0 + ((pair N M E wf).window (ix1 e) 0 : Int) = n.val; rw [s0, w0]; simpa using h0
    | ⟨1, _⟩ => show (pair N M E wf).start (ix1 e) idx 1 + ((pair N M E wf).window (ix1 e) 1 : Int) = p.val; rw [s1, w1]; simpa using h1

/-- Single values added into a table. -/
theorem pair_add {N M E : Nat} (wf) (x : FVec Ideal ⟨2, ![N, M]⟩ .f32) (idx : IVec ⟨2, ![E, 2]⟩ 32) (upd : FVec Ideal ⟨1, ![E]⟩ .f32) (n : Fin N) (p : Fin M) :
    Host.scatterAdd (pair N M E wf) x idx upd (ix2 n p)
      = x (ix2 n p) + ∑ e : Fin E with ((idx (ix2 e 0)).toInt = (n.val : Int) ∧ (idx (ix2 e 1)).toInt = (p.val : Int)), upd (ix1 e) := by
  show Ideal.hostScatterAdd (pair N M E wf) x idx upd (ix2 n p) = _
  unfold Ideal.hostScatterAdd
  refine congrArg (x (ix2 n p) + ·) (Finset.sum_nbij' (fun k => k 0) (fun e => ix1 e) ?_ ?_ ?_ ?_ ?_)
  · intro k hk
    rw [eq_ix1 k] at hk
    exact Finset.mem_filter.mpr ⟨Finset.mem_univ _, (pair_hit wf idx _ n p).mp (Finset.mem_filter.mp hk).2⟩
  · intro e he
    exact Finset.mem_filter.mpr ⟨Finset.mem_univ _, (pair_hit wf idx _ n p).mpr (Finset.mem_filter.mp he).2⟩
  · intro k hk; exact (eq_ix1 k).symm
  · intro e _; rfl
  · intro k hk; exact congrArg upd (eq_ix1 k)

/-- A column written into a table from a place on. -/
abbrev col (N M L : Nat) (wf : ScatterDims.WF ⟨2, ![N, M]⟩ ⟨1, ![2]⟩ ⟨1, ![L]⟩ [0] [1] [0, 1] 0) : ScatterDims ⟨2, ![N, M]⟩ ⟨1, ![2]⟩ ⟨1, ![L]⟩ :=
  { updateWindowDims := [0], insertedWindowDims := [1], scatterDimsToOperandDims := [0, 1], indexVectorDim := 0, wf := wf }

theorem col_hit {N M L : Nat} (wf) (idx : IVec ⟨1, ![2]⟩ 32) (q : Fin L) (n : Fin N) (p : Fin M) :
    (col N M L wf).resultIdx? (ix1 q) idx = some (ix2 n p) ↔ (idx (ix1 0)).toInt + (q.val : Int) = (n.val : Int) ∧ (idx (ix1 1)).toInt = (p.val : Int) := by
  rw [resultIdx?_eq_some]
  have s0 : (col N M L wf).start (ix1 q) idx 0 = (idx (ix1 0)).toInt := by
    unfold ScatterDims.start
    rw [dif_pos (show (0 : Fin 2) ∈ (col N M L wf).scatterDimsToOperandDims from List.mem_cons_self ..)]
    refine congrArg (fun i => (idx i).toInt) (funext fun b => Fin.ext ?_)
    match b with
    | ⟨0, _⟩ => rfl
  have s1 : (col N M L wf).start (ix1 q) idx 1 = (idx (ix1 1)).toInt := by
    unfold ScatterDims.start
    rw [dif_pos (show (1 : Fin 2) ∈ (col N M L wf).scatterDimsToOperandDims from List.mem_cons_of_mem _ (List.mem_cons_self ..))]
    refine congrArg (fun i => (idx i).toInt) (funext fun b => Fin.ext ?_)
    match b with
    | ⟨0, _⟩ => rfl
  have w0 : (col N M L wf).window (ix1 q) 0 = q.val := rfl
  have w1 : (col N M L wf).window (ix1 q) 1 = 0 := rfl
  constructor
  · intro h
    have h0 := h 0
    have h1 := h 1
    rw [s0, w0] at h0
    rw [s1, w1] at h1
    exact ⟨by simpa using h0, by simpa using h1⟩
  · rintro ⟨h0, h1⟩ a
    match a with
    | ⟨0, _⟩ => show (col N M L wf).start (ix1 q) idx 0 + ((col N M L wf).window (ix1 q) 0 : Int) = n.val; rw [s0, w0]; simpa using h0
    | ⟨1, _⟩ => show (col N M L wf).start (ix1 q) idx 1 + ((col N M L wf).window (ix1 q) 1 : Int) = p.val; rw [s1, w1]; simpa using h1

/-- A plane of a table, taken whole. -/
abbrev take3 (N C D E : Nat) (wf : GatherDims.WF ⟨3, ![N, C, D]⟩ ⟨2, ![E, 1]⟩ ⟨3, ![E, C, D]⟩ [1, 2] [0] [] [0] [] 1 ![1, C, D]) : GatherDims ⟨3, ![N, C, D]⟩ ⟨2, ![E, 1]⟩ ⟨3, ![E, C, D]⟩ :=
  { offsetDims := [1, 2], collapsedSliceDims := [0], operandBatchingDims := [], startIndicesBatchingDims := [], startIndexMap := [0], indexVectorDim := 1, sliceSizes := ![1, C, D], wf := wf }

theorem take3_apply {N C D E : Nat} (wf) {α : Type} (x : (⟨3, ![N, C, D]⟩ : Shape).Idx → α) (idx : IVec ⟨2, ![E, 1]⟩ 32) (e : Fin E) (q : Fin C) (r : Fin D) (n : Fin N)
    (h : (idx (ix2 e 0)).toInt = (n.val : Int)) : Host.gather (take3 N C D E wf) x idx (ix3 e q r) = x (ix3 n q r) := by
  unfold Host.gather
  refine congrArg x (funext fun a => Fin.ext ?_)
  have s0 : (take3 N C D E wf).start (ix3 e q r) idx 0 = n.val := by
    unfold GatherDims.start
    rw [dif_pos (show (0 : Fin 3) ∈ (take3 N C D E wf).startIndexMap from List.mem_singleton.mpr rfl)]
    have : (take3 N C D E wf).siIdx (ix3 e q r) ⟨List.idxOf (0 : Fin 3) (take3 N C D E wf).startIndexMap, List.idxOf_lt_length_iff.2 (List.mem_singleton.mpr rfl)⟩ = ix2 e 0 := by
      funext b; refine Fin.ext ?_
      match b with
      | ⟨0, _⟩ => rfl
      | ⟨1, _⟩ => rfl
    rw [this, h]
    have := n.isLt
    show min ((n.val : Int).toNat) (N - 1) = n.val
    omega
  match a with
  | ⟨0, _⟩ => show (take3 N C D E wf).start (ix3 e q r) idx 0 + 0 + 0 = n.val; rw [s0]; rfl
  | ⟨1, _⟩ => show (0 + 0 + q.val : Nat) = q.val; omega
  | ⟨2, _⟩ => show (0 + 0 + r.val : Nat) = r.val; omega

/-- A row of a table, taken whole. -/
abbrev take2 (N C E : Nat) (wf : GatherDims.WF ⟨2, ![N, C]⟩ ⟨2, ![E, 1]⟩ ⟨2, ![E, C]⟩ [1] [0] [] [0] [] 1 ![1, C]) : GatherDims ⟨2, ![N, C]⟩ ⟨2, ![E, 1]⟩ ⟨2, ![E, C]⟩ :=
  { offsetDims := [1], collapsedSliceDims := [0], operandBatchingDims := [], startIndicesBatchingDims := [], startIndexMap := [0], indexVectorDim := 1, sliceSizes := ![1, C], wf := wf }

theorem take2_apply {N C E : Nat} (wf) {α : Type} (x : (⟨2, ![N, C]⟩ : Shape).Idx → α) (idx : IVec ⟨2, ![E, 1]⟩ 32) (e : Fin E) (q : Fin C) (n : Fin N)
    (h : (idx (ix2 e 0)).toInt = (n.val : Int)) : Host.gather (take2 N C E wf) x idx (ix2 e q) = x (ix2 n q) := by
  unfold Host.gather
  refine congrArg x (funext fun a => Fin.ext ?_)
  have s0 : (take2 N C E wf).start (ix2 e q) idx 0 = n.val := by
    unfold GatherDims.start
    rw [dif_pos (show (0 : Fin 2) ∈ (take2 N C E wf).startIndexMap from List.mem_singleton.mpr rfl)]
    have : (take2 N C E wf).siIdx (ix2 e q) ⟨List.idxOf (0 : Fin 2) (take2 N C E wf).startIndexMap, List.idxOf_lt_length_iff.2 (List.mem_singleton.mpr rfl)⟩ = ix2 e 0 := by
      funext b; refine Fin.ext ?_
      match b with
      | ⟨0, _⟩ => rfl
      | ⟨1, _⟩ => rfl
    rw [this, h]
    have := n.isLt
    show min ((n.val : Int).toNat) (N - 1) = n.val
    omega
  match a with
  | ⟨0, _⟩ => show (take2 N C E wf).start (ix2 e q) idx 0 + 0 + 0 = n.val; rw [s0]; rfl
  | ⟨1, _⟩ => show (0 + 0 + q.val : Nat) = q.val; omega

end Cert.Rows

end
-- ==== Proof.Gcn.lean ====
module

public import Idealize.ShloMosaic.PureOps.Ideal
public import Idealize.ShloMosaic.Lib.Pointwise

/-! The mathematics of the layers over the reals: a table of edge counts against a sum over edges, the two
    ways of combining an edge's features, and attention weights normalised before or after the sum. -/

@[expose] public section

noncomputable section

namespace Cert.Gcn

open Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) :=
  (EReal.coe_strictMono.monotone.map_max).symm

theorem coe_div (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem coe_exp (x : ℝ) : Ideal.exp (x : EReal) = ((Real.exp x : ℝ) : EReal) := rfl

variable {E K : Type} [Fintype E] [Fintype K] [DecidableEq K]

/-- How many edges run from `x` to `d`. -/
def count (s t : E → K) (d x : K) : ℝ := ∑ e : E with (t e = d ∧ s e = x), (1 : ℝ)

theorem count_nonneg (s t : E → K) (d x : K) : 0 ≤ count s t d x := Finset.sum_nonneg fun _ _ => zero_le_one

theorem count_pos (s t : E → K) (d x : K) : 0 < count s t d x ↔ ∃ e, t e = d ∧ s e = x := by
  constructor
  · intro h
    by_contra q
    refine h.ne' (Finset.sum_eq_zero fun e he => (q ⟨e, (Finset.mem_filter.mp he).2⟩).elim)
  · rintro ⟨e, he⟩
    exact Finset.sum_pos (fun _ _ => zero_lt_one) ⟨e, Finset.mem_filter.mpr ⟨Finset.mem_univ _, he⟩⟩

/-- A row of counts against a column is the sum over the edges into the row's node. -/
theorem sum_count (s t : E → K) (f : K → ℝ) (d : K) : ∑ x : K, count s t d x * f x = ∑ e : E with t e = d, f (s e) := by
  unfold count
  rw [← Finset.sum_fiberwise (Finset.univ.filter fun e : E => t e = d) s (fun e => f (s e))]
  refine Finset.sum_congr rfl fun x _ => ?_
  rw [Finset.sum_mul, Finset.filter_filter]
  refine Finset.sum_congr rfl fun e he => ?_
  rw [one_mul, (Finset.mem_filter.mp he).2.2]

/-- An edge's own row: its attributes, a one and two zeros. -/
def edgeRow (ea : Fin 5 → ℝ) (k : Fin 8) : ℝ := if h : k.val < 5 then ea ⟨k.val, h⟩ else if k.val - 5 < 1 then 1 else 0
/-- The upper rows of the combining map. -/
def up (k : Fin 64) : Fin 128 := ⟨k.val, by omega⟩
/-- The lower rows. -/
def lo (k : Fin 64) : Fin 128 := ⟨64 + k.val, by omega⟩
/-- What an edge's own row is multiplied by. -/
def edgeMap (We : Fin 5 → Fin 64 → ℝ) (be : Fin 64 → ℝ) (Wc : Fin 128 → Fin 64 → ℝ) (bc : Fin 64 → ℝ) (k : Fin 8) (j : Fin 64) : ℝ :=
  if h : k.val < 5 then ∑ m, We ⟨k.val, h⟩ m * Wc (lo m) j else if k.val - 5 < 1 then (∑ m, be m * Wc (lo m) j) + bc j else 0
/-- A source row beside an edge's mapped attributes. -/
def beside (f : Fin 64 → ℝ) (ea : Fin 5 → ℝ) (We : Fin 5 → Fin 64 → ℝ) (be : Fin 64 → ℝ) (c : Fin 128) : ℝ :=
  if h : c.val < 64 then f ⟨c.val, h⟩ else (∑ k, ea k * We k ⟨c.val - 64, by omega⟩) + be ⟨c.val - 64, by omega⟩
/-- The message of an edge. -/
def message (f : Fin 64 → ℝ) (ea : Fin 5 → ℝ) (We : Fin 5 → Fin 64 → ℝ) (be : Fin 64 → ℝ) (Wc : Fin 128 → Fin 64 → ℝ) (bc : Fin 64 → ℝ) (j : Fin 64) : ℝ :=
  (∑ c, beside f ea We be c * Wc c j) + bc j

theorem message_split (f : Fin 64 → ℝ) (ea : Fin 5 → ℝ) (We : Fin 5 → Fin 64 → ℝ) (be : Fin 64 → ℝ) (Wc : Fin 128 → Fin 64 → ℝ) (bc : Fin 64 → ℝ) (j : Fin 64) :
    message f ea We be Wc bc j = (∑ k, f k * Wc (up k) j) + ∑ k, edgeRow ea k * edgeMap We be Wc bc k j := by
  unfold message
  have h : ∑ c : Fin 128, beside f ea We be c * Wc c j = (∑ k : Fin 64, f k * Wc (up k) j) + ∑ m : Fin 64, ((∑ k, ea k * We k m) + be m) * Wc (lo m) j := by
    refine (Fin.sum_univ_add (a := 64) (b := 64) (fun c : Fin 128 => beside f ea We be c * Wc c j)).trans (congrArg₂ (· + ·) ?_ ?_)
    · refine Finset.sum_congr rfl fun k _ => ?_
      unfold beside
      rw [dif_pos (show (Fin.castAdd 64 k).val < 64 from k.isLt)]
      rfl
    · refine Finset.sum_congr rfl fun m _ => ?_
      unfold beside
      rw [dif_neg (show ¬(Fin.natAdd 64 m).val < 64 from by simp)]
      have e : (⟨(Fin.natAdd 64 m).val - 64, by simp⟩ : Fin 64) = m := Fin.ext (by simp)
      rw [e]
      rfl
  rw [h, add_assoc]
  refine congrArg (_ + ·) ?_
  have h8 : ∑ k : Fin 8, edgeRow ea k * edgeMap We be Wc bc k j = (∑ k : Fin 5, ea k * ∑ m, We k m * Wc (lo m) j) + (1 * ((∑ m, be m * Wc (lo m) j) + bc j) + (0 * 0 + 0 * 0)) := by
    refine (Fin.sum_univ_add (a := 5) (b := 3) (fun k : Fin 8 => edgeRow ea k * edgeMap We be Wc bc k j)).trans (congrArg₂ (· + ·) ?_ ?_)
    · refine Finset.sum_congr rfl fun k _ => congrArg₂ (· * ·) ?_ ?_
      · unfold edgeRow
        rw [dif_pos (show (Fin.castAdd 3 k).val < 5 from k.isLt)]
        rfl
      · unfold edgeMap
        rw [dif_pos (show (Fin.castAdd 3 k).val < 5 from k.isLt)]
        rfl
    · rw [Fin.sum_univ_three, add_assoc]
      refine congrArg₂ (· + ·) (congrArg₂ (· * ·) ?_ ?_) (congrArg₂ (· + ·) (congrArg₂ (· * ·) ?_ ?_) (congrArg₂ (· * ·) ?_ ?_))
      · exact (dif_neg (by decide)).trans (if_pos (by decide))
      · exact (dif_neg (by decide)).trans (if_pos (by decide))
      · exact (dif_neg (by decide)).trans (if_neg (by decide))
      · exact (dif_neg (by decide)).trans (if_neg (by decide))
      · exact (dif_neg (by decide)).trans (if_neg (by decide))
      · exact (dif_neg (by decide)).trans (if_neg (by decide))
  rw [h8]
  simp only [add_mul, Finset.sum_add_distrib, Finset.sum_mul, Finset.mul_sum, mul_assoc, mul_zero, one_mul, add_zero]
  rw [Finset.sum_comm, add_assoc]

/-- The two ways of combining the messages into a node agree. -/
theorem combine (S : Finset E) (f : E → Fin 64 → ℝ) (ea : E → Fin 5 → ℝ) (We : Fin 5 → Fin 64 → ℝ) (be : Fin 64 → ℝ) (Wc : Fin 128 → Fin 64 → ℝ) (bc : Fin 64 → ℝ) (j : Fin 64) :
    (∑ k, (∑ e ∈ S, f e k) * Wc (up k) j) + ∑ k, (∑ e ∈ S, edgeRow (ea e) k) * edgeMap We be Wc bc k j = ∑ e ∈ S, message (f e) (ea e) We be Wc bc j := by
  simp only [message_split, Finset.sum_add_distrib, Finset.sum_mul]
  rw [Finset.sum_comm (s := S), Finset.sum_comm (s := S)]

/-! ## Attention -/

/-- The leaky rectifier. -/
def lk (r z : ℝ) : ℝ := max z (r * z)

theorem lk_mono {r : ℝ} (h0 : 0 ≤ r) : Monotone (lk r) := fun x y h => max_le_max h (mul_le_mul_of_nonneg_left h h0)

theorem lk_of_nonneg {r z : ℝ} (h1 : r ≤ 1) (h : 0 ≤ z) : lk r z = z := max_eq_left (by nlinarith)
theorem lk_of_neg {r z : ℝ} (h1 : r ≤ 1) (h : z < 0) : lk r z = r * z := max_eq_right (by nlinarith)

/-- The edges into a node. -/
def into (t : E → K) (d : K) : Finset E := Finset.univ.filter fun e => t e = d

/-- The greatest source score over the edges into a node (zero where there are none). -/
def top (s t : E → K) (u : K → ℝ) (d : K) : ℝ := if h : (into t d).Nonempty then (into t d).sup' h (fun e => u (s e)) else 0

theorem top_le_iff (s t : E → K) (u : K → ℝ) (d : K) (h : (into t d).Nonempty) (b : ℝ) : top s t u d ≤ b ↔ ∀ e, t e = d → u (s e) ≤ b := by
  unfold top
  rw [dif_pos h, Finset.sup'_le_iff]
  exact ⟨fun H e he => H e (Finset.mem_filter.mpr ⟨Finset.mem_univ _, he⟩), fun H e he => H e (Finset.mem_filter.mp he).2⟩

theorem top_mem (s t : E → K) (u : K → ℝ) (d : K) (h : (into t d).Nonempty) : ∃ e, t e = d ∧ top s t u d = u (s e) := by
  unfold top
  rw [dif_pos h]
  obtain ⟨e, he, q⟩ := Finset.exists_mem_eq_sup' h (fun e => u (s e))
  exact ⟨e, (Finset.mem_filter.mp he).2, q⟩

/-- The masked row maximum over the table of counts. -/
theorem sup_count (s t : E → K) (u : K → ℝ) (d : K) (h : (into t d).Nonempty) :
    (Finset.univ.sup fun x : K => if (0 : EReal) < (count s t d x : EReal) then (u x : EReal) else ⊥) = (top s t u d : EReal) := by
  refine le_antisymm (Finset.sup_le fun x _ => ?_) ?_
  · split
    · next q =>
      obtain ⟨e, he, hx⟩ := (count_pos s t d x).mp (by exact_mod_cast q)
      exact EReal.coe_le_coe_iff.mpr (hx ▸ (top_le_iff s t u d h _).mp le_rfl e he)
    · exact bot_le
  · obtain ⟨e, he, q⟩ := top_mem s t u d h
    rw [q]
    refine le_trans (le_of_eq ?_) (Finset.le_sup (Finset.mem_univ (s e)))
    rw [if_pos (by exact_mod_cast (count_pos s t d (s e)).mpr ⟨e, he, rfl⟩)]

/-- The masked maximum over the edges of the rectified scores. -/
theorem sup_edges (s t : E → K) (u v : K → ℝ) (d : K) {r : ℝ} (h0 : 0 ≤ r) (h : (into t d).Nonempty) :
    (Finset.univ.sup fun e : E => if t e = d then ((lk r (u (s e) + v (t e)) : ℝ) : EReal) else ⊥) = ((lk r (top s t u d + v d) : ℝ) : EReal) := by
  refine le_antisymm (Finset.sup_le fun e _ => ?_) ?_
  · split
    · next q =>
      refine EReal.coe_le_coe_iff.mpr (lk_mono h0 ?_)
      rw [q]
      exact add_le_add_left ((top_le_iff s t u d h _).mp le_rfl e q) _
    · exact bot_le
  · obtain ⟨e, he, q⟩ := top_mem s t u d h
    rw [q]
    refine le_trans (le_of_eq ?_) (Finset.le_sup (Finset.mem_univ e))
    rw [if_pos he, he]

/-- With no edge in, there is no maximum. -/
theorem sup_none (t : E → K) (g : E → EReal) (d : K) (h : ¬(into t d).Nonempty) : (Finset.univ.sup fun e : E => if t e = d then g e else ⊥) = ⊥ := by
  refine le_antisymm (Finset.sup_le fun e _ => ?_) bot_le
  rw [if_neg]
  exact fun q => h ⟨e, Finset.mem_filter.mpr ⟨Finset.mem_univ _, q⟩⟩

/-- An edge's exponential. -/
def ex (s t : E → K) (u v : K → ℝ) (r : ℝ) (x d : K) : ℝ := Real.exp (lk r (v d + u x) - lk r (top s t u d + v d))

theorem normalise (S : Finset E) (w h : E → ℝ) (D : ℝ) : ∑ e ∈ S, h e * (w e / D) = (∑ e ∈ S, w e * h e) / D := by
  rw [Finset.sum_div]
  exact Finset.sum_congr rfl fun e _ => by ring

end Cert.Gcn

end
-- ==== Proof.HostPt.lean ====
module

public import proofs.«01_k».proof.Proof.HostDefs
public import proofs.«01_k».proof.Proof.Rows
public import proofs.«01_k».proof.Proof.Gcn

/-! The kernel's host arrays read at an element. -/

@[expose] public section

set_option maxRecDepth 16384

noncomputable section

namespace Cert.KernelIdeal.Host
open Cert.KernelIdeal
open Idealize.ShloMosaic Idealize.ShloMosaic.TcCoe

theorem sitofp_zero : (FloatOps.sitofp FTy.f32 (0#32) : Ideal .f32) = (0 : EReal) := by
  show ((((0#32 : BitVec 32).toInt : ℝ)) : EReal) = 0
  norm_num

theorem sources_at (x : IVec S2x320000 32) (e : Fin 320000) : sources x (ix1 e) = x (ix2 0 e) := by
  pointwise [sources]
theorem targets_at (x : IVec S2x320000 32) (e : Fin 320000) : targets x (ix1 e) = x (ix2 1 e) := by
  pointwise [targets]
theorem wrapped_at (e : IVec S320000 32) (i : Fin 320000) (h : (e (ix1 i)).toNat < 2 ^ 31) : wrapped e (ix2 i 0) = e (ix1 i) := by
  have q : wrapped e (ix2 i 0) = Scalar.select (IntOp.cmpi .slt (e (ix1 i)) 0#32) (e (ix1 i) + 10240#32) (e (ix1 i)) := by
    pointwise [wrapped]
    rfl
  rw [q]; exact Routing.wrap_of_lt _ _ h
theorem upper_at (wc : FVec Ideal S128x64 .f32) (k j : Fin 64) : upper wc (ix2 k j) = wc (ix2 (Gcn.up k) j) := by
  pointwise [upper]
  rfl
theorem lower_at (wc : FVec Ideal S128x64 .f32) (k j : Fin 64) : lower wc (ix2 k j) = wc (ix2 (Gcn.lo k) j) := by
  pointwise [lower]
  rfl
theorem row_at (b : FVec Ideal S64 .f32) (j : Fin 64) : row b (ix2 0 j) = b (ix1 j) := by
  pointwise [row]
theorem edgeRows_at (ea : FVec Ideal S320000x5 .f32) (e : Fin 320000) (k : Fin 8) : edgeRows ea (ix2 e k) = if h : k.val < 5 then ea (ix2 e ⟨k.val, h⟩) else if k.val - 5 < 1 then 1 else 0 := by
  pointwise [edgeRows]
  rfl
theorem edgeMap_at (we : FVec Ideal S5x64 .f32) (be : FVec Ideal S64 .f32) (wc : FVec Ideal S128x64 .f32) (bc : FVec Ideal S64 .f32) (k : Fin 8) (j : Fin 64) :
    edgeMap we be wc bc (ix2 k j) = if h : k.val < 5 then ∑ m : Fin 64, we (ix2 ⟨k.val, h⟩ m) * wc (ix2 (Gcn.lo m) j) else if k.val - 5 < 1 then (∑ m : Fin 64, be (ix1 m) * wc (ix2 (Gcn.lo m) j)) + bc (ix1 j) else 0 := by
  pointwise [edgeMap]
  simp only [lower_at]
  rfl
theorem padded_at (x : FVec Ideal S10000x128 .f32) (i : Fin 10240) (k : Fin 128) : padded x (ix2 i k) = if h : i.val < 10000 then x (ix2 ⟨i.val, h⟩ k) else 0 := by
  pointwise [padded]
  rw [sitofp_zero]
theorem headRow0_at (v : FVec Ideal S2x64 .f32) (j : Fin 64) : headRow0 v (ix1 j) = v (ix2 0 j) := by
  pointwise [headRow0]
theorem headRow1_at (v : FVec Ideal S2x64 .f32) (j : Fin 64) : headRow1 v (ix1 j) = v (ix2 1 j) := by
  pointwise [headRow1]
theorem place_0 (r q : BitVec 32) : place r q (ix1 0) = r := by
  pointwise [place]
theorem place_1 (r q : BitVec 32) : place r q (ix1 1) = q := by
  pointwise [place]
theorem scoreRows_at (al : FVec Ideal S10240x8 .f32) (k : Fin 8) (hk : k.val < 2) (s : Fin 10240) : scoreRows al (ix2 k s) = al (ix2 s k) := by
  pointwise [scoreRows]
  rw [dif_pos hk]
theorem mean_at (num : FVec Ideal S10240x128 .f32) (den : FVec Ideal S10240x8 .f32) (bg : FVec Ideal S64 .f32) (n : Fin 10000) (j : Fin 64) :
    mean num den bg (ix2 n j) = Ideal.ofBits FTy.f32 0x3F000000#32 * (Ideal.div (num (ix2 ⟨n.val, by omega⟩ ⟨j.val, by omega⟩)) (den (ix2 ⟨n.val, by omega⟩ 0) + Ideal.ofBits FTy.f32 0x24E69595#32)
      + Ideal.div (num (ix2 ⟨n.val, by omega⟩ ⟨64 + j.val, by omega⟩)) (den (ix2 ⟨n.val, by omega⟩ 1) + Ideal.ofBits FTy.f32 0x24E69595#32)) + bg (ix1 j) := by
  pointwise [mean, normal0, normal1]

/-- Every entry of the edge list is a node. -/
def Valid (x : IVec S2x320000 32) : Prop := ∀ (r : Fin 2) (e : Fin 320000), (x (ix2 r e)).toNat < 10000

/-- The table's row of an edge's end. -/
def node (x : IVec S2x320000 32) (hv : Valid x) (r : Fin 2) (e : Fin 320000) : Fin 10240 := ⟨(x (ix2 r e)).toNat, by have := hv r e; omega⟩

theorem toInt_eq (b : BitVec 32) (h : b.toNat < 10000) : b.toInt = (b.toNat : Int) := BitVec.toInt_eq_toNat_of_lt (by omega)

theorem target_eq (x : IVec S2x320000 32) (hv : Valid x) (e : Fin 320000) (d : Fin 10240) :
    (wrapped (targets x) (ix2 e 0)).toInt = (d.val : Int) ↔ node x hv 1 e = d := by
  have h := hv 1 e
  rw [wrapped_at _ _ (by rw [targets_at]; omega), targets_at, toInt_eq _ h]
  exact ⟨fun q => Fin.ext (by exact_mod_cast q), fun q => by rw [← q]; rfl⟩

theorem source_eq (x : IVec S2x320000 32) (hv : Valid x) (e : Fin 320000) (d : Fin 10240) :
    (wrapped (sources x) (ix2 e 0)).toInt = (d.val : Int) ↔ node x hv 0 e = d := by
  have h := hv 0 e
  rw [wrapped_at _ _ (by rw [sources_at]; omega), sources_at, toInt_eq _ h]
  exact ⟨fun q => Fin.ext (by exact_mod_cast q), fun q => by rw [← q]; rfl⟩

/-- The table of edge counts. -/
theorem adjacency_at (x : IVec S2x320000 32) (hv : Valid x) (d s : Fin 10240) :
    adjacency x (ix2 d s) = ((Gcn.count (node x hv 0) (node x hv 1) d s : ℝ) : EReal) := by
  refine (Rows.pair_add _ _ _ _ d s).trans ?_
  have e0 : ∀ e : Fin 320000, (concatenate S320000x2 1 [⟨S320000x1, wrapped (targets x)⟩, ⟨S320000x1, wrapped (sources x)⟩] Facts₀.concatenates_S320000x1_S320000x1_S320000x2_d1 : IVec S320000x2 32) (ix2 e 0) = wrapped (targets x) (ix2 e 0) := fun e => by
    pointwise []
  have e1 : ∀ e : Fin 320000, (concatenate S320000x2 1 [⟨S320000x1, wrapped (targets x)⟩, ⟨S320000x1, wrapped (sources x)⟩] Facts₀.concatenates_S320000x1_S320000x1_S320000x2_d1 : IVec S320000x2 32) (ix2 e 1) = wrapped (sources x) (ix2 e 0) := fun e => by
    pointwise []
  have z : (broadcastInDim S10240x10240 ![] Facts₀.bcast_S_S10240x10240 (constant S_ .f32 0x00000000#32) : FVec Ideal S10240x10240 .f32) (ix2 d s) = 0 := by
    pointwise []
  have o : ∀ e : Fin 320000, (broadcastInDim S320000 ![] Facts₀.bcast_S_S320000 (constant S_ .f32 0x3F800000#32) : FVec Ideal S320000 .f32) (ix1 e) = ((1 : ℝ) : EReal) := fun e => by
    pointwise []
    exact EReal.coe_one.symm
  rw [z]
  simp only [e0, e1, o, target_eq x hv, source_eq x hv]
  rw [Gcn.coe_sum]
  exact zero_add _

/-- The edges' rows summed into their targets. -/
theorem edgeSums_at (x : IVec S2x320000 32) (hv : Valid x) (ea : FVec Ideal S320000x5 .f32) (EA : Fin 320000 → Fin 5 → ℝ) (he : ∀ e k, ea (ix2 e k) = (EA e k : EReal)) (d : Fin 10240) (k : Fin 8) :
    edgeSums x ea (ix2 d k) = ((∑ e ∈ Gcn.into (node x hv 1) d, Gcn.edgeRow (EA e) k : ℝ) : EReal) := by
  refine (Rows.row2_add _ _ _ _ d k).trans ?_
  have z : (broadcastInDim S10240x8 ![] Facts₀.bcast_S_S10240x8 (constant S_ .f32 0x00000000#32) : FVec Ideal S10240x8 .f32) (ix2 d k) = 0 := by
    pointwise []
  have q : ∀ e : Fin 320000, edgeRows ea (ix2 e k) = ((Gcn.edgeRow (EA e) k : ℝ) : EReal) := fun e => by
    rw [edgeRows_at]
    unfold Gcn.edgeRow
    by_cases h : k.val < 5
    · rw [dif_pos h, dif_pos h, he]
    · rw [dif_neg h, dif_neg h]
      split <;> simp
  rw [z]
  simp only [q, target_eq x hv]
  rw [Gcn.coe_sum]
  exact zero_add _

/-- The edges' map over real weights. -/
theorem edgeMap_real (we : FVec Ideal S5x64 .f32) (be : FVec Ideal S64 .f32) (wc : FVec Ideal S128x64 .f32) (bc : FVec Ideal S64 .f32)
    (We : Fin 5 → Fin 64 → ℝ) (Be Bc : Fin 64 → ℝ) (Wc : Fin 128 → Fin 64 → ℝ) (h1 : ∀ i j, we (ix2 i j) = (We i j : EReal)) (h2 : ∀ i, be (ix1 i) = (Be i : EReal))
    (h3 : ∀ i j, wc (ix2 i j) = (Wc i j : EReal)) (h4 : ∀ i, bc (ix1 i) = (Bc i : EReal)) (k : Fin 8) (j : Fin 64) :
    edgeMap we be wc bc (ix2 k j) = ((Gcn.edgeMap We Be Wc Bc k j : ℝ) : EReal) := by
  rw [edgeMap_at]
  unfold Gcn.edgeMap
  by_cases h : k.val < 5
  · rw [dif_pos h, dif_pos h]
    simp only [h1, h3, ← EReal.coe_mul, Gcn.coe_sum]
  · rw [dif_neg h, dif_neg h]
    by_cases q : k.val - 5 < 1
    · rw [if_pos q, if_pos q]
      simp only [h2, h3, h4, ← EReal.coe_mul, Gcn.coe_sum, ← EReal.coe_add]
    · rw [if_neg q, if_neg q]; simp

/-- A column written: inside it the column, elsewhere the table. -/
theorem placed_at (c : FVec Ideal S128x8 .f32) (r q : BitVec 32) (v : FVec Ideal S64 .f32) (hr : r.toNat ≤ 64) (hq : q.toNat < 8) (n : Fin 128) (p : Fin 8) :
    placed c r q v (ix2 n p) = if h : (r.toNat ≤ n.val ∧ n.val < r.toNat + 64) ∧ q.toNat = p.val then v (ix1 ⟨n.val - r.toNat, by omega⟩) else c (ix2 n p) := by
  have ir : r.toInt = (r.toNat : Int) := BitVec.toInt_eq_toNat_of_lt (by omega)
  have iq : q.toInt = (q.toNat : Int) := BitVec.toInt_eq_toNat_of_lt (by omega)
  have hit : ∀ k : Fin 64, scatter_S128x8_S2_S64_0_1_01_0.resultIdx? (ix1 k) (place r q) = some (ix2 n p) ↔ r.toNat + k.val = n.val ∧ q.toNat = p.val := fun k => by
    refine (Rows.col_hit _ (place r q) k n p).trans ?_
    rw [place_0, place_1, ir, iq]
    omega
  by_cases h : (r.toNat ≤ n.val ∧ n.val < r.toNat + 64) ∧ q.toNat = p.val
  · rw [dif_pos h]
    refine Routing.scatter_set_hit _ c (place r q) v _ _ (fun k hk => ?_) (ix1 ⟨n.val - r.toNat, by omega⟩) ((hit _).mpr ⟨by show r.toNat + (n.val - r.toNat) = n.val; omega, h.2⟩)
    rw [eq_ix1 k] at hk ⊢
    have e := ((hit (k 0)).mp hk).1
    exact congrArg (fun z => v (ix1 z)) (Fin.ext (by show (k 0).val = n.val - r.toNat; omega))
  · rw [dif_neg h]
    refine Routing.scatter_set_miss _ c (place r q) v _ fun k hk => h ?_
    rw [eq_ix1 k] at hk
    have e := (hit (k 0)).mp hk
    have := (k 0).isLt
    exact ⟨⟨by omega, by have : (k 0).val < 64 := (k 0).isLt; omega⟩, e.2⟩

theorem zeros_at (n : Fin 128) (p : Fin 8) : (broadcastInDim S128x8 ![] Facts₀.bcast_S_S128x8 (constant S_ .f32 0x00000000#32) : FVec Ideal S128x8 .f32) (ix2 n p) = 0 := by
  pointwise []

/-- The score table's first column: the first head's source row above zeros. -/
theorem scoreMap_0 (a b : FVec Ideal S2x64 .f32) (n : Fin 128) : scoreMap a b (ix2 n 0) = if h : n.val < 64 then a (ix2 0 ⟨n.val, h⟩) else 0 := by
  unfold scoreMap
  rw [placed_at _ _ _ _ (by decide) (by decide), dif_neg (fun h => absurd h.2 (by decide)), placed_at _ _ _ _ (by decide) (by decide), dif_neg (fun h => absurd h.2 (by decide)),
    placed_at _ _ _ _ (by decide) (by decide), dif_neg (fun h => absurd h.2 (by decide)), placed_at _ _ _ _ (by decide) (by decide), zeros_at]
  by_cases h : n.val < 64
  · rw [dif_pos h, dif_pos ⟨⟨Nat.zero_le _, by show n.val < 0 + 64; omega⟩, rfl⟩, headRow0_at]
    rfl
  · rw [dif_neg h, dif_neg fun q => h (by have : n.val < 0 + 64 := q.1.2; omega)]
theorem scoreMap_1 (a b : FVec Ideal S2x64 .f32) (n : Fin 128) : scoreMap a b (ix2 n 1) = if h : 64 ≤ n.val then a (ix2 1 ⟨n.val - 64, by omega⟩) else 0 := by
  unfold scoreMap
  rw [placed_at _ _ _ _ (by decide) (by decide), dif_neg (fun h => absurd h.2 (by decide)), placed_at _ _ _ _ (by decide) (by decide), dif_neg (fun h => absurd h.2 (by decide)),
    placed_at _ _ _ _ (by decide) (by decide)]
  by_cases h : 64 ≤ n.val
  · rw [dif_pos h, dif_pos ⟨⟨h, by show n.val < 64 + 64; omega⟩, rfl⟩, headRow1_at]
    rfl
  · rw [dif_neg h, dif_neg fun q => h q.1.1, placed_at _ _ _ _ (by decide) (by decide), dif_neg (fun h => absurd h.2 (by decide)), zeros_at]
theorem scoreMap_2 (a b : FVec Ideal S2x64 .f32) (n : Fin 128) : scoreMap a b (ix2 n 2) = if h : n.val < 64 then b (ix2 0 ⟨n.val, h⟩) else 0 := by
  unfold scoreMap
  rw [placed_at _ _ _ _ (by decide) (by decide), dif_neg (fun h => absurd h.2 (by decide)), placed_at _ _ _ _ (by decide) (by decide)]
  by_cases h : n.val < 64
  · rw [dif_pos h, dif_pos ⟨⟨Nat.zero_le _, by show n.val < 0 + 64; omega⟩, rfl⟩, headRow0_at]
    rfl
  · rw [dif_neg h, dif_neg fun q => h (by have : n.val < 0 + 64 := q.1.2; omega), placed_at _ _ _ _ (by decide) (by decide), dif_neg (fun h => absurd h.2 (by decide)),
      placed_at _ _ _ _ (by decide) (by decide), dif_neg (fun h => absurd h.2 (by decide)), zeros_at]
theorem scoreMap_3 (a b : FVec Ideal S2x64 .f32) (n : Fin 128) : scoreMap a b (ix2 n 3) = if h : 64 ≤ n.val then b (ix2 1 ⟨n.val - 64, by omega⟩) else 0 := by
  unfold scoreMap
  rw [placed_at _ _ _ _ (by decide) (by decide)]
  by_cases h : 64 ≤ n.val
  · rw [dif_pos h, dif_pos ⟨⟨h, by show n.val < 64 + 64; omega⟩, rfl⟩, headRow1_at]
    rfl
  · rw [dif_neg h, dif_neg fun q => h q.1.1, placed_at _ _ _ _ (by decide) (by decide), dif_neg (fun h => absurd h.2 (by decide)), placed_at _ _ _ _ (by decide) (by decide),
      dif_neg (fun h => absurd h.2 (by decide)), placed_at _ _ _ _ (by decide) (by decide), dif_neg (fun h => absurd h.2 (by decide)), zeros_at]

/-- A sum against the first head's column. -/
theorem sum_up (f : Fin 128 → EReal) (g : Fin 128 → EReal) (a : Fin 64 → EReal) (h : ∀ n, g n = if h : n.val < 64 then a ⟨n.val, h⟩ else 0) :
    ∑ n, f n * g n = ∑ j, f (Gcn.up j) * a j := by
  refine (Fin.sum_univ_add (a := 64) (b := 64) (fun n : Fin 128 => f n * g n)).trans ?_
  rw [Finset.sum_eq_zero (s := Finset.univ) (f := fun i : Fin 64 => f (Fin.natAdd 64 i) * g (Fin.natAdd 64 i)) fun i _ => by
    rw [h, dif_neg (show ¬(Fin.natAdd 64 i).val < 64 from by simp), mul_zero], add_zero]
  refine Finset.sum_congr rfl fun j _ => ?_
  rw [h, dif_pos (show (Fin.castAdd 64 j).val < 64 from j.isLt)]
  rfl
theorem sum_lo (f : Fin 128 → EReal) (g : Fin 128 → EReal) (a : Fin 64 → EReal) (h : ∀ n, g n = if h : 64 ≤ n.val then a ⟨n.val - 64, by omega⟩ else 0) :
    ∑ n, f n * g n = ∑ j, f (Gcn.lo j) * a j := by
  refine (Fin.sum_univ_add (a := 64) (b := 64) (fun n : Fin 128 => f n * g n)).trans ?_
  rw [Finset.sum_eq_zero (s := Finset.univ) (f := fun i : Fin 64 => f (Fin.castAdd 64 i) * g (Fin.castAdd 64 i)) fun i _ => by
    rw [h, dif_neg (show ¬64 ≤ (Fin.castAdd 64 i).val from by simp), mul_zero], zero_add]
  refine Finset.sum_congr rfl fun j _ => ?_
  rw [h, dif_pos (show 64 ≤ (Fin.natAdd 64 j).val from by simp)]
  refine congrArg₂ (· * ·) rfl (congrArg a (Fin.ext (by simp)))

end Cert.KernelIdeal.Host

end
-- ==== Proof.Pre.lean ====
module

public import proofs.«01_k».proof.Defs
public import proofs.«01_k».proof.Proof.HostPt
public import Idealize.ShloMosaic.Lib.Claim
public import Idealize.ShloMosaic.Lib.Pointwise

/-! What the precondition says: every float is a real, and every entry of the edge list is a node. -/

@[expose] public section

set_option maxRecDepth 16384

noncomputable section

namespace Cert.Pre_finite_in_range

open Idealize.ShloMosaic Idealize.ShloMosaic.TcCoe

theorem facts : Facts where
  bcast_S_S2x320000 := by decide
  bcast_S_S10000x128 := by decide
  bcast_S_S320000x5 := by decide
  bcast_S_S128x64 := by decide
  bcast_S_S64 := by decide
  bcast_S_S5x64 := by decide
  bcast_S_S64x64 := by decide
  bcast_S_S64x128 := by decide
  bcast_S_S2x64 := by decide

/-- Every entry is a real. -/
def Reals {s : Shape} (x : FVec Ideal s .f32) : Prop := ∀ i, ∃ r : ℝ, x i = (r : EReal)

theorem inf_bits : (FloatOps.ofBits .f32 0x7F800000#32 : Ideal .f32) = (⊤ : EReal) := by
  show Ideal.ofBits .f32 0x7F800000#32 = ⊤
  simp [Ideal.ofBits, Ideal.ieee]

theorem real_of (x : EReal) (h : Ideal.cmp .olt (max x (-x)) ⊤ = 1#1) : ∃ r : ℝ, x = (r : EReal) := by
  have q : max x (-x) < ⊤ := by
    by_contra n
    unfold Ideal.cmp at h
    simp only [decide_eq_false n] at h
    exact absurd h (by decide)
  induction x using EReal.rec with
  | bot => simp at q
  | top => simp at q
  | coe r => exact ⟨r, rfl⟩

theorem reals {s : Shape} (b : S_.BroadcastsInDim s (![] : Fin 0 → Fin s.rank)) (x : FVec Ideal s .f32)
    (h : cmpf .olt (Host.absf x) (broadcastInDim s ![] b (constant S_ .f32 0x7F800000#32 : FVec Ideal S_ .f32)) = fun _ => 1#1) : Reals x := fun i => by
  refine real_of (x i) ?_
  have e := congrFun h i
  rw [← inf_bits]
  exact e

theorem valid (b : S_.BroadcastsInDim S2x320000 (![] : Fin 0 → Fin S2x320000.rank)) (x : IVec S2x320000 32)
    (h : andi (cmpi .sge x (broadcastInDim S2x320000 ![] b (constantI S_ 32 0#32))) (cmpi .slt x (broadcastInDim S2x320000 ![] b (constantI S_ 32 10000#32))) = fun _ => 1#1) :
    Cert.KernelIdeal.Host.Valid x := fun r e => by
  have q := congrFun h (ix2 r e)
  have q' : (IntOp.cmpi .sge (x (ix2 r e)) 0#32 &&& IntOp.cmpi .slt (x (ix2 r e)) 10000#32) = 1#1 := q
  generalize x (ix2 r e) = y at q'
  simp only [IntOp.cmpi] at q'
  by_cases h0 : (0#32).sle y
  · by_cases h1 : y.slt 10000#32
    · have a := BitVec.sle_iff_toInt_le.mp h0
      have b := BitVec.slt_iff_toInt_lt.mp h1
      have t := BitVec.toInt_eq_toNat_cond y
      simp at a b
      omega
    · simp [h1] at q'
  · simp [h0] at q'

/-- The arguments, all real. -/
structure Good [hPre : Facts] (m : (ℓ : Loc Cert.KernelIdeal.nD Cert.KernelIdeal.τ Cert.KernelIdeal.sig) → Buf (Elt Ideal) ℓ) (c : Dev Cert.KernelIdeal.nD) : Prop where
  edges : Cert.KernelIdeal.Host.Valid (m ((c.tc : Thread Cert.KernelIdeal.nD Cert.KernelIdeal.τ).loc Cert.KernelIdeal.main_arg2))
  r0 : Reals (s := S10000x128) (m ((c.tc : Thread Cert.KernelIdeal.nD Cert.KernelIdeal.τ).loc Cert.KernelIdeal.main_arg0))
  r1 : Reals (s := S320000x5) (m ((c.tc : Thread Cert.KernelIdeal.nD Cert.KernelIdeal.τ).loc Cert.KernelIdeal.main_arg1))
  r3 : Reals (s := S128x64) (m ((c.tc : Thread Cert.KernelIdeal.nD Cert.KernelIdeal.τ).loc Cert.KernelIdeal.main_arg3))
  r4 : Reals (s := S64) (m ((c.tc : Thread Cert.KernelIdeal.nD Cert.KernelIdeal.τ).loc Cert.KernelIdeal.main_arg4))
  r5 : Reals (s := S5x64) (m ((c.tc : Thread Cert.KernelIdeal.nD Cert.KernelIdeal.τ).loc Cert.KernelIdeal.main_arg5))
  r6 : Reals (s := S64) (m ((c.tc : Thread Cert.KernelIdeal.nD Cert.KernelIdeal.τ).loc Cert.KernelIdeal.main_arg6))
  r7 : Reals (s := S128x64) (m ((c.tc : Thread Cert.KernelIdeal.nD Cert.KernelIdeal.τ).loc Cert.KernelIdeal.main_arg7))
  r8 : Reals (s := S64) (m ((c.tc : Thread Cert.KernelIdeal.nD Cert.KernelIdeal.τ).loc Cert.KernelIdeal.main_arg8))
  r9 : Reals (s := S64x64) (m ((c.tc : Thread Cert.KernelIdeal.nD Cert.KernelIdeal.τ).loc Cert.KernelIdeal.main_arg9))
  r10 : Reals (s := S64) (m ((c.tc : Thread Cert.KernelIdeal.nD Cert.KernelIdeal.τ).loc Cert.KernelIdeal.main_arg10))
  r11 : Reals (s := S5x64) (m ((c.tc : Thread Cert.KernelIdeal.nD Cert.KernelIdeal.τ).loc Cert.KernelIdeal.main_arg11))
  r12 : Reals (s := S64) (m ((c.tc : Thread Cert.KernelIdeal.nD Cert.KernelIdeal.τ).loc Cert.KernelIdeal.main_arg12))
  r13 : Reals (s := S128x64) (m ((c.tc : Thread Cert.KernelIdeal.nD Cert.KernelIdeal.τ).loc Cert.KernelIdeal.main_arg13))
  r14 : Reals (s := S64) (m ((c.tc : Thread Cert.KernelIdeal.nD Cert.KernelIdeal.τ).loc Cert.KernelIdeal.main_arg14))
  r15 : Reals (s := S64x64) (m ((c.tc : Thread Cert.KernelIdeal.nD Cert.KernelIdeal.τ).loc Cert.KernelIdeal.main_arg15))
  r16 : Reals (s := S64) (m ((c.tc : Thread Cert.KernelIdeal.nD Cert.KernelIdeal.τ).loc Cert.KernelIdeal.main_arg16))
  r17 : Reals (s := S5x64) (m ((c.tc : Thread Cert.KernelIdeal.nD Cert.KernelIdeal.τ).loc Cert.KernelIdeal.main_arg17))
  r18 : Reals (s := S64) (m ((c.tc : Thread Cert.KernelIdeal.nD Cert.KernelIdeal.τ).loc Cert.KernelIdeal.main_arg18))
  r19 : Reals (s := S128x64) (m ((c.tc : Thread Cert.KernelIdeal.nD Cert.KernelIdeal.τ).loc Cert.KernelIdeal.main_arg19))
  r20 : Reals (s := S64) (m ((c.tc : Thread Cert.KernelIdeal.nD Cert.KernelIdeal.τ).loc Cert.KernelIdeal.main_arg20))
  r21 : Reals (s := S64x128) (m ((c.tc : Thread Cert.KernelIdeal.nD Cert.KernelIdeal.τ).loc Cert.KernelIdeal.main_arg21))
  r22 : Reals (s := S2x64) (m ((c.tc : Thread Cert.KernelIdeal.nD Cert.KernelIdeal.τ).loc Cert.KernelIdeal.main_arg22))
  r23 : Reals (s := S2x64) (m ((c.tc : Thread Cert.KernelIdeal.nD Cert.KernelIdeal.τ).loc Cert.KernelIdeal.main_arg23))
  r24 : Reals (s := S64) (m ((c.tc : Thread Cert.KernelIdeal.nD Cert.KernelIdeal.τ).loc Cert.KernelIdeal.main_arg24))

theorem good [hPre : Facts] (m : (ℓ : Loc Cert.KernelIdeal.nD Cert.KernelIdeal.τ Cert.KernelIdeal.sig) → Buf (Elt Ideal) ℓ)
    (h : Cert.Pre_KernelIdeal_finite_in_range m) (c : Dev Cert.KernelIdeal.nD) : Good m c := by
  obtain ⟨he, h0, h1, h3, h4, h5, h6, h7, h8, h9, h10, h11, h12, h13, h14, h15, h16, h17, h18, h19, h20, h21, h22, h23, h24⟩ := h c
  exact
  { edges := valid Facts.bcast_S_S2x320000 _ he
    r0 := reals Facts.bcast_S_S10000x128 _ h0
    r1 := reals Facts.bcast_S_S320000x5 _ h1
    r3 := reals Facts.bcast_S_S128x64 _ h3
    r4 := reals Facts.bcast_S_S64 _ h4
    r5 := reals Facts.bcast_S_S5x64 _ h5
    r6 := reals Facts.bcast_S_S64 _ h6
    r7 := reals Facts.bcast_S_S128x64 _ h7
    r8 := reals Facts.bcast_S_S64 _ h8
    r9 := reals Facts.bcast_S_S64x64 _ h9
    r10 := reals Facts.bcast_S_S64 _ h10
    r11 := reals Facts.bcast_S_S5x64 _ h11
    r12 := reals Facts.bcast_S_S64 _ h12
    r13 := reals Facts.bcast_S_S128x64 _ h13
    r14 := reals Facts.bcast_S_S64 _ h14
    r15 := reals Facts.bcast_S_S64x64 _ h15
    r16 := reals Facts.bcast_S_S64 _ h16
    r17 := reals Facts.bcast_S_S5x64 _ h17
    r18 := reals Facts.bcast_S_S64 _ h18
    r19 := reals Facts.bcast_S_S128x64 _ h19
    r20 := reals Facts.bcast_S_S64 _ h20
    r21 := reals Facts.bcast_S_S64x128 _ h21
    r22 := reals Facts.bcast_S_S2x64 _ h22
    r23 := reals Facts.bcast_S_S2x64 _ h23
    r24 := reals Facts.bcast_S_S64 _ h24 }

end Cert.Pre_finite_in_range

end
-- ==== Proof.RefDefs.lean ====
module

public import proofs.«01_k».proof.Proof.Gen.ReferenceIdeal
public import proofs.«01_k».proof.Defs
public import Idealize.ShloMosaic.Lib.Claim
public import Idealize.ShloMosaic.Lib.Pointwise

@[expose] public section

set_option maxRecDepth 16384

noncomputable section

namespace Cert.ReferenceIdeal.Val
open Cert.ReferenceIdeal
open Idealize.ShloMosaic Idealize.ShloMosaic.TcCoe
open Facts₀

/-- The source node of each edge: the first row of the edge list. -/
def sources (x : IVec S2x320000 32) : IVec S320000 32 := shapeCast S320000 (extractStridedSlice S1x320000 ![0, 0] x slices_S2x320000_S1x320000_0_0) shapeCasts_S1x320000_S320000
/-- The target node of each edge: the second row. -/
def targets (x : IVec S2x320000 32) : IVec S320000 32 := shapeCast S320000 (extractStridedSlice S1x320000 ![1, 0] x slices_S2x320000_S1x320000_1_0) shapeCasts_S1x320000_S320000
/-- The nodes as an index column; a negative one counts from the end. -/
def wrapped (e : IVec S320000 32) : IVec S320000x1 32 :=
  broadcastInDim S320000x1 ![0] bcast_S320000_S320000x1_0 (select (cmpi .slt e (broadcastInDim S320000 ![] bcast_S_S320000 (constantI S_ 32 0#32))) (addi e (broadcastInDim S320000 ![] bcast_S_S320000 (constantI S_ 32 10000#32))) e)
/-- The nodes as an index column. -/
def column (e : IVec S320000 32) : IVec S320000x1 32 := broadcastInDim S320000x1 ![0] bcast_S320000_S320000x1_0 e
/-- A bias along the rows of the nodes. -/
def biasN (b : FVec Ideal S64 .f32) : FVec Ideal S10000x64 .f32 := broadcastInDim S10000x64 ![0, 1] bcast_S1x64_S10000x64_0_1 (broadcastInDim S1x64 ![1] bcast_S64_S1x64_1 b)
/-- A bias along the rows of the edges. -/
def biasE (b : FVec Ideal S64 .f32) : FVec Ideal S320000x64 .f32 := broadcastInDim S320000x64 ![0, 1] bcast_S1x64_S320000x64_0_1 (broadcastInDim S1x64 ![1] bcast_S64_S1x64_1 b)
/-- The first layer's node map. -/
def nodes128 (x : FVec Ideal S10000x128 .f32) (w : FVec Ideal S128x64 .f32) (b : FVec Ideal S64 .f32) : FVec Ideal S10000x64 .f32 :=
  addf (Host.dotGeneral dot_S10000x128_S128x64_S10000x64_1_0_0_1_n_n none x w) (biasN b)
/-- The other layers' node map. -/
def nodes64 (x : FVec Ideal S10000x64 .f32) (w : FVec Ideal S64x64 .f32) (b : FVec Ideal S64 .f32) : FVec Ideal S10000x64 .f32 :=
  addf (Host.dotGeneral dot_S10000x64_S64x64_S10000x64_1_0_0_1_n_n none x w) (biasN b)
/-- The message of every edge: its source's row beside its own, through the combining map. -/
def messages (hn : FVec Ideal S10000x64 .f32) (ea : FVec Ideal S320000x5 .f32) (s : IVec S320000 32) (we : FVec Ideal S5x64 .f32) (be : FVec Ideal S64 .f32) (wc : FVec Ideal S128x64 .f32) (bc : FVec Ideal S64 .f32) : FVec Ideal S320000x64 .f32 :=
  addf (Host.dotGeneral dot_S320000x128_S128x64_S320000x64_1_0_0_1_n_n none
    (concatenate S320000x128 1 [⟨S320000x64, Host.gather gather_S10000x64_S320000x1_S320000x64_1_0_n_n_0_1_164 hn (wrapped s)⟩, ⟨S320000x64, addf (Host.dotGeneral dot_S320000x5_S5x64_S320000x64_1_0_0_1_n_n none ea we) (biasE be)⟩] concatenates_S320000x64_S320000x64_S320000x128_d1) wc) (biasE bc)
/-- The messages summed into their targets, then rectified. -/
def collect (d : IVec S320000 32) (g : FVec Ideal S320000x64 .f32) : FVec Ideal S10000x64 .f32 :=
  maximumf (Host.scatterAdd scatter_S10000x64_S320000x1_S320000x64_1_0_0_1 (broadcastInDim S10000x64 ![] bcast_S_S10000x64 (constant S_ .f32 0x00000000#32)) (column d) g) (broadcastInDim S10000x64 ![] bcast_S_S10000x64 (constant S_ .f32 0x00000000#32))
/-- The two heads' features. -/
def features (h : FVec Ideal S10000x64 .f32) (wg : FVec Ideal S64x128 .f32) : FVec Ideal S10000x2x64 .f32 :=
  shapeCast S10000x2x64 (Host.dotGeneral dot_S10000x64_S64x128_S10000x128_1_0_0_1_n_n none h wg) shapeCasts_S10000x128_S10000x2x64
/-- A head's score of each node. -/
def score (hp : FVec Ideal S10000x2x64 .f32) (av : FVec Ideal S2x64 .f32) : FVec Ideal S10000x2 .f32 :=
  Host.reduceAdd (mulf hp (broadcastInDim S10000x2x64 ![0, 1, 2] bcast_S1x2x64_S10000x2x64_0_1_2 (broadcastInDim S1x2x64 ![1, 2] bcast_S2x64_S1x2x64_1_2 av))) (constant S_ .f32 0x00000000#32) reducesTo_S10000x2x64_S10000x2_d2 h_S_
/-- A node quantity read at an edge's node. -/
def pick (x : FVec Ideal S10000x2 .f32) (e : IVec S320000 32) : FVec Ideal S320000x2 .f32 := Host.gather gather_S10000x2_S320000x1_S320000x2_1_0_n_n_0_1_12 x (wrapped e)
/-- The leaky rectifier. -/
def leaky (z : FVec Ideal S320000x2 .f32) : FVec Ideal S320000x2 .f32 :=
  select (cmpf .oge z (broadcastInDim S320000x2 ![] bcast_S_S320000x2 (constant S_ .f32 0x00000000#32))) z (mulf (broadcastInDim S320000x2 ![] bcast_S_S320000x2 (constant S_ .f32 0x3E4CCCCD#32)) z)
/-- The greatest score over the edges into each node. -/
def greatest (d : IVec S320000 32) (al : FVec Ideal S320000x2 .f32) : FVec Ideal S10000x2 .f32 :=
  Host.reduce FloatOps.maximumf (select (broadcastInDim S10000x320000x2 ![0, 1, 2] bcast_S10000x320000x1_S10000x320000x2_0_1_2 (broadcastInDim S10000x320000x1 ![0, 1] bcast_S10000x320000_S10000x320000x1_0_1
      (cmpi .eq (broadcastInDim S10000x320000 ![0, 1] bcast_S1x320000_S10000x320000_0_1 (broadcastInDim S1x320000 ![1] bcast_S320000_S1x320000_1 d)) (broadcastInDim S10000x320000 ![0, 1] bcast_S10000x1_S10000x320000_0_1 (broadcastInDim S10000x1 ![0] bcast_S10000_S10000x1_0 (iotaInDim S10000 32 0))))))
    (broadcastInDim S10000x320000x2 ![0, 1, 2] bcast_S1x320000x2_S10000x320000x2_0_1_2 (broadcastInDim S1x320000x2 ![1, 2] bcast_S320000x2_S1x320000x2_1_2 al)) (broadcastInDim S10000x320000x2 ![] bcast_S_S10000x320000x2 (constant S_ .f32 0xFF800000#32)))
    (constant S_ .f32 0xFF800000#32) reducesTo_S10000x320000x2_S10000x2_d1 h_S_
/-- Nothing but a finite one is kept. -/
def finiteOr0 (x : FVec Ideal S10000x2 .f32) : FVec Ideal S10000x2 .f32 :=
  select (cmpf .olt (Host.absf x) (broadcastInDim S10000x2 ![] bcast_S_S10000x2 (constant S_ .f32 0x7F800000#32))) x (broadcastInDim S10000x2 ![] bcast_S_S10000x2 (constant S_ .f32 0x00000000#32))
/-- The edges' exponentials. -/
def exponentials (d : IVec S320000 32) (al : FVec Ideal S320000x2 .f32) : FVec Ideal S320000x2 .f32 :=
  Host.exp (subf al (pick (finiteOr0 (greatest d al)) d))
/-- The attention weight of each edge. -/
def weights (d : IVec S320000 32) (ex : FVec Ideal S320000x2 .f32) : FVec Ideal S320000x2 .f32 :=
  Host.divf ex (addf (pick (Host.scatterAdd scatter_S10000x2_S320000x1_S320000x2_1_0_0_1 (broadcastInDim S10000x2 ![] bcast_S_S10000x2 (constant S_ .f32 0x00000000#32)) (column d) ex) d) (broadcastInDim S320000x2 ![] bcast_S_S320000x2 (constant S_ .f32 0x24E69595#32)))
/-- The weighted features summed into each target. -/
def gathered (s d : IVec S320000 32) (hp : FVec Ideal S10000x2x64 .f32) (w : FVec Ideal S320000x2 .f32) : FVec Ideal S10000x2x64 .f32 :=
  Host.scatterAdd scatter_S10000x2x64_S320000x1_S320000x2x64_12_0_0_1 (broadcastInDim S10000x2x64 ![] bcast_S_S10000x2x64 (constant S_ .f32 0x00000000#32)) (column d)
    (mulf (Host.gather gather_S10000x2x64_S320000x1_S320000x2x64_12_0_n_n_0_1_1264 hp (wrapped s)) (broadcastInDim S320000x2x64 ![0, 1, 2] bcast_S320000x2x1_S320000x2x64_0_1_2 (broadcastInDim S320000x2x1 ![0, 1] bcast_S320000x2_S320000x2x1_0_1 w)))
/-- The mean over the heads, and the bias. -/
def mean (o : FVec Ideal S10000x2x64 .f32) (bg : FVec Ideal S64 .f32) : FVec Ideal S10000x64 .f32 :=
  addf (Host.divf (Host.reduceAdd o (constant S_ .f32 0x00000000#32) reducesTo_S10000x2x64_S10000x64_d1 h_S_) (broadcastInDim S10000x64 ![] bcast_S_S10000x64 (constant S_ .f32 0x40000000#32))) (biasN bg)
/-- The attention layer over features, edge scores and the targets. -/
def attention (s d : IVec S320000 32) (hp : FVec Ideal S10000x2x64 .f32) (al : FVec Ideal S320000x2 .f32) (bg : FVec Ideal S64 .f32) : FVec Ideal S10000x64 .f32 :=
  mean (gathered s d hp (weights d (exponentials d al))) bg
/-- The edges' scores. -/
def alphas (s d : IVec S320000 32) (hp : FVec Ideal S10000x2x64 .f32) (asrc : FVec Ideal S2x64 .f32) (adst : FVec Ideal S2x64 .f32) : FVec Ideal S320000x2 .f32 :=
  leaky (addf (pick (score hp asrc) s) (pick (score hp adst) d))
/-- The three convolutions. -/
def hidden1 (A0 : FVec Ideal S10000x128 .f32) (A1 : FVec Ideal S320000x5 .f32) (A2 : IVec S2x320000 32) (A3 : FVec Ideal S128x64 .f32) (A4 : FVec Ideal S64 .f32) (A5 : FVec Ideal S5x64 .f32) (A6 : FVec Ideal S64 .f32) (A7 : FVec Ideal S128x64 .f32) (A8 : FVec Ideal S64 .f32) : FVec Ideal S10000x64 .f32 :=
  collect (targets A2) (messages (nodes128 A0 A3 A4) A1 (sources A2) A5 A6 A7 A8)
/-- A later convolution over the rows `h`. -/
def hidden (h : FVec Ideal S10000x64 .f32) (A1 : FVec Ideal S320000x5 .f32) (A2 : IVec S2x320000 32) (w : FVec Ideal S64x64 .f32) (b : FVec Ideal S64 .f32) (we : FVec Ideal S5x64 .f32) (be : FVec Ideal S64 .f32) (wc : FVec Ideal S128x64 .f32) (bc : FVec Ideal S64 .f32) : FVec Ideal S10000x64 .f32 :=
  collect (targets A2) (messages (nodes64 h w b) A1 (sources A2) we be wc bc)
/-- The last hidden rows. -/
def hidden3 (A0 : FVec Ideal S10000x128 .f32) (A1 : FVec Ideal S320000x5 .f32) (A2 : IVec S2x320000 32) (A3 : FVec Ideal S128x64 .f32) (A4 : FVec Ideal S64 .f32) (A5 : FVec Ideal S5x64 .f32) (A6 : FVec Ideal S64 .f32) (A7 : FVec Ideal S128x64 .f32) (A8 : FVec Ideal S64 .f32) (A9 : FVec Ideal S64x64 .f32) (A10 : FVec Ideal S64 .f32) (A11 : FVec Ideal S5x64 .f32) (A12 : FVec Ideal S64 .f32) (A13 : FVec Ideal S128x64 .f32) (A14 : FVec Ideal S64 .f32) (A15 : FVec Ideal S64x64 .f32) (A16 : FVec Ideal S64 .f32) (A17 : FVec Ideal S5x64 .f32) (A18 : FVec Ideal S64 .f32) (A19 : FVec Ideal S128x64 .f32) (A20 : FVec Ideal S64 .f32) : FVec Ideal S10000x64 .f32 :=
  hidden (hidden (hidden1 A0 A1 A2 A3 A4 A5 A6 A7 A8) A1 A2 A9 A10 A11 A12 A13 A14) A1 A2 A15 A16 A17 A18 A19 A20
/-- The attention over hidden rows. -/
def attended (h : FVec Ideal S10000x64 .f32) (A2 : IVec S2x320000 32) (A21 : FVec Ideal S64x128 .f32) (A22 : FVec Ideal S2x64 .f32) (A23 : FVec Ideal S2x64 .f32) (A24 : FVec Ideal S64 .f32) : FVec Ideal S10000x64 .f32 :=
  attention (sources A2) (targets A2) (features h A21) (alphas (sources A2) (targets A2) (features h A21) A22 A23) A24
/-- What the reference computes. -/
def refOut (A0 : FVec Ideal S10000x128 .f32) (A1 : FVec Ideal S320000x5 .f32) (A2 : IVec S2x320000 32) (A3 : FVec Ideal S128x64 .f32) (A4 : FVec Ideal S64 .f32) (A5 : FVec Ideal S5x64 .f32) (A6 : FVec Ideal S64 .f32) (A7 : FVec Ideal S128x64 .f32) (A8 : FVec Ideal S64 .f32) (A9 : FVec Ideal S64x64 .f32) (A10 : FVec Ideal S64 .f32) (A11 : FVec Ideal S5x64 .f32) (A12 : FVec Ideal S64 .f32) (A13 : FVec Ideal S128x64 .f32) (A14 : FVec Ideal S64 .f32) (A15 : FVec Ideal S64x64 .f32) (A16 : FVec Ideal S64 .f32) (A17 : FVec Ideal S5x64 .f32) (A18 : FVec Ideal S64 .f32) (A19 : FVec Ideal S128x64 .f32) (A20 : FVec Ideal S64 .f32) (A21 : FVec Ideal S64x128 .f32) (A22 : FVec Ideal S2x64 .f32) (A23 : FVec Ideal S2x64 .f32) (A24 : FVec Ideal S64 .f32) : FVec Ideal S640000 .f32 :=
  shapeCast S640000 (attended (hidden3 A0 A1 A2 A3 A4 A5 A6 A7 A8 A9 A10 A11 A12 A13 A14 A15 A16 A17 A18 A19 A20) A2 A21 A22 A23 A24) shapeCasts_S10000x64_S640000

end Cert.ReferenceIdeal.Val

end
-- ==== Proof.RefOut.lean ====
module

public import proofs.«01_k».proof.Proof.RefDefs
public import proofs.«01_k».proof.Defs
public import Idealize.ShloMosaic.Lib.Claim
public import Idealize.ShloMosaic.Lib.StableHlo.ReadAt
public import Idealize.ShloMosaic.Lib.Pointwise

@[expose] public section

set_option maxRecDepth 20000

noncomputable section

namespace Cert.ReferenceIdeal.Val
open Cert.ReferenceIdeal Cert.ReferenceIdeal.Gen
open Idealize.ShloMosaic Idealize.ShloMosaic.TcCoe
open Facts₀

set_option pp.maxSteps 60 in
set_option maxHeartbeats 16000000 in
/-- The reference's run: its result is `refOut` of its arguments, which keep their contents. -/
theorem run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)) := by
  hlo_run
  (try simp -implicitDefEqProofs only [StableHlo.TRef.toBuf, StableHlo.TRef.ofBuf, cast_cast, cast_eq])
  (try clean_types)
  rfl

end Cert.ReferenceIdeal.Val

end
-- ==== Proof.HostRead0.lean ====
module

public import proofs.«01_k».proof.Proof.HostDefs
public import Idealize.ShloMosaic.Lib.Claim
public import Idealize.ShloMosaic.Lib.StableHlo.ReadAt
public import Idealize.ShloMosaic.Lib.Pointwise

@[expose] public section

set_option maxRecDepth 20000

noncomputable section

namespace Cert.KernelIdeal.Host
open Cert.KernelIdeal
open Idealize.ShloMosaic Idealize.ShloMosaic.TcCoe
open Cert.KernelIdeal.Gen

/-- Three arrays beside each other, each rewritten. -/
theorem beside3g {t s0 s1 s2 : Shape} {d : Fin t.rank} {a a' : FVec Ideal s0 .f32} {b b' : FVec Ideal s1 .f32} {c c' : FVec Ideal s2 .f32} (h) (ha : a = a') (hb : b = b') (hc : c = c') :
    concatenate t d [⟨s0, a⟩, ⟨s1, b⟩, ⟨s2, c⟩] h = concatenate t d [⟨s0, a'⟩, ⟨s1, b'⟩, ⟨s2, c'⟩] h := by
  subst ha hb hc
  rfl

set_option maxHeartbeats 2000000 in
/-- The edge counts after the first stretch. -/
theorem read_a (σ : Valuation τ sig (Elt Ideal)) : StableHlo.after (hostOps0 (F := Ideal)) σ (Proc.devRef .tc main_call0_v19) = adjacency (σ (Proc.devRef .tc main_arg2)) := by
  after_reads_simp
  (try simp -implicitDefEqProofs only [StableHlo.TRef.toBuf, StableHlo.TRef.ofBuf, cast_cast, cast_eq])
  (try clean_types)
  rfl

set_option maxHeartbeats 2000000 in
/-- The edges' sums. -/
theorem read_g (σ : Valuation τ sig (Elt Ideal)) : StableHlo.after (hostOps0 (F := Ideal)) σ (Proc.devRef .tc main_call0_v30) = edgeSums (σ (Proc.devRef .tc main_arg2)) (σ (Proc.devRef .tc main_arg1)) := by
  after_reads_simp
  (try simp -implicitDefEqProofs only [StableHlo.TRef.toBuf, StableHlo.TRef.ofBuf, cast_cast, cast_eq])
  unfold edgeSums
  refine congrArg₂ (fun (i : IVec S320000x1 32) (r : FVec Ideal S320000x8 .f32) => Host.scatterAdd scatter_S10240x8_S320000x1_S320000x8_1_0_0_1 (broadcastInDim S10240x8 ![] Facts₀.bcast_S_S10240x8 (constant S_ .f32 0x00000000#32) : FVec Ideal S10240x8 .f32) i r) ?_ ?_
  · (try clean_types)
    rfl
  · unfold edgeRows
    refine beside3g (a := (StableHlo.upto hostOps0 σ 30 (Proc.tc.devRef main_arg1) : FVec Ideal S320000x5 .f32)) (b := (StableHlo.upto hostOps0 σ 30 (Proc.tc.devRef main_call0_v20) : FVec Ideal S320000x1 .f32)) (c := (StableHlo.upto hostOps0 σ 30 (Proc.tc.devRef main_call0_v21) : FVec Ideal S320000x2 .f32)) concatenates_S320000x5_S320000x1_S320000x2_S320000x8_d1 ?_ ?_ ?_
    · after_reads_simp
      (try simp -implicitDefEqProofs only [StableHlo.TRef.toBuf, StableHlo.TRef.ofBuf, cast_cast, cast_eq])
      (try clean_types)
      (try rfl)
    · after_reads_simp
      (try simp -implicitDefEqProofs only [StableHlo.TRef.toBuf, StableHlo.TRef.ofBuf, cast_cast, cast_eq])
      (try clean_types)
      (try rfl)
    · after_reads_simp
      (try simp -implicitDefEqProofs only [StableHlo.TRef.toBuf, StableHlo.TRef.ofBuf, cast_cast, cast_eq])
      (try clean_types)
      (try rfl)

end Cert.KernelIdeal.Host

end
-- ==== Proof.HostRead1.lean ====
module

public import proofs.«01_k».proof.Proof.HostDefs
public import Idealize.ShloMosaic.Lib.Claim
public import Idealize.ShloMosaic.Lib.StableHlo.ReadAt
public import Idealize.ShloMosaic.Lib.Pointwise

@[expose] public section

set_option maxRecDepth 20000

noncomputable section

namespace Cert.KernelIdeal.Host
open Cert.KernelIdeal
open Idealize.ShloMosaic Idealize.ShloMosaic.TcCoe
open Cert.KernelIdeal.Gen

/-- Three arrays beside each other, each rewritten. -/
theorem beside3w {t s0 s1 s2 : Shape} {d : Fin t.rank} {a a' : FVec Ideal s0 .f32} {b b' : FVec Ideal s1 .f32} {c c' : FVec Ideal s2 .f32} (h) (ha : a = a') (hb : b = b') (hc : c = c') :
    concatenate t d [⟨s0, a⟩, ⟨s1, b⟩, ⟨s2, c⟩] h = concatenate t d [⟨s0, a'⟩, ⟨s1, b'⟩, ⟨s2, c'⟩] h := by
  subst ha hb hc
  rfl

set_option maxHeartbeats 2000000 in
/-- The padded node rows. -/
theorem read_x (σ : Valuation τ sig (Elt Ideal)) : StableHlo.after (hostOps0 (F := Ideal)) σ (Proc.devRef .tc main_call0_v55) = padded (σ (Proc.devRef .tc main_arg0)) := by
  after_reads_simp
  (try simp -implicitDefEqProofs only [StableHlo.TRef.toBuf, StableHlo.TRef.ofBuf, cast_cast, cast_eq])
  (try clean_types)
  rfl

set_option maxHeartbeats 2000000 in
/-- The first bias. -/
theorem read_b1 (σ : Valuation τ sig (Elt Ideal)) : StableHlo.after (hostOps0 (F := Ideal)) σ (Proc.devRef .tc main_call0_v56) = row (σ (Proc.devRef .tc main_arg4)) := by
  after_reads_simp
  (try simp -implicitDefEqProofs only [StableHlo.TRef.toBuf, StableHlo.TRef.ofBuf, cast_cast, cast_eq])
  (try clean_types)
  rfl

set_option maxHeartbeats 2000000 in
/-- The upper combining map of layer 1. -/
theorem read_u1 (σ : Valuation τ sig (Elt Ideal)) : StableHlo.after (hostOps0 (F := Ideal)) σ (Proc.devRef .tc main_call0_v31) = upper (σ (Proc.devRef .tc main_arg7)) := by
  after_reads_simp
  (try simp -implicitDefEqProofs only [StableHlo.TRef.toBuf, StableHlo.TRef.ofBuf, cast_cast, cast_eq])
  (try clean_types)
  rfl

set_option maxHeartbeats 2000000 in
/-- The edge map of layer 1. -/
theorem read_w1 (σ : Valuation τ sig (Elt Ideal)) : StableHlo.after (hostOps0 (F := Ideal)) σ (Proc.devRef .tc main_call0_v38) = edgeMap (σ (Proc.devRef .tc main_arg5)) (σ (Proc.devRef .tc main_arg6)) (σ (Proc.devRef .tc main_arg7)) (σ (Proc.devRef .tc main_arg8)) := by
  after_reads_simp
  simp -implicitDefEqProofs only [StableHlo.TRef.toBuf, StableHlo.TRef.ofBuf, cast_cast, cast_eq]
  unfold edgeMap
  refine beside3w (a := (StableHlo.upto hostOps0 σ 50 (Proc.tc.devRef main_call0_v33) : FVec Ideal S5x64 .f32)) (b := (StableHlo.upto hostOps0 σ 50 (Proc.tc.devRef main_call0_v36) : FVec Ideal S1x64 .f32)) (c := (StableHlo.upto hostOps0 σ 50 (Proc.tc.devRef main_call0_v37) : FVec Ideal S2x64 .f32)) concatenates_S5x64_S1x64_S2x64_S8x64_d0 ?_ ?_ ?_
  · after_reads_simp
    (try simp -implicitDefEqProofs only [StableHlo.TRef.toBuf, StableHlo.TRef.ofBuf, cast_cast, cast_eq])
    (try clean_types)
    (try rfl)
  · after_reads_simp
    (try simp -implicitDefEqProofs only [StableHlo.TRef.toBuf, StableHlo.TRef.ofBuf, cast_cast, cast_eq])
    (try clean_types)
    (try rfl)
  · after_reads_simp
    (try simp -implicitDefEqProofs only [StableHlo.TRef.toBuf, StableHlo.TRef.ofBuf, cast_cast, cast_eq])
    (try clean_types)
    (try rfl)

set_option maxHeartbeats 2000000 in
/-- The upper combining map of layer 2. -/
theorem read_u2 (σ : Valuation τ sig (Elt Ideal)) : StableHlo.after (hostOps0 (F := Ideal)) σ (Proc.devRef .tc main_call0_v39) = upper (σ (Proc.devRef .tc main_arg13)) := by
  after_reads_simp
  (try simp -implicitDefEqProofs only [StableHlo.TRef.toBuf, StableHlo.TRef.ofBuf, cast_cast, cast_eq])
  (try clean_types)
  rfl

set_option maxHeartbeats 2000000 in
/-- The edge map of layer 2. -/
theorem read_w2 (σ : Valuation τ sig (Elt Ideal)) : StableHlo.after (hostOps0 (F := Ideal)) σ (Proc.devRef .tc main_call0_v46) = edgeMap (σ (Proc.devRef .tc main_arg11)) (σ (Proc.devRef .tc main_arg12)) (σ (Proc.devRef .tc main_arg13)) (σ (Proc.devRef .tc main_arg14)) := by
  after_reads_simp
  simp -implicitDefEqProofs only [StableHlo.TRef.toBuf, StableHlo.TRef.ofBuf, cast_cast, cast_eq]
  unfold edgeMap
  refine beside3w (a := (StableHlo.upto hostOps0 σ 59 (Proc.tc.devRef main_call0_v41) : FVec Ideal S5x64 .f32)) (b := (StableHlo.upto hostOps0 σ 59 (Proc.tc.devRef main_call0_v44) : FVec Ideal S1x64 .f32)) (c := (StableHlo.upto hostOps0 σ 59 (Proc.tc.devRef main_call0_v45) : FVec Ideal S2x64 .f32)) concatenates_S5x64_S1x64_S2x64_S8x64_d0 ?_ ?_ ?_
  · after_reads_simp
    (try simp -implicitDefEqProofs only [StableHlo.TRef.toBuf, StableHlo.TRef.ofBuf, cast_cast, cast_eq])
    (try clean_types)
    (try rfl)
  · after_reads_simp
    (try simp -implicitDefEqProofs only [StableHlo.TRef.toBuf, StableHlo.TRef.ofBuf, cast_cast, cast_eq])
    (try clean_types)
    (try rfl)
  · after_reads_simp
    (try simp -implicitDefEqProofs only [StableHlo.TRef.toBuf, StableHlo.TRef.ofBuf, cast_cast, cast_eq])
    (try clean_types)
    (try rfl)

set_option maxHeartbeats 2000000 in
/-- The upper combining map of layer 3. -/
theorem read_u3 (σ : Valuation τ sig (Elt Ideal)) : StableHlo.after (hostOps0 (F := Ideal)) σ (Proc.devRef .tc main_call0_v47) = upper (σ (Proc.devRef .tc main_arg19)) := by
  after_reads_simp
  (try simp -implicitDefEqProofs only [StableHlo.TRef.toBuf, StableHlo.TRef.ofBuf, cast_cast, cast_eq])
  (try clean_types)
  rfl

set_option maxHeartbeats 2000000 in
/-- The edge map of layer 3. -/
theorem read_w3 (σ : Valuation τ sig (Elt Ideal)) : StableHlo.after (hostOps0 (F := Ideal)) σ (Proc.devRef .tc main_call0_v54) = edgeMap (σ (Proc.devRef .tc main_arg17)) (σ (Proc.devRef .tc main_arg18)) (σ (Proc.devRef .tc main_arg19)) (σ (Proc.devRef .tc main_arg20)) := by
  after_reads_simp
  simp -implicitDefEqProofs only [StableHlo.TRef.toBuf, StableHlo.TRef.ofBuf, cast_cast, cast_eq]
  unfold edgeMap
  refine beside3w (a := (StableHlo.upto hostOps0 σ 68 (Proc.tc.devRef main_call0_v49) : FVec Ideal S5x64 .f32)) (b := (StableHlo.upto hostOps0 σ 68 (Proc.tc.devRef main_call0_v52) : FVec Ideal S1x64 .f32)) (c := (StableHlo.upto hostOps0 σ 68 (Proc.tc.devRef main_call0_v53) : FVec Ideal S2x64 .f32)) concatenates_S5x64_S1x64_S2x64_S8x64_d0 ?_ ?_ ?_
  · after_reads_simp
    (try simp -implicitDefEqProofs only [StableHlo.TRef.toBuf, StableHlo.TRef.ofBuf, cast_cast, cast_eq])
    (try clean_types)
    (try rfl)
  · after_reads_simp
    (try simp -implicitDefEqProofs only [StableHlo.TRef.toBuf, StableHlo.TRef.ofBuf, cast_cast, cast_eq])
    (try clean_types)
    (try rfl)
  · after_reads_simp
    (try simp -implicitDefEqProofs only [StableHlo.TRef.toBuf, StableHlo.TRef.ofBuf, cast_cast, cast_eq])
    (try clean_types)
    (try rfl)

end Cert.KernelIdeal.Host

end
-- ==== Proof.HostRead2.lean ====
module

public import proofs.«01_k».proof.Proof.HostDefs
public import Idealize.ShloMosaic.Lib.Claim
public import Idealize.ShloMosaic.Lib.StableHlo.ReadAt
public import Idealize.ShloMosaic.Lib.Pointwise

@[expose] public section

set_option maxRecDepth 20000

noncomputable section

namespace Cert.KernelIdeal.Host
open Cert.KernelIdeal
open Idealize.ShloMosaic Idealize.ShloMosaic.TcCoe
open Cert.KernelIdeal.Gen

set_option maxHeartbeats 2000000 in
/-- The second bias. -/
theorem read_b2 (σ : Valuation τ sig (Elt Ideal)) : StableHlo.after (hostOps2 (F := Ideal)) σ (Proc.devRef .tc main_call0_v59) = row (σ (Proc.devRef .tc main_arg10)) := by
  after_reads_simp
  (try simp -implicitDefEqProofs only [StableHlo.TRef.toBuf, StableHlo.TRef.ofBuf, cast_cast, cast_eq])
  (try clean_types)
  rfl

set_option maxHeartbeats 2000000 in
/-- The third bias. -/
theorem read_b3 (σ : Valuation τ sig (Elt Ideal)) : StableHlo.after (hostOps4 (F := Ideal)) σ (Proc.devRef .tc main_call0_v62) = row (σ (Proc.devRef .tc main_arg16)) := by
  after_reads_simp
  (try simp -implicitDefEqProofs only [StableHlo.TRef.toBuf, StableHlo.TRef.ofBuf, cast_cast, cast_eq])
  (try clean_types)
  rfl

set_option maxHeartbeats 2000000 in
/-- The score table. -/
theorem read_c (σ : Valuation τ sig (Elt Ideal)) : StableHlo.after (hostOps6 (F := Ideal)) σ (Proc.devRef .tc main_call0_v89) = scoreMap (σ (Proc.devRef .tc main_arg22)) (σ (Proc.devRef .tc main_arg23)) := by
  after_reads_simp
  (try simp -implicitDefEqProofs only [StableHlo.TRef.toBuf, StableHlo.TRef.ofBuf, cast_cast, cast_eq])
  (try clean_types)
  rfl

set_option maxHeartbeats 2000000 in
/-- The score rows. -/
theorem read_alst (σ : Valuation τ sig (Elt Ideal)) : StableHlo.after (hostOps7 (F := Ideal)) σ (Proc.devRef .tc main_call0_v93) = scoreRows (σ (Proc.devRef .tc main_call0_v90_1)) := by
  after_reads_simp
  (try simp -implicitDefEqProofs only [StableHlo.TRef.toBuf, StableHlo.TRef.ofBuf, cast_cast, cast_eq])
  (try clean_types)
  rfl

set_option maxHeartbeats 2000000 in
/-- The result. -/
theorem read_out (σ : Valuation τ sig (Elt Ideal)) : StableHlo.after (hostOps9 (F := Ideal)) σ (Proc.devRef .tc main_v0) = flat (mean (σ (Proc.devRef .tc main_call0_v95_0)) (σ (Proc.devRef .tc main_call0_v95_1)) (σ (Proc.devRef .tc main_arg24))) := by
  after_reads_simp
  (try simp -implicitDefEqProofs only [StableHlo.TRef.toBuf, StableHlo.TRef.ofBuf, cast_cast, cast_eq])
  (try clean_types)
  rfl

end Cert.KernelIdeal.Host

end
-- ==== Proof.ValLin.lean ====
module

public import proofs.«01_k».proof.Proof.RegLin
public import Idealize.ShloMosaic.Lib.Pipeline.ValueKit
public import Idealize.ShloMosaic.Lib.Pointwise

@[expose] public section

set_option maxRecDepth 16384

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

/-- The affine map of the rows of an array: `x w + b`. -/
def affine128 (x : FVec Ideal S10240x128 .f32) (w : FVec Ideal S128x64 .f32) (b : FVec Ideal S1x64 .f32) : FVec Ideal S10240x64 .f32 :=
  fun i => (∑ k : Fin 128, x (ix2 (i 0) k) * w (ix2 k (i 1))) + b (ix2 0 (i 1))
/-- The same at sixty-four columns. -/
def affine64 (x : FVec Ideal S10240x64 .f32) (w : FVec Ideal S64x64 .f32) (b : FVec Ideal S1x64 .f32) : FVec Ideal S10240x64 .f32 :=
  fun i => (∑ k : Fin 64, x (ix2 (i 0) k) * w (ix2 k (i 1))) + b (ix2 0 (i 1))

/-! ## Region 0 -/

theorem k0_pay1_at (x : FVec Ideal S2048x128 .f32) (w : FVec Ideal S128x64 .f32) (b : FVec Ideal S1x64 .f32) (i : Fin 2048) (j : Fin 64) :
    k0_pay1 (F := Ideal) x w b (ix2 i j) = (∑ k : Fin 128, x (ix2 i k) * w (ix2 k j)) + b (ix2 0 j) := by
  pointwise [k0_pay1]

theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Region 0 leaves the affine image of its first array. -/
theorem final0 (V : (c : Dev nD) → (b : Ref sig .tc) → Buf (Elt Ideal) ((c : Thread nD τ).loc b)) (c : Dev nD) :
    (dat0 V c).arrAt 3 cfg0.N = affine128 (V c (Pipeline.arrRef spec0 0)) (V c (Pipeline.arrRef spec0 1)) (V c (Pipeline.arrRef spec0 2)) := by
  refine (dat0 V c).arrAt_eq_of_covers 3 _ (by decide +kernel) fun t hf y => ?_
  blk_simp
  rw [after0_3]
  unfold out0_A_3
  idx_vars y
  rw [k0_pay1_at]
  unfold affine128
  blk_point [iblk0, idx0 t]

/-! ## Region 2 -/

theorem k2_pay1_at (x : FVec Ideal S2048x64 .f32) (w : FVec Ideal S64x64 .f32) (b : FVec Ideal S1x64 .f32) (i : Fin 2048) (j : Fin 64) :
    k2_pay1 (F := Ideal) x w b (ix2 i j) = (∑ k : Fin 64, x (ix2 i k) * w (ix2 k j)) + b (ix2 0 j) := by
  pointwise [k2_pay1]

theorem idx2 : ∀ t : Fin cfg2.N, win2_0.index t = ![t.val, 0] ∧ win2_1.index t = ![0, 0] ∧ win2_2.index t = ![0, 0] ∧ win2_3.index t = ![t.val, 0] :=
  (by decide +kernel : ∀ t : Fin grid2.N, _)

/-- Region 2 leaves the affine image of its first array. -/
theorem final2 (V : (c : Dev nD) → (b : Ref sig .tc) → Buf (Elt Ideal) ((c : Thread nD τ).loc b)) (c : Dev nD) :
    (dat2 V c).arrAt 3 cfg2.N = affine64 (V c (Pipeline.arrRef spec2 0)) (V c (Pipeline.arrRef spec2 1)) (V c (Pipeline.arrRef spec2 2)) := by
  refine (dat2 V c).arrAt_eq_of_covers 3 _ (by decide +kernel) fun t hf y => ?_
  blk_simp
  rw [after2_3]
  unfold out2_A_3
  idx_vars y
  rw [k2_pay1_at]
  unfold affine64
  blk_point [iblk2, idx2 t]

/-! ## Region 4 -/

theorem k4_pay1_at (x : FVec Ideal S2048x64 .f32) (w : FVec Ideal S64x64 .f32) (b : FVec Ideal S1x64 .f32) (i : Fin 2048) (j : Fin 64) :
    k4_pay1 (F := Ideal) x w b (ix2 i j) = (∑ k : Fin 64, x (ix2 i k) * w (ix2 k j)) + b (ix2 0 j) := by
  pointwise [k4_pay1]

theorem idx4 : ∀ t : Fin cfg4.N, win4_0.index t = ![t.val, 0] ∧ win4_1.index t = ![0, 0] ∧ win4_2.index t = ![0, 0] ∧ win4_3.index t = ![t.val, 0] :=
  (by decide +kernel : ∀ t : Fin grid4.N, _)

/-- Region 4 leaves the affine image of its first array. -/
theorem final4 (V : (c : Dev nD) → (b : Ref sig .tc) → Buf (Elt Ideal) ((c : Thread nD τ).loc b)) (c : Dev nD) :
    (dat4 V c).arrAt 3 cfg4.N = affine64 (V c (Pipeline.arrRef spec4 0)) (V c (Pipeline.arrRef spec4 1)) (V c (Pipeline.arrRef spec4 2)) := by
  refine (dat4 V c).arrAt_eq_of_covers 3 _ (by decide +kernel) fun t hf y => ?_
  blk_simp
  rw [after4_3]
  unfold out4_A_3
  idx_vars y
  rw [k4_pay1_at]
  unfold affine64
  blk_point [iblk4, idx4 t]

/-! ## Region 6 -/

/-- The product of the rows with the attention's weights. -/
def heads (x : FVec Ideal S10240x64 .f32) (w : FVec Ideal S64x128 .f32) : FVec Ideal S10240x128 .f32 :=
  fun i => ∑ k : Fin 64, x (ix2 (i 0) k) * w (ix2 k (i 1))
/-- Its product with the score vectors. -/
def scores (x : FVec Ideal S10240x64 .f32) (w : FVec Ideal S64x128 .f32) (a : FVec Ideal S128x8 .f32) : FVec Ideal S10240x8 .f32 :=
  fun i => ∑ q : Fin 128, heads x w (ix2 (i 0) q) * a (ix2 q (i 1))

theorem k6_pay1_at (x : FVec Ideal S2048x64 .f32) (w : FVec Ideal S64x128 .f32) (i : Fin 2048) (j : Fin 128) :
    k6_pay1 (F := Ideal) x w (ix2 i j) = ∑ k : Fin 64, x (ix2 i k) * w (ix2 k j) := by
  pointwise [k6_pay1]
theorem k6_pay2_at (x : FVec Ideal S2048x64 .f32) (w : FVec Ideal S64x128 .f32) (a : FVec Ideal S128x8 .f32) (i : Fin 2048) (j : Fin 8) :
    k6_pay2 (F := Ideal) x w a (ix2 i j) = ∑ q : Fin 128, (∑ k : Fin 64, x (ix2 i k) * w (ix2 k q)) * a (ix2 q j) := by
  pointwise [k6_pay2]
  simp only [k6_pay1_at]

theorem idx6 : ∀ t : Fin cfg6.N, win6_0.index t = ![t.val, 0] ∧ win6_1.index t = ![0, 0] ∧ win6_2.index t = ![0, 0] ∧ win6_3.index t = ![t.val, 0] ∧ win6_4.index t = ![t.val, 0] :=
  (by decide +kernel : ∀ t : Fin grid6.N, _)

theorem final6_3 (V : (c : Dev nD) → (b : Ref sig .tc) → Buf (Elt Ideal) ((c : Thread nD τ).loc b)) (c : Dev nD) :
    (dat6 V c).arrAt 3 cfg6.N = heads (V c (Pipeline.arrRef spec6 0)) (V c (Pipeline.arrRef spec6 1)) := by
  refine (dat6 V c).arrAt_eq_of_covers 3 _ (by decide +kernel) fun t hf y => ?_
  blk_simp
  rw [after6_3]
  unfold out6_A_3
  idx_vars y
  rw [k6_pay1_at]
  unfold heads
  blk_point [iblk6, idx6 t]
theorem final6_4 (V : (c : Dev nD) → (b : Ref sig .tc) → Buf (Elt Ideal) ((c : Thread nD τ).loc b)) (c : Dev nD) :
    (dat6 V c).arrAt 4 cfg6.N = scores (V c (Pipeline.arrRef spec6 0)) (V c (Pipeline.arrRef spec6 1)) (V c (Pipeline.arrRef spec6 2)) := by
  refine (dat6 V c).arrAt_eq_of_covers 4 _ (by decide +kernel) fun t hf y => ?_
  blk_simp
  rw [after6_4]
  unfold out6_A_4
  idx_vars y
  rw [k6_pay2_at]
  unfold scores heads
  blk_point [iblk6, idx6 t]

end Cert.KernelIdeal.Reg

end
-- ==== Proof.ValConv1.lean ====
module

public import proofs.«01_k».proof.Proof.RegConv1
public import Idealize.ShloMosaic.Lib.Pipeline.ValueKit
public import Idealize.ShloMosaic.Lib.Pointwise

@[expose] public section

set_option maxRecDepth 16384

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

/-- Entry `(d, k)` of the product of the adjacency counts with the rows. -/
def aggregate (a : FVec Ideal S10240x10240 .f32) (hn : FVec Ideal S10240x64 .f32) (d : Fin 10240) (k : Fin 64) : EReal :=
  ∑ s : Fin 10240, a (ix2 d s) * hn (ix2 s k)
/-- The aggregation over the adjacency counts, its image under the layer's weights, and the edge term, clipped at zero. -/
def convolve (a : FVec Ideal S10240x10240 .f32) (hn : FVec Ideal S10240x64 .f32) (g : FVec Ideal S10240x8 .f32)
    (wch : FVec Ideal S64x64 .f32) (wl : FVec Ideal S8x64 .f32) : FVec Ideal S10240x64 .f32 :=
  fun i => max ((∑ k : Fin 64, aggregate a hn (i 0) k * wch (ix2 k (i 1)))
    + ∑ k : Fin 8, g (ix2 (i 0) k) * wl (ix2 k (i 1))) 0

/-! ## Region 1 -/

theorem k1_pay1_at (x0 : FVec Ideal S512x512 .f32) (x1 : FVec Ideal S512x64 .f32) (i : Fin 512) (j : Fin 64) :
    k1_pay1 (F := Ideal) x0 x1 (ix2 i j) = ∑ k : Fin 512, x0 (ix2 i k) * x1 (ix2 k j) := by
  pointwise [k1_pay1]
theorem k1_pay2_at (x0 : FVec Ideal S512x512 .f32) (x1 d : FVec Ideal S512x64 .f32) (i : Fin 512) (j : Fin 64) :
    k1_pay2 (F := Ideal) x0 x1 d (ix2 i j) = d (ix2 i j) + ∑ k : Fin 512, x0 (ix2 i k) * x1 (ix2 k j) := by
  pointwise [k1_pay2, k1_pay1]
theorem k1_pay3_at (z : FVec Ideal S512x64 .f32) (w : FVec Ideal S64x64 .f32) (g : FVec Ideal S512x8 .f32) (l : FVec Ideal S8x64 .f32) (i : Fin 512) (j : Fin 64) :
    k1_pay3 (F := Ideal) z w g l (ix2 i j) = max ((∑ k : Fin 64, z (ix2 i k) * w (ix2 k j)) + ∑ k : Fin 8, g (ix2 i k) * l (ix2 k j)) 0 := by
  pointwise [k1_pay3]

theorem idx1 : ∀ t : Fin cfg1.N, win1_0.index t = ![t.val / 20, t.val % 20] ∧ win1_1.index t = ![t.val % 20, 0] ∧ win1_2.index t = ![t.val / 20, 0]
    ∧ win1_3.index t = ![0, 0] ∧ win1_4.index t = ![0, 0] ∧ win1_5.index t = ![t.val / 20, 0] :=
  (by decide +kernel : ∀ t : Fin grid1.N, _)

section
variable (V : (c : Dev nD) → (b : Ref sig .tc) → Buf (Elt Ideal) ((c : Thread nD τ).loc b))

/-- The accumulated product after point `n`, before the run's last point applies the weights to it. -/
def acc1 (c : Dev nD) (n : ℕ) (h : n < cfg1.N) : S512x64.Idx → EReal :=
  if n % 20 = 19 then k1_pay2 (F := Ideal) (iblk1 V c 0 ⟨n, h⟩) (iblk1 V c 1 ⟨n, h⟩) (outs1_5 V c (n - 1) (Nat.lt_of_le_of_lt (Nat.sub_le _ _) h))
  else outs1_5 V c n h

theorem acc1_A (c : Dev nD) (t : Fin cfg1.N) (h : t.val % 20 = 0) :
    acc1 V c t.val t.isLt = k1_pay1 (F := Ideal) (iblk1 V c 0 t) (iblk1 V c 1 t) := by
  unfold acc1; rw [if_neg (by omega), outs1_5_A V c t h]; rfl

theorem acc1_B (c : Dev nD) (t : Fin cfg1.N) (h : ¬t.val % 20 = 0) :
    acc1 V c t.val t.isLt = k1_pay2 (F := Ideal) (iblk1 V c 0 t) (iblk1 V c 1 t) (acc1 V c (t.val - 1) (Nat.lt_of_le_of_lt (Nat.sub_le _ _) t.isLt)) := by
  have e : acc1 V c (t.val - 1) (Nat.lt_of_le_of_lt (Nat.sub_le _ _) t.isLt) = outs1_5 V c (t.val - 1) (Nat.lt_of_le_of_lt (Nat.sub_le _ _) t.isLt) := by
    unfold acc1; rw [if_neg (by omega)]
  rw [e]
  unfold acc1
  by_cases h19 : t.val % 20 = 19
  · rw [if_pos h19]
  · rw [if_neg h19, outs1_5_B V c t h h19]; rfl

theorem acc1_sum (c : Dev nD) (t : Fin cfg1.N) (h19 : t.val % 20 = 19) (i : Fin 512) (k : Fin 64) :
    acc1 V c t.val t.isLt (ix2 i k) = aggregate (V c (Pipeline.arrRef spec1 0)) (V c (Pipeline.arrRef spec1 1))
      ⟨512 * (t.val / 20) + i.val, by have := t.isLt; have : cfg1.N = 400 := rfl; omega⟩ k := by
  unfold aggregate
  rw [Pipeline.eq_sum_fin_of_reset_step_apply_of_flush (fun n h => acc1 V c n h) 20 (fun _ => 0)
    (fun p j => ∑ l : Fin 512, (show FVec Ideal S512x512 .f32 from iblk1 V c 0 p) (ix2 (j 0) l) * (show FVec Ideal S512x64 .f32 from iblk1 V c 1 p) (ix2 l (j 1)))
    (fun t h j => by idx_vars j; rw [acc1_A V c t h, k1_pay1_at, zero_add])
    (fun t h j => by idx_vars j; rw [acc1_B V c t h, k1_pay2_at])
    t h19 _, zero_add]
  refine Fin.sum_mul_add_congr fun s l hl => ?_
  blk_point [iblk1, idx1 ⟨_, Pipeline.run_point_lt_of_flush t h19 s⟩]

set_option maxHeartbeats 1600000 in
/-- Region 1 leaves the layer's aggregation. -/
theorem final1 (c : Dev nD) :
    (dat1 V c).arrAt 5 cfg1.N = convolve (V c (Pipeline.arrRef spec1 0)) (V c (Pipeline.arrRef spec1 1)) (V c (Pipeline.arrRef spec1 2))
      (V c (Pipeline.arrRef spec1 3)) (V c (Pipeline.arrRef spec1 4)) := by
  refine (dat1 V c).arrAt_eq_of_covers 5 _ (by decide +kernel) fun t hf y => ?_
  have h19 := (flush1_5 t).mp hf
  blk_simp
  rw [after1_5, outs1_5_C V c t (by omega) h19]
  have e : out1_C_5 (iblk1 V c 0 t) (iblk1 V c 1 t) (iblk1 V c 2 t) (iblk1 V c 3 t) (iblk1 V c 4 t) (outs1_5 V c (t.val - 1) (Nat.lt_of_le_of_lt (Nat.sub_le _ _) t.isLt))
      = k1_pay3 (F := Ideal) (acc1 V c t.val t.isLt) (iblk1 V c 3 t) (iblk1 V c 2 t) (iblk1 V c 4 t) := by
    unfold out1_C_5 acc1; rw [if_pos h19]
  rw [e]
  idx_vars y
  rw [k1_pay3_at]
  simp only [acc1_sum V c t h19]
  unfold convolve
  blk_point [iblk1, idx1 t]
end

end Cert.KernelIdeal.Reg

end
-- ==== Proof.ValConv3.lean ====
module

public import proofs.«01_k».proof.Proof.RegConv3
public import Idealize.ShloMosaic.Lib.Pipeline.ValueKit
public import Idealize.ShloMosaic.Lib.Pointwise
public import proofs.«01_k».proof.Proof.ValConv1

@[expose] public section

set_option maxRecDepth 16384

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

/-! ## Region 3 -/

theorem k3_pay1_at (x0 : FVec Ideal S512x512 .f32) (x1 : FVec Ideal S512x64 .f32) (i : Fin 512) (j : Fin 64) :
    k3_pay1 (F := Ideal) x0 x1 (ix2 i j) = ∑ k : Fin 512, x0 (ix2 i k) * x1 (ix2 k j) := by
  pointwise [k3_pay1]
theorem k3_pay2_at (x0 : FVec Ideal S512x512 .f32) (x1 d : FVec Ideal S512x64 .f32) (i : Fin 512) (j : Fin 64) :
    k3_pay2 (F := Ideal) x0 x1 d (ix2 i j) = d (ix2 i j) + ∑ k : Fin 512, x0 (ix2 i k) * x1 (ix2 k j) := by
  pointwise [k3_pay2, k3_pay1]
theorem k3_pay3_at (z : FVec Ideal S512x64 .f32) (w : FVec Ideal S64x64 .f32) (g : FVec Ideal S512x8 .f32) (l : FVec Ideal S8x64 .f32) (i : Fin 512) (j : Fin 64) :
    k3_pay3 (F := Ideal) z w g l (ix2 i j) = max ((∑ k : Fin 64, z (ix2 i k) * w (ix2 k j)) + ∑ k : Fin 8, g (ix2 i k) * l (ix2 k j)) 0 := by
  pointwise [k3_pay3]

theorem idx3 : ∀ t : Fin cfg3.N, win3_0.index t = ![t.val / 20, t.val % 20] ∧ win3_1.index t = ![t.val % 20, 0] ∧ win3_2.index t = ![t.val / 20, 0]
    ∧ win3_3.index t = ![0, 0] ∧ win3_4.index t = ![0, 0] ∧ win3_5.index t = ![t.val / 20, 0] :=
  (by decide +kernel : ∀ t : Fin grid3.N, _)

section
variable (V : (c : Dev nD) → (b : Ref sig .tc) → Buf (Elt Ideal) ((c : Thread nD τ).loc b))

/-- The accumulated product after point `n`, before the run's last point applies the weights to it. -/
def acc3 (c : Dev nD) (n : ℕ) (h : n < cfg3.N) : S512x64.Idx → EReal :=
  if n % 20 = 19 then k3_pay2 (F := Ideal) (iblk3 V c 0 ⟨n, h⟩) (iblk3 V c 1 ⟨n, h⟩) (outs3_5 V c (n - 1) (Nat.lt_of_le_of_lt (Nat.sub_le _ _) h))
  else outs3_5 V c n h

theorem acc3_A (c : Dev nD) (t : Fin cfg3.N) (h : t.val % 20 = 0) :
    acc3 V c t.val t.isLt = k3_pay1 (F := Ideal) (iblk3 V c 0 t) (iblk3 V c 1 t) := by
  unfold acc3; rw [if_neg (by omega), outs3_5_A V c t h]; rfl

theorem acc3_B (c : Dev nD) (t : Fin cfg3.N) (h : ¬t.val % 20 = 0) :
    acc3 V c t.val t.isLt = k3_pay2 (F := Ideal) (iblk3 V c 0 t) (iblk3 V c 1 t) (acc3 V c (t.val - 1) (Nat.lt_of_le_of_lt (Nat.sub_le _ _) t.isLt)) := by
  have e : acc3 V c (t.val - 1) (Nat.lt_of_le_of_lt (Nat.sub_le _ _) t.isLt) = outs3_5 V c (t.val - 1) (Nat.lt_of_le_of_lt (Nat.sub_le _ _) t.isLt) := by
    unfold acc3; rw [if_neg (by omega)]
  rw [e]
  unfold acc3
  by_cases h19 : t.val % 20 = 19
  · rw [if_pos h19]
  · rw [if_neg h19, outs3_5_B V c t h h19]; rfl

theorem acc3_sum (c : Dev nD) (t : Fin cfg3.N) (h19 : t.val % 20 = 19) (i : Fin 512) (k : Fin 64) :
    acc3 V c t.val t.isLt (ix2 i k) = aggregate (V c (Pipeline.arrRef spec3 0)) (V c (Pipeline.arrRef spec3 1))
      ⟨512 * (t.val / 20) + i.val, by have := t.isLt; have : cfg3.N = 400 := rfl; omega⟩ k := by
  unfold aggregate
  rw [Pipeline.eq_sum_fin_of_reset_step_apply_of_flush (fun n h => acc3 V c n h) 20 (fun _ => 0)
    (fun p j => ∑ l : Fin 512, (show FVec Ideal S512x512 .f32 from iblk3 V c 0 p) (ix2 (j 0) l) * (show FVec Ideal S512x64 .f32 from iblk3 V c 1 p) (ix2 l (j 1)))
    (fun t h j => by idx_vars j; rw [acc3_A V c t h, k3_pay1_at, zero_add])
    (fun t h j => by idx_vars j; rw [acc3_B V c t h, k3_pay2_at])
    t h19 _, zero_add]
  refine Fin.sum_mul_add_congr fun s l hl => ?_
  blk_point [iblk3, idx3 ⟨_, Pipeline.run_point_lt_of_flush t h19 s⟩]

set_option maxHeartbeats 1600000 in
/-- Region 3 leaves the layer's aggregation. -/
theorem final3 (c : Dev nD) :
    (dat3 V c).arrAt 5 cfg3.N = convolve (V c (Pipeline.arrRef spec3 0)) (V c (Pipeline.arrRef spec3 1)) (V c (Pipeline.arrRef spec3 2))
      (V c (Pipeline.arrRef spec3 3)) (V c (Pipeline.arrRef spec3 4)) := by
  refine (dat3 V c).arrAt_eq_of_covers 5 _ (by decide +kernel) fun t hf y => ?_
  have h19 := (flush3_5 t).mp hf
  blk_simp
  rw [after3_5, outs3_5_C V c t (by omega) h19]
  have e : out3_C_5 (iblk3 V c 0 t) (iblk3 V c 1 t) (iblk3 V c 2 t) (iblk3 V c 3 t) (iblk3 V c 4 t) (outs3_5 V c (t.val - 1) (Nat.lt_of_le_of_lt (Nat.sub_le _ _) t.isLt))
      = k3_pay3 (F := Ideal) (acc3 V c t.val t.isLt) (iblk3 V c 3 t) (iblk3 V c 2 t) (iblk3 V c 4 t) := by
    unfold out3_C_5 acc3; rw [if_pos h19]
  rw [e]
  idx_vars y
  rw [k3_pay3_at]
  simp only [acc3_sum V c t h19]
  unfold convolve
  blk_point [iblk3, idx3 t]
end

end Cert.KernelIdeal.Reg

end
-- ==== Proof.ValConv5.lean ====
module

public import proofs.«01_k».proof.Proof.RegConv5
public import Idealize.ShloMosaic.Lib.Pipeline.ValueKit
public import Idealize.ShloMosaic.Lib.Pointwise
public import proofs.«01_k».proof.Proof.ValConv1

@[expose] public section

set_option maxRecDepth 16384

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

/-! ## Region 5 -/

theorem k5_pay1_at (x0 : FVec Ideal S512x512 .f32) (x1 : FVec Ideal S512x64 .f32) (i : Fin 512) (j : Fin 64) :
    k5_pay1 (F := Ideal) x0 x1 (ix2 i j) = ∑ k : Fin 512, x0 (ix2 i k) * x1 (ix2 k j) := by
  pointwise [k5_pay1]
theorem k5_pay2_at (x0 : FVec Ideal S512x512 .f32) (x1 d : FVec Ideal S512x64 .f32) (i : Fin 512) (j : Fin 64) :
    k5_pay2 (F := Ideal) x0 x1 d (ix2 i j) = d (ix2 i j) + ∑ k : Fin 512, x0 (ix2 i k) * x1 (ix2 k j) := by
  pointwise [k5_pay2, k5_pay1]
theorem k5_pay3_at (z : FVec Ideal S512x64 .f32) (w : FVec Ideal S64x64 .f32) (g : FVec Ideal S512x8 .f32) (l : FVec Ideal S8x64 .f32) (i : Fin 512) (j : Fin 64) :
    k5_pay3 (F := Ideal) z w g l (ix2 i j) = max ((∑ k : Fin 64, z (ix2 i k) * w (ix2 k j)) + ∑ k : Fin 8, g (ix2 i k) * l (ix2 k j)) 0 := by
  pointwise [k5_pay3]

theorem idx5 : ∀ t : Fin cfg5.N, win5_0.index t = ![t.val / 20, t.val % 20] ∧ win5_1.index t = ![t.val % 20, 0] ∧ win5_2.index t = ![t.val / 20, 0]
    ∧ win5_3.index t = ![0, 0] ∧ win5_4.index t = ![0, 0] ∧ win5_5.index t = ![t.val / 20, 0] :=
  (by decide +kernel : ∀ t : Fin grid5.N, _)

section
variable (V : (c : Dev nD) → (b : Ref sig .tc) → Buf (Elt Ideal) ((c : Thread nD τ).loc b))

/-- The accumulated product after point `n`, before the run's last point applies the weights to it. -/
def acc5 (c : Dev nD) (n : ℕ) (h : n < cfg5.N) : S512x64.Idx → EReal :=
  if n % 20 = 19 then k5_pay2 (F := Ideal) (iblk5 V c 0 ⟨n, h⟩) (iblk5 V c 1 ⟨n, h⟩) (outs5_5 V c (n - 1) (Nat.lt_of_le_of_lt (Nat.sub_le _ _) h))
  else outs5_5 V c n h

theorem acc5_A (c : Dev nD) (t : Fin cfg5.N) (h : t.val % 20 = 0) :
    acc5 V c t.val t.isLt = k5_pay1 (F := Ideal) (iblk5 V c 0 t) (iblk5 V c 1 t) := by
  unfold acc5; rw [if_neg (by omega), outs5_5_A V c t h]; rfl

theorem acc5_B (c : Dev nD) (t : Fin cfg5.N) (h : ¬t.val % 20 = 0) :
    acc5 V c t.val t.isLt = k5_pay2 (F := Ideal) (iblk5 V c 0 t) (iblk5 V c 1 t) (acc5 V c (t.val - 1) (Nat.lt_of_le_of_lt (Nat.sub_le _ _) t.isLt)) := by
  have e : acc5 V c (t.val - 1) (Nat.lt_of_le_of_lt (Nat.sub_le _ _) t.isLt) = outs5_5 V c (t.val - 1) (Nat.lt_of_le_of_lt (Nat.sub_le _ _) t.isLt) := by
    unfold acc5; rw [if_neg (by omega)]
  rw [e]
  unfold acc5
  by_cases h19 : t.val % 20 = 19
  · rw [if_pos h19]
  · rw [if_neg h19, outs5_5_B V c t h h19]; rfl

theorem acc5_sum (c : Dev nD) (t : Fin cfg5.N) (h19 : t.val % 20 = 19) (i : Fin 512) (k : Fin 64) :
    acc5 V c t.val t.isLt (ix2 i k) = aggregate (V c (Pipeline.arrRef spec5 0)) (V c (Pipeline.arrRef spec5 1))
      ⟨512 * (t.val / 20) + i.val, by have := t.isLt; have : cfg5.N = 400 := rfl; omega⟩ k := by
  unfold aggregate
  rw [Pipeline.eq_sum_fin_of_reset_step_apply_of_flush (fun n h => acc5 V c n h) 20 (fun _ => 0)
    (fun p j => ∑ l : Fin 512, (show FVec Ideal S512x512 .f32 from iblk5 V c 0 p) (ix2 (j 0) l) * (show FVec Ideal S512x64 .f32 from iblk5 V c 1 p) (ix2 l (j 1)))
    (fun t h j => by idx_vars j; rw [acc5_A V c t h, k5_pay1_at, zero_add])
    (fun t h j => by idx_vars j; rw [acc5_B V c t h, k5_pay2_at])
    t h19 _, zero_add]
  refine Fin.sum_mul_add_congr fun s l hl => ?_
  blk_point [iblk5, idx5 ⟨_, Pipeline.run_point_lt_of_flush t h19 s⟩]

set_option maxHeartbeats 1600000 in
/-- Region 5 leaves the layer's aggregation. -/
theorem final5 (c : Dev nD) :
    (dat5 V c).arrAt 5 cfg5.N = convolve (V c (Pipeline.arrRef spec5 0)) (V c (Pipeline.arrRef spec5 1)) (V c (Pipeline.arrRef spec5 2))
      (V c (Pipeline.arrRef spec5 3)) (V c (Pipeline.arrRef spec5 4)) := by
  refine (dat5 V c).arrAt_eq_of_covers 5 _ (by decide +kernel) fun t hf y => ?_
  have h19 := (flush5_5 t).mp hf
  blk_simp
  rw [after5_5, outs5_5_C V c t (by omega) h19]
  have e : out5_C_5 (iblk5 V c 0 t) (iblk5 V c 1 t) (iblk5 V c 2 t) (iblk5 V c 3 t) (iblk5 V c 4 t) (outs5_5 V c (t.val - 1) (Nat.lt_of_le_of_lt (Nat.sub_le _ _) t.isLt))
      = k5_pay3 (F := Ideal) (acc5 V c t.val t.isLt) (iblk5 V c 3 t) (iblk5 V c 2 t) (iblk5 V c 4 t) := by
    unfold out5_C_5 acc5; rw [if_pos h19]
  rw [e]
  idx_vars y
  rw [k5_pay3_at]
  simp only [acc5_sum V c t h19]
  unfold convolve
  blk_point [iblk5, idx5 t]
end

end Cert.KernelIdeal.Reg

end
-- ==== Proof.ValMax.lean ====
module

public import proofs.«01_k».proof.Proof.RegMax
public import Idealize.ShloMosaic.Lib.Pipeline.ValueKit
public import Idealize.ShloMosaic.Lib.Pointwise

@[expose] public section

set_option maxRecDepth 16384

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

/-- The score of source `s` where the adjacency count is positive, else the least value. -/
def masked (a : FVec Ideal S10240x10240 .f32) (alst : FVec Ideal S8x10240 .f32) (k : Fin 8) (d s : Fin 10240) : EReal :=
  if 0 < a (ix2 d s) then alst (ix2 k s) else ⊥

/-- The greatest source score into each row, per head. -/
def maxScore (a : FVec Ideal S10240x10240 .f32) (alst : FVec Ideal S8x10240 .f32) (k : Fin 8) (d : Fin 10240) : EReal :=
  Finset.univ.sup (masked a alst k d)

theorem ofBits_negInf : Ideal.ofBits FTy.f32 0xFF800000#32 = ⊥ := by simp [Ideal.ofBits, Ideal.ieee]

theorem fold_max_le {n : ℕ} (f : Fin n → EReal) (b : EReal) : Finset.univ.fold max ⊥ f ≤ b ↔ ∀ x, f x ≤ b := by
  rw [Finset.fold_max_le]; simp

/-- One block's maximum at head `k`, by its upper bounds. -/
theorem k7_le (x0 : FVec Ideal S512x512 .f32) (x1 : FVec Ideal S8x512 .f32) (i : Fin 512) (k : Fin 8) (hk : k.val < 2) (b : EReal) :
    out7_A_2 (F := Ideal) x0 x1 (ix2 i k) ≤ b ↔ ∀ l : Fin 512, (if 0 < x0 (ix2 i l) then x1 (ix2 k l) else ⊥) ≤ b := by
  unfold out7_A_2
  pointwise [k7_pay1]
  simp only [ofBits_negInf]
  have h : k = 0 ∨ k = 1 := by omega
  rcases h with rfl | rfl
  · rw [dif_pos (by decide), fold_max_le]
  · rw [dif_neg (by decide), dif_pos (by decide), fold_max_le]

theorem k7_step (x0 : FVec Ideal S512x512 .f32) (x1 : FVec Ideal S8x512 .f32) (p : FVec Ideal S512x8 .f32) (i : Fin 512) (k : Fin 8) :
    out7_B_2 (F := Ideal) x0 x1 p (ix2 i k) = max (p (ix2 i k)) (out7_A_2 (F := Ideal) x0 x1 (ix2 i k)) := by
  unfold out7_B_2 out7_A_2
  pointwise [k7_pay2]

theorem idx7 : ∀ t : Fin cfg7.N, win7_0.index t = ![t.val / 20, t.val % 20] ∧ win7_1.index t = ![0, t.val % 20] ∧ win7_2.index t = ![t.val / 20, 0] :=
  (by decide +kernel : ∀ t : Fin grid7.N, _)

section
variable (V : (c : Dev nD) → (b : Ref sig .tc) → Buf (Elt Ideal) ((c : Thread nD τ).loc b))

theorem k7_block (c : Dev nD) (t : Fin cfg7.N) (i : Fin 512) (l : Fin 512) (k : Fin 8) (d s : Fin 10240)
    (hd : d.val = 512 * (t.val / 20) + i.val) (hs : s.val = 512 * (t.val % 20) + l.val) :
    (if 0 < (show FVec Ideal S512x512 .f32 from iblk7 V c 0 t) (ix2 i l) then (show FVec Ideal S8x512 .f32 from iblk7 V c 1 t) (ix2 k l) else ⊥)
      = masked (V c (Pipeline.arrRef spec7 0)) (V c (Pipeline.arrRef spec7 1)) k d s := by
  have e0 : (show FVec Ideal S512x512 .f32 from iblk7 V c 0 t) (ix2 i l) = (show FVec Ideal S10240x10240 .f32 from V c (Pipeline.arrRef spec7 0)) (ix2 d s) := by
    blk_point [iblk7, idx7 t]
  have e1 : (show FVec Ideal S8x512 .f32 from iblk7 V c 1 t) (ix2 k l) = (show FVec Ideal S8x10240 .f32 from V c (Pipeline.arrRef spec7 1)) (ix2 k s) := by
    blk_point [iblk7, idx7 t]
  rw [e0, e1]; rfl

/-- The running maximum after point `n`, by its upper bounds: the sources of the blocks passed so far. -/
theorem outs7_le (c : Dev nD) (k : Fin 8) (hk : k.val < 2) (i : Fin 512) (b : EReal) : ∀ (n : ℕ) (h : n < cfg7.N) (d : Fin 10240), d.val = 512 * (n / 20) + i.val →
    ((show FVec Ideal S512x8 .f32 from outs7_2 V c n h) (ix2 i k) ≤ b
      ↔ ∀ s : Fin 10240, s.val < 512 * (n % 20 + 1) → masked (V c (Pipeline.arrRef spec7 0)) (V c (Pipeline.arrRef spec7 1)) k d s ≤ b)
  | n, h, d, hd => by
    have hN : cfg7.N = 400 := rfl
    have cur : out7_A_2 (F := Ideal) (iblk7 V c 0 ⟨n, h⟩) (iblk7 V c 1 ⟨n, h⟩) (ix2 i k) ≤ b
        ↔ ∀ s : Fin 10240, 512 * (n % 20) ≤ s.val → s.val < 512 * (n % 20 + 1) → masked (V c (Pipeline.arrRef spec7 0)) (V c (Pipeline.arrRef spec7 1)) k d s ≤ b := by
      refine (k7_le _ _ i k hk b).trans ⟨fun H s h1 h2 => ?_, fun H l => ?_⟩
      · rw [← k7_block V c ⟨n, h⟩ i ⟨s.val - 512 * (n % 20), by omega⟩ k d s hd (by simp only []; omega)]; exact H _
      · refine (le_of_eq (k7_block V c ⟨n, h⟩ i l k d ⟨512 * (n % 20) + l.val, by omega⟩ hd rfl)).trans (H _ ?_ ?_) <;> simp only [] <;> omega
    by_cases h0 : n % 20 = 0
    · have e : outs7_2 V c n h = _ := outs7_2_A V c ⟨n, h⟩ h0
      rw [e]
      refine cur.trans ⟨fun H s h2 => H s (by omega) h2, fun H s _ h2 => H s h2⟩
    · have e : outs7_2 V c n h = _ := outs7_2_B V c ⟨n, h⟩ h0
      rw [e]
      have q := outs7_le c k hk i b (n - 1) (by omega) d (by omega)
      refine (iff_of_eq (congrArg (· ≤ b) (k7_step _ _ _ i k))).trans (max_le_iff.trans ((and_congr q cur).trans ⟨fun H s h2 => ?_, fun H => ⟨fun s h2 => H s (by omega), fun s _ h2 => H s h2⟩⟩))
      by_cases hs : s.val < 512 * ((n - 1) % 20 + 1)
      · exact H.1 s hs
      · exact H.2 s (by omega) h2

theorem k7_bot (x0 : FVec Ideal S512x512 .f32) (x1 : FVec Ideal S8x512 .f32) (i : Fin 512) (k : Fin 8) (hk : ¬k.val < 2) :
    out7_A_2 (F := Ideal) x0 x1 (ix2 i k) = ⊥ := by
  unfold out7_A_2
  pointwise [k7_pay1]
  simp only [ofBits_negInf]
  rw [dif_neg (by omega), dif_neg (by omega)]

/-- The other columns stay at the least value. -/
theorem outs7_bot (c : Dev nD) (k : Fin 8) (hk : ¬k.val < 2) (i : Fin 512) : ∀ (n : ℕ) (h : n < cfg7.N),
    (show FVec Ideal S512x8 .f32 from outs7_2 V c n h) (ix2 i k) = ⊥
  | n, h => by
    by_cases h0 : n % 20 = 0
    · have e : outs7_2 V c n h = _ := outs7_2_A V c ⟨n, h⟩ h0
      rw [e]; exact k7_bot _ _ i k hk
    · have e : outs7_2 V c n h = _ := outs7_2_B V c ⟨n, h⟩ h0
      rw [e]
      have q := outs7_bot c k hk i (n - 1) (by omega)
      exact (k7_step _ _ _ i k).trans ((congrArg₂ max q (k7_bot _ _ i k hk)).trans (max_self _))

/-- At the end of a run the first two columns hold the row's greatest score. -/
theorem outs7_max (c : Dev nD) (k : Fin 8) (hk : k.val < 2) (i : Fin 512) (n : ℕ) (h : n < cfg7.N) (d : Fin 10240) (hd : d.val = 512 * (n / 20) + i.val) (h19 : n % 20 = 19) :
    (show FVec Ideal S512x8 .f32 from outs7_2 V c n h) (ix2 i k) = maxScore (V c (Pipeline.arrRef spec7 0)) (V c (Pipeline.arrRef spec7 1)) k d := by
  refine eq_of_forall_ge_iff fun b => ((outs7_le V c k hk i b n h d hd).trans ?_)
  unfold maxScore
  rw [Finset.sup_le_iff]
  exact ⟨fun H s _ => H s (by omega), fun H s _ => H s (Finset.mem_univ s)⟩

/-- Region 7 leaves each row's greatest source score in its first two columns. -/
theorem final7 (c : Dev nD) (k : Fin 8) (hk : k.val < 2) (d : Fin 10240) :
    (show FVec Ideal S10240x8 .f32 from (dat7 V c).arrAt 2 cfg7.N) (ix2 d k) = maxScore (V c (Pipeline.arrRef spec7 0)) (V c (Pipeline.arrRef spec7 1)) k d := by
  have key : (dat7 V c).arrAt 2 cfg7.N = (show FVec Ideal S10240x8 .f32 from fun y => if (y 1).val < 2 then maxScore (V c (Pipeline.arrRef spec7 0)) (V c (Pipeline.arrRef spec7 1)) (y 1) (y 0) else ⊥) := by
    refine (dat7 V c).arrAt_eq_of_covers 2 _ (by decide +kernel) fun t hf y => ?_
    have h19 := (flush7_2 t).mp hf
    have hN : t.val < 400 := t.isLt
    blk_simp
    rw [after7_2]
    have hz0 : ((((View.whole main_call0_v94).slice (win7_2.rect t)).emb y) 0).val = 512 * (t.val / 20) + (y 0).val := by blk_simp [idx7 t] <;> omega
    have hz1 : ((((View.whole main_call0_v94).slice (win7_2.rect t)).emb y) 1).val = (y 1).val := by blk_simp [idx7 t] <;> omega
    generalize (((View.whole main_call0_v94).slice (win7_2.rect t)).emb y) = z at hz0 hz1 ⊢
    idx_vars y
    idx_vars z
    have hz1' : z1 = y1 := Fin.ext hz1
    subst hz1'
    have hi : win7_2.index t 1 = 0 := by rw [(idx7 t).2.2]; rfl
    have e : win7_2.index t 1 * 8 + z1.val = z1.val := by rw [hi]; omega
    by_cases hk : z1.val < 2
    · exact (outs7_max V c z1 hk y0 t.val t.isLt z0 hz0 h19).trans (if_pos (lt_of_eq_of_lt e hk)).symm
    · exact (outs7_bot V c z1 hk y0 t.val t.isLt).trans (if_neg fun q => hk (lt_of_eq_of_lt e.symm q)).symm
  rw [key]; exact if_pos hk
end

end Cert.KernelIdeal.Reg

end
-- ==== Proof.ValGat.lean ====
module

public import proofs.«01_k».proof.Proof.RegGat
public import Idealize.ShloMosaic.Lib.Pipeline.ValueKit
public import Idealize.ShloMosaic.Lib.Pointwise

@[expose] public section

set_option maxRecDepth 16384

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

/-- The leaky rectifier as the greater of a number and its multiple. -/
def leak (z : EReal) : EReal := max z (Ideal.ofBits FTy.f32 0x3E4CCCCD#32 * z)
/-- An edge count's softmax weight: the count times the exponential of the shifted score, nothing without an edge. -/
def weight (a als ald m : EReal) : EReal := if 0 < a then a * Ideal.exp (leak (ald + als) - leak (m + ald)) else 0

/-- Entry `(d, j)` of the weighted sum of the sources' rows, at the score rows and columns given. -/
def attend (a : FVec Ideal S10240x10240 .f32) (alst : FVec Ideal S8x10240 .f32) (al m : FVec Ideal S10240x8 .f32) (hp : FVec Ideal S10240x128 .f32)
    (k k2 : Fin 8) (d : Fin 10240) (j : Fin 128) : EReal :=
  ∑ s : Fin 10240, weight (a (ix2 d s)) (alst (ix2 k s)) (al (ix2 d k2)) (m (ix2 d k)) * hp (ix2 s j)
/-- The sum of the weights into row `d`. -/
def mass (a : FVec Ideal S10240x10240 .f32) (alst : FVec Ideal S8x10240 .f32) (al m : FVec Ideal S10240x8 .f32) (k k2 : Fin 8) (d : Fin 10240) : EReal :=
  ∑ s : Fin 10240, weight (a (ix2 d s)) (alst (ix2 k s)) (al (ix2 d k2)) (m (ix2 d k))

/-- One block's part of `attend`. -/
def attendPart (x0 : FVec Ideal S512x512 .f32) (x1 : FVec Ideal S8x512 .f32) (x2 x3 : FVec Ideal S512x8 .f32) (x4 : FVec Ideal S512x128 .f32)
    (k k2 : Fin 8) (i : Fin 512) (j : Fin 128) : EReal :=
  ∑ s : Fin 512, weight (x0 (ix2 i s)) (x1 (ix2 k s)) (x2 (ix2 i k2)) (x3 (ix2 i k)) * x4 (ix2 s j)
/-- One block's part of `mass`. -/
def massPart (x0 : FVec Ideal S512x512 .f32) (x1 : FVec Ideal S8x512 .f32) (x2 x3 : FVec Ideal S512x8 .f32) (k k2 : Fin 8) (i : Fin 512) : EReal :=
  ∑ s : Fin 512, weight (x0 (ix2 i s)) (x1 (ix2 k s)) (x2 (ix2 i k2)) (x3 (ix2 i k))

theorem out8_A_5_at (x0 : FVec Ideal S512x512 .f32) (x1 : FVec Ideal S8x512 .f32) (x2 x3 : FVec Ideal S512x8 .f32) (x4 : FVec Ideal S512x128 .f32) (i : Fin 512) (j : Fin 128) :
    out8_A_5 (F := Ideal) x0 x1 x2 x3 x4 (ix2 i j) = if j.val < 64 then attendPart x0 x1 x2 x3 x4 0 2 i j else attendPart x0 x1 x2 x3 x4 1 3 i j := by
  unfold out8_A_5
  pointwise [k8_pay1, k8_pay2, k8_pay6, k8_pay7, k8_pay8, k8_pay10, k8_pay11]
  by_cases h : j.val < 64
  · exact (dif_pos h).trans (if_pos h).symm
  · refine (dif_neg h).trans (Eq.trans ?_ (if_neg h).symm)
    refine Finset.sum_congr rfl fun x _ => congrArg₂ (· * ·) rfl (congrArg x4 (congrArg (ix2 x) (Fin.ext ?_)))
    show 64 + (j.val - 64) = j.val
    omega
theorem out8_B_5_at (x0 : FVec Ideal S512x512 .f32) (x1 : FVec Ideal S8x512 .f32) (x2 x3 : FVec Ideal S512x8 .f32) (x4 p : FVec Ideal S512x128 .f32) (i : Fin 512) (j : Fin 128) :
    out8_B_5 (F := Ideal) x0 x1 x2 x3 x4 p (ix2 i j) = p (ix2 i j) + out8_A_5 (F := Ideal) x0 x1 x2 x3 x4 (ix2 i j) := by
  unfold out8_A_5 out8_B_5
  pointwise [k8_pay4]
theorem out8_A_6_at (x0 : FVec Ideal S512x512 .f32) (x1 : FVec Ideal S8x512 .f32) (x2 x3 : FVec Ideal S512x8 .f32) (x4 : FVec Ideal S512x128 .f32) (i : Fin 512) (k : Fin 8) :
    out8_A_6 (F := Ideal) x0 x1 x2 x3 x4 (ix2 i k) = if k.val < 1 then massPart x0 x1 x2 x3 0 2 i else if k.val - 1 < 1 then massPart x0 x1 x2 x3 1 3 i else 0 := by
  unfold out8_A_6
  pointwise [k8_pay1, k8_pay3, k8_pay6, k8_pay7, k8_pay9, k8_pay10, k8_pay11]
  split_ifs <;> rfl
theorem out8_B_6_at (x0 : FVec Ideal S512x512 .f32) (x1 : FVec Ideal S8x512 .f32) (x2 x3 : FVec Ideal S512x8 .f32) (x4 : FVec Ideal S512x128 .f32) (p : FVec Ideal S512x8 .f32) (i : Fin 512) (k : Fin 8) :
    out8_B_6 (F := Ideal) x0 x1 x2 x3 x4 p (ix2 i k) = p (ix2 i k) + out8_A_6 (F := Ideal) x0 x1 x2 x3 x4 (ix2 i k) := by
  unfold out8_A_6 out8_B_6
  pointwise [k8_pay5]

theorem idx8 : ∀ t : Fin cfg8.N, win8_0.index t = ![t.val / 20, t.val % 20] ∧ win8_1.index t = ![0, t.val % 20] ∧ win8_2.index t = ![t.val / 20, 0]
    ∧ win8_3.index t = ![t.val / 20, 0] ∧ win8_4.index t = ![t.val % 20, 0] ∧ win8_5.index t = ![t.val / 20, 0] ∧ win8_6.index t = ![t.val / 20, 0] :=
  (by decide +kernel : ∀ t : Fin grid8.N, _)

section
variable (V : (c : Dev nD) → (b : Ref sig .tc) → Buf (Elt Ideal) ((c : Thread nD τ).loc b))

/-- The parts of a run of twenty points make up the whole sum. -/
theorem attend_run (c : Dev nD) (t : Fin cfg8.N) (h19 : t.val % 20 = 19) (k k2 : Fin 8) (i : Fin 512) (j : Fin 128) (hr : ∀ s : Fin 20, 20 * (t.val / 20) + s.val < cfg8.N) (d : Fin 10240)
    (hd : d.val = 512 * (t.val / 20) + i.val) :
    (∑ s : Fin 20, attendPart (iblk8 V c 0 ⟨20 * (t.val / 20) + s.val, hr s⟩) (iblk8 V c 1 ⟨20 * (t.val / 20) + s.val, hr s⟩) (iblk8 V c 2 ⟨20 * (t.val / 20) + s.val, hr s⟩)
        (iblk8 V c 3 ⟨20 * (t.val / 20) + s.val, hr s⟩) (iblk8 V c 4 ⟨20 * (t.val / 20) + s.val, hr s⟩) k k2 i j)
      = attend (V c (Pipeline.arrRef spec8 0)) (V c (Pipeline.arrRef spec8 1)) (V c (Pipeline.arrRef spec8 2)) (V c (Pipeline.arrRef spec8 3)) (V c (Pipeline.arrRef spec8 4)) k k2 d j := by
  unfold attend attendPart
  refine Fin.sum_mul_add_congr fun s l hl => ?_
  blk_point [iblk8, idx8 ⟨_, hr s⟩]
theorem mass_run (c : Dev nD) (t : Fin cfg8.N) (h19 : t.val % 20 = 19) (k k2 : Fin 8) (i : Fin 512) (hr : ∀ s : Fin 20, 20 * (t.val / 20) + s.val < cfg8.N) (d : Fin 10240)
    (hd : d.val = 512 * (t.val / 20) + i.val) :
    (∑ s : Fin 20, massPart (iblk8 V c 0 ⟨20 * (t.val / 20) + s.val, hr s⟩) (iblk8 V c 1 ⟨20 * (t.val / 20) + s.val, hr s⟩) (iblk8 V c 2 ⟨20 * (t.val / 20) + s.val, hr s⟩)
        (iblk8 V c 3 ⟨20 * (t.val / 20) + s.val, hr s⟩) k k2 i)
      = mass (V c (Pipeline.arrRef spec8 0)) (V c (Pipeline.arrRef spec8 1)) (V c (Pipeline.arrRef spec8 2)) (V c (Pipeline.arrRef spec8 3)) k k2 d := by
  unfold mass massPart
  refine Fin.sum_mul_add_congr fun s l hl => ?_
  blk_point [iblk8, idx8 ⟨_, hr s⟩]

theorem outs8_5_sum (c : Dev nD) (t : Fin cfg8.N) (h19 : t.val % 20 = 19) (i : Fin 512) (j : Fin 128) (d : Fin 10240) (hd : d.val = 512 * (t.val / 20) + i.val) :
    (show FVec Ideal S512x128 .f32 from outs8_5 V c t.val t.isLt) (ix2 i j)
      = if j.val < 64 then attend (V c (Pipeline.arrRef spec8 0)) (V c (Pipeline.arrRef spec8 1)) (V c (Pipeline.arrRef spec8 2)) (V c (Pipeline.arrRef spec8 3)) (V c (Pipeline.arrRef spec8 4)) 0 2 d j
        else attend (V c (Pipeline.arrRef spec8 0)) (V c (Pipeline.arrRef spec8 1)) (V c (Pipeline.arrRef spec8 2)) (V c (Pipeline.arrRef spec8 3)) (V c (Pipeline.arrRef spec8 4)) 1 3 d j := by
  have hr : ∀ s : Fin 20, 20 * (t.val / 20) + s.val < cfg8.N := fun s => Pipeline.run_point_lt_of_flush t h19 s
  refine (Pipeline.eq_sum_fin_of_reset_step_apply_of_flush (fun n h => (show S512x128.Idx → EReal from outs8_5 V c n h)) 20 (fun _ => 0)
    (fun p j => out8_A_5 (F := Ideal) (iblk8 V c 0 p) (iblk8 V c 1 p) (iblk8 V c 2 p) (iblk8 V c 3 p) (iblk8 V c 4 p) j)
    (fun t h j => by rw [zero_add]; exact congrFun (outs8_5_A V c t h) j)
    (fun t h j => by idx_vars j; exact (congrFun (outs8_5_B V c t h) _).trans (out8_B_5_at _ _ _ _ _ _ _ _))
    t h19 (ix2 i j)).trans ?_
  rw [zero_add]
  refine (Fin.sum_fin_congr fun s => out8_A_5_at _ _ _ _ _ i j).trans ?_
  by_cases hj : j.val < 64
  · simp only [if_pos hj]; exact attend_run V c t h19 0 2 i j hr d hd
  · simp only [if_neg hj]; exact attend_run V c t h19 1 3 i j hr d hd

theorem outs8_6_sum (c : Dev nD) (t : Fin cfg8.N) (h19 : t.val % 20 = 19) (i : Fin 512) (k : Fin 8) (d : Fin 10240) (hd : d.val = 512 * (t.val / 20) + i.val) :
    (show FVec Ideal S512x8 .f32 from outs8_6 V c t.val t.isLt) (ix2 i k)
      = if k.val < 1 then mass (V c (Pipeline.arrRef spec8 0)) (V c (Pipeline.arrRef spec8 1)) (V c (Pipeline.arrRef spec8 2)) (V c (Pipeline.arrRef spec8 3)) 0 2 d
        else if k.val - 1 < 1 then mass (V c (Pipeline.arrRef spec8 0)) (V c (Pipeline.arrRef spec8 1)) (V c (Pipeline.arrRef spec8 2)) (V c (Pipeline.arrRef spec8 3)) 1 3 d else 0 := by
  have hr : ∀ s : Fin 20, 20 * (t.val / 20) + s.val < cfg8.N := fun s => Pipeline.run_point_lt_of_flush t h19 s
  refine (Pipeline.eq_sum_fin_of_reset_step_apply_of_flush (fun n h => (show S512x8.Idx → EReal from outs8_6 V c n h)) 20 (fun _ => 0)
    (fun p j => out8_A_6 (F := Ideal) (iblk8 V c 0 p) (iblk8 V c 1 p) (iblk8 V c 2 p) (iblk8 V c 3 p) (iblk8 V c 4 p) j)
    (fun t h j => by rw [zero_add]; exact congrFun (outs8_6_A V c t h) j)
    (fun t h j => by idx_vars j; exact (congrFun (outs8_6_B V c t h) _).trans (out8_B_6_at _ _ _ _ _ _ _ _))
    t h19 (ix2 i k)).trans ?_
  rw [zero_add]
  refine (Fin.sum_fin_congr fun s => out8_A_6_at _ _ _ _ _ i k).trans ?_
  by_cases hk : k.val < 1
  · simp only [if_pos hk]; exact mass_run V c t h19 0 2 i hr d hd
  · simp only [if_neg hk]
    by_cases hk : k.val - 1 < 1
    · simp only [if_pos hk]; exact mass_run V c t h19 1 3 i hr d hd
    · simp only [if_neg hk]; exact Finset.sum_const_zero

/-- Region 8 leaves the weighted sums of both heads side by side. -/
theorem final8_5 (c : Dev nD) :
    (dat8 V c).arrAt 5 cfg8.N = (show FVec Ideal S10240x128 .f32 from fun y =>
      if (y 1).val < 64 then attend (V c (Pipeline.arrRef spec8 0)) (V c (Pipeline.arrRef spec8 1)) (V c (Pipeline.arrRef spec8 2)) (V c (Pipeline.arrRef spec8 3)) (V c (Pipeline.arrRef spec8 4)) 0 2 (y 0) (y 1)
      else attend (V c (Pipeline.arrRef spec8 0)) (V c (Pipeline.arrRef spec8 1)) (V c (Pipeline.arrRef spec8 2)) (V c (Pipeline.arrRef spec8 3)) (V c (Pipeline.arrRef spec8 4)) 1 3 (y 0) (y 1)) := by
  refine (dat8 V c).arrAt_eq_of_covers 5 _ (by decide +kernel) fun t hf y => ?_
  have h19 := (flush8_5 t).mp hf
  blk_simp
  rw [after8_5]
  have hz0 : ((((View.whole main_call0_v95_0).slice (win8_5.rect t)).emb y) 0).val = 512 * (t.val / 20) + (y 0).val := by blk_simp [idx8 t] <;> omega
  have hz1 : ((((View.whole main_call0_v95_0).slice (win8_5.rect t)).emb y) 1).val = (y 1).val := by blk_simp [idx8 t] <;> omega
  generalize (((View.whole main_call0_v95_0).slice (win8_5.rect t)).emb y) = z at hz0 hz1 ⊢
  idx_vars y
  idx_vars z
  have hz1' : z1 = y1 := Fin.ext hz1
  subst hz1'
  have hi : win8_5.index t 1 = 0 := by rw [(idx8 t).2.2.2.2.2.1]; rfl
  have e : win8_5.index t 1 * 128 + z1.val = z1.val := by rw [hi]; omega
  refine (outs8_5_sum V c t h19 y0 z1 z0 hz0).trans ?_
  by_cases hk : z1.val < 64
  · exact (if_pos hk).trans (if_pos (lt_of_eq_of_lt e hk)).symm
  · exact (if_neg hk).trans (if_neg fun q => hk (lt_of_eq_of_lt e.symm q)).symm

/-- Region 8 leaves the masses of both heads in the first two columns. -/
theorem final8_6 (c : Dev nD) :
    (dat8 V c).arrAt 6 cfg8.N = (show FVec Ideal S10240x8 .f32 from fun y =>
      if (y 1).val < 1 then mass (V c (Pipeline.arrRef spec8 0)) (V c (Pipeline.arrRef spec8 1)) (V c (Pipeline.arrRef spec8 2)) (V c (Pipeline.arrRef spec8 3)) 0 2 (y 0)
      else if (y 1).val - 1 < 1 then mass (V c (Pipeline.arrRef spec8 0)) (V c (Pipeline.arrRef spec8 1)) (V c (Pipeline.arrRef spec8 2)) (V c (Pipeline.arrRef spec8 3)) 1 3 (y 0) else 0) := by
  refine (dat8 V c).arrAt_eq_of_covers 6 _ (by decide +kernel) fun t hf y => ?_
  have h19 := (flush8_6 t).mp hf
  blk_simp
  rw [after8_6]
  have hz0 : ((((View.whole main_call0_v95_1).slice (win8_6.rect t)).emb y) 0).val = 512 * (t.val / 20) + (y 0).val := by blk_simp [idx8 t] <;> omega
  have hz1 : ((((View.whole main_call0_v95_1).slice (win8_6.rect t)).emb y) 1).val = (y 1).val := by blk_simp [idx8 t] <;> omega
  generalize (((View.whole main_call0_v95_1).slice (win8_6.rect t)).emb y) = z at hz0 hz1 ⊢
  idx_vars y
  idx_vars z
  have hz1' : z1 = y1 := Fin.ext hz1
  subst hz1'
  have hi : win8_6.index t 1 = 0 := by rw [(idx8 t).2.2.2.2.2.2]; rfl
  have e : win8_6.index t 1 * 8 + z1.val = z1.val := by rw [hi]; omega
  have e' : win8_6.index t 1 * 8 + z1.val - 1 = z1.val - 1 := by rw [e]
  refine (outs8_6_sum V c t h19 y0 z1 z0 hz0).trans ?_
  by_cases hk : z1.val < 1
  · exact (if_pos hk).trans (if_pos (lt_of_eq_of_lt e hk)).symm
  · refine (if_neg hk).trans (Eq.trans ?_ (if_neg fun q => hk (lt_of_eq_of_lt e.symm q)).symm)
    by_cases hk : z1.val - 1 < 1
    · exact (if_pos hk).trans (if_pos (lt_of_eq_of_lt e' hk)).symm
    · exact (if_neg hk).trans (if_neg fun q => hk (lt_of_eq_of_lt e'.symm q)).symm
end

end Cert.KernelIdeal.Reg

end
-- ==== Proof.KerChain.lean ====
module

public import proofs.«01_k».proof.Proof.Bound
public import proofs.«01_k».proof.Proof.HostRead0
public import proofs.«01_k».proof.Proof.HostRead1
public import proofs.«01_k».proof.Proof.HostRead2
public import proofs.«01_k».proof.Proof.ValLin
public import proofs.«01_k».proof.Proof.ValConv1
public import proofs.«01_k».proof.Proof.ValConv3
public import proofs.«01_k».proof.Proof.ValConv5
public import proofs.«01_k».proof.Proof.ValMax
public import proofs.«01_k».proof.Proof.ValGat

/-! What each array of the kernel's program holds when it is read, down to the result. -/

@[expose] public section

set_option maxRecDepth 16384
set_option maxHeartbeats 1000000

noncomputable section

namespace Cert.KernelIdeal.Chain
open Cert.KernelIdeal Cert.KernelIdeal.Gen
open Idealize.ShloMosaic Idealize.ShloMosaic.TcCoe
open Cert.KernelIdeal.Reg Cert.KernelIdeal.Host

theorem congr3 {α β γ δ : Sort*} (f : α → β → γ → δ) {a a' : α} {b b' : β} {c c' : γ} (ha : a = a') (hb : b = b') (hc : c = c') : f a b c = f a' b' c' := by
  subst ha hb hc; rfl
theorem congr4 {α β γ δ ε : Sort*} (f : α → β → γ → δ → ε) {a a' : α} {b b' : β} {c c' : γ} {d d' : δ} (ha : a = a') (hb : b = b') (hc : c = c') (hd : d = d') : f a b c d = f a' b' c' d' := by
  subst ha hb hc hd; rfl
theorem congr5 {α β γ δ ε ζ : Sort*} (f : α → β → γ → δ → ε → ζ) {a a' : α} {b b' : β} {c c' : γ} {d d' : δ} {e e' : ε} (ha : a = a') (hb : b = b') (hc : c = c') (hd : d = d') (he : e = e') :
    f a b c d e = f a' b' c' d' e' := by
  subst ha hb hc hd he; rfl

variable (m : (ℓ : Loc nD τ sig) → Buf (Elt Ideal) ℓ) (ρ : Dev nD → PrngReg) (c : Dev nD)

theorem i19 : W1 m ρ c (Proc.devRef .tc main_call0_v19) = adjacency (m ((c : Thread nD τ).loc main_arg2)) :=
  read_a (W0 m ρ c)
theorem i30 : W1 m ρ c (Proc.devRef .tc main_call0_v30) = edgeSums (m ((c : Thread nD τ).loc main_arg2)) (m ((c : Thread nD τ).loc main_arg1)) :=
  read_g (W0 m ρ c)
theorem i55 : W1 m ρ c (Proc.devRef .tc main_call0_v55) = padded (m ((c : Thread nD τ).loc main_arg0)) :=
  read_x (W0 m ρ c)
theorem i56 : W1 m ρ c (Proc.devRef .tc main_call0_v56) = row (m ((c : Thread nD τ).loc main_arg4)) :=
  read_b1 (W0 m ρ c)
theorem i31 : W1 m ρ c (Proc.devRef .tc main_call0_v31) = upper (m ((c : Thread nD τ).loc main_arg7)) :=
  read_u1 (W0 m ρ c)
theorem i38 : W1 m ρ c (Proc.devRef .tc main_call0_v38) = edgeMap (m ((c : Thread nD τ).loc main_arg5)) (m ((c : Thread nD τ).loc main_arg6)) (m ((c : Thread nD τ).loc main_arg7)) (m ((c : Thread nD τ).loc main_arg8)) :=
  read_w1 (W0 m ρ c)
theorem i39 : W1 m ρ c (Proc.devRef .tc main_call0_v39) = upper (m ((c : Thread nD τ).loc main_arg13)) :=
  read_u2 (W0 m ρ c)
theorem i46 : W1 m ρ c (Proc.devRef .tc main_call0_v46) = edgeMap (m ((c : Thread nD τ).loc main_arg11)) (m ((c : Thread nD τ).loc main_arg12)) (m ((c : Thread nD τ).loc main_arg13)) (m ((c : Thread nD τ).loc main_arg14)) :=
  read_w2 (W0 m ρ c)
theorem i47 : W1 m ρ c (Proc.devRef .tc main_call0_v47) = upper (m ((c : Thread nD τ).loc main_arg19)) :=
  read_u3 (W0 m ρ c)
theorem i54 : W1 m ρ c (Proc.devRef .tc main_call0_v54) = edgeMap (m ((c : Thread nD τ).loc main_arg17)) (m ((c : Thread nD τ).loc main_arg18)) (m ((c : Thread nD τ).loc main_arg19)) (m ((c : Thread nD τ).loc main_arg20)) :=
  read_w3 (W0 m ρ c)
theorem i19_2 : W2 m ρ c (Proc.devRef .tc main_call0_v19) = adjacency (m ((c : Thread nD τ).loc main_arg2)) :=
  (W2_of m ρ c main_call0_v19 (by decide +kernel)).trans (i19 m ρ c)
theorem i19_5 : W5 m ρ c (Proc.devRef .tc main_call0_v19) = adjacency (m ((c : Thread nD τ).loc main_arg2)) :=
  (((W5_of m ρ c main_call0_v19 (by decide +kernel)).trans (W4_of m ρ c main_call0_v19 (by decide +kernel))).trans (W3_of m ρ c main_call0_v19 (by decide +kernel))).trans (i19_2 m ρ c)
theorem i19_8 : W8 m ρ c (Proc.devRef .tc main_call0_v19) = adjacency (m ((c : Thread nD τ).loc main_arg2)) :=
  (((W8_of m ρ c main_call0_v19 (by decide +kernel)).trans (W7_of m ρ c main_call0_v19 (by decide +kernel))).trans (W6_of m ρ c main_call0_v19 (by decide +kernel))).trans (i19_5 m ρ c)
theorem i19_12 : W12 m ρ c (Proc.devRef .tc main_call0_v19) = adjacency (m ((c : Thread nD τ).loc main_arg2)) :=
  ((((W12_of m ρ c main_call0_v19 (by decide +kernel)).trans (W11_of m ρ c main_call0_v19 (by decide +kernel))).trans (W10_of m ρ c main_call0_v19 (by decide +kernel))).trans (W9_of m ρ c main_call0_v19 (by decide +kernel))).trans (i19_8 m ρ c)
theorem i19_13 : W13 m ρ c (Proc.devRef .tc main_call0_v19) = adjacency (m ((c : Thread nD τ).loc main_arg2)) :=
  (W13_of m ρ c main_call0_v19 (by decide +kernel)).trans (i19_12 m ρ c)
theorem i30_2 : W2 m ρ c (Proc.devRef .tc main_call0_v30) = edgeSums (m ((c : Thread nD τ).loc main_arg2)) (m ((c : Thread nD τ).loc main_arg1)) :=
  (W2_of m ρ c main_call0_v30 (by decide +kernel)).trans (i30 m ρ c)
theorem i30_5 : W5 m ρ c (Proc.devRef .tc main_call0_v30) = edgeSums (m ((c : Thread nD τ).loc main_arg2)) (m ((c : Thread nD τ).loc main_arg1)) :=
  (((W5_of m ρ c main_call0_v30 (by decide +kernel)).trans (W4_of m ρ c main_call0_v30 (by decide +kernel))).trans (W3_of m ρ c main_call0_v30 (by decide +kernel))).trans (i30_2 m ρ c)
theorem i30_8 : W8 m ρ c (Proc.devRef .tc main_call0_v30) = edgeSums (m ((c : Thread nD τ).loc main_arg2)) (m ((c : Thread nD τ).loc main_arg1)) :=
  (((W8_of m ρ c main_call0_v30 (by decide +kernel)).trans (W7_of m ρ c main_call0_v30 (by decide +kernel))).trans (W6_of m ρ c main_call0_v30 (by decide +kernel))).trans (i30_5 m ρ c)
theorem i31_2 : W2 m ρ c (Proc.devRef .tc main_call0_v31) = upper (m ((c : Thread nD τ).loc main_arg7)) :=
  (W2_of m ρ c main_call0_v31 (by decide +kernel)).trans (i31 m ρ c)
theorem i38_2 : W2 m ρ c (Proc.devRef .tc main_call0_v38) = edgeMap (m ((c : Thread nD τ).loc main_arg5)) (m ((c : Thread nD τ).loc main_arg6)) (m ((c : Thread nD τ).loc main_arg7)) (m ((c : Thread nD τ).loc main_arg8)) :=
  (W2_of m ρ c main_call0_v38 (by decide +kernel)).trans (i38 m ρ c)
theorem i39_5 : W5 m ρ c (Proc.devRef .tc main_call0_v39) = upper (m ((c : Thread nD τ).loc main_arg13)) :=
  ((((W5_of m ρ c main_call0_v39 (by decide +kernel)).trans (W4_of m ρ c main_call0_v39 (by decide +kernel))).trans (W3_of m ρ c main_call0_v39 (by decide +kernel))).trans (W2_of m ρ c main_call0_v39 (by decide +kernel))).trans (i39 m ρ c)
theorem i46_5 : W5 m ρ c (Proc.devRef .tc main_call0_v46) = edgeMap (m ((c : Thread nD τ).loc main_arg11)) (m ((c : Thread nD τ).loc main_arg12)) (m ((c : Thread nD τ).loc main_arg13)) (m ((c : Thread nD τ).loc main_arg14)) :=
  ((((W5_of m ρ c main_call0_v46 (by decide +kernel)).trans (W4_of m ρ c main_call0_v46 (by decide +kernel))).trans (W3_of m ρ c main_call0_v46 (by decide +kernel))).trans (W2_of m ρ c main_call0_v46 (by decide +kernel))).trans (i46 m ρ c)
theorem i47_8 : W8 m ρ c (Proc.devRef .tc main_call0_v47) = upper (m ((c : Thread nD τ).loc main_arg19)) :=
  (((((((W8_of m ρ c main_call0_v47 (by decide +kernel)).trans (W7_of m ρ c main_call0_v47 (by decide +kernel))).trans (W6_of m ρ c main_call0_v47 (by decide +kernel))).trans (W5_of m ρ c main_call0_v47 (by decide +kernel))).trans (W4_of m ρ c main_call0_v47 (by decide +kernel))).trans (W3_of m ρ c main_call0_v47 (by decide +kernel))).trans (W2_of m ρ c main_call0_v47 (by decide +kernel))).trans (i47 m ρ c)
theorem i54_8 : W8 m ρ c (Proc.devRef .tc main_call0_v54) = edgeMap (m ((c : Thread nD τ).loc main_arg17)) (m ((c : Thread nD τ).loc main_arg18)) (m ((c : Thread nD τ).loc main_arg19)) (m ((c : Thread nD τ).loc main_arg20)) :=
  (((((((W8_of m ρ c main_call0_v54 (by decide +kernel)).trans (W7_of m ρ c main_call0_v54 (by decide +kernel))).trans (W6_of m ρ c main_call0_v54 (by decide +kernel))).trans (W5_of m ρ c main_call0_v54 (by decide +kernel))).trans (W4_of m ρ c main_call0_v54 (by decide +kernel))).trans (W3_of m ρ c main_call0_v54 (by decide +kernel))).trans (W2_of m ρ c main_call0_v54 (by decide +kernel))).trans (i54 m ρ c)
/-- The first layer's mapped rows. -/
def t57 : FVec Ideal S10240x64 .f32 := affine128 (padded (m ((c : Thread nD τ).loc main_arg0))) (m ((c : Thread nD τ).loc main_arg3)) (row (m ((c : Thread nD τ).loc main_arg4)))
/-- The first hidden rows. -/
def t58 : FVec Ideal S10240x64 .f32 := convolve (adjacency (m ((c : Thread nD τ).loc main_arg2))) (t57 m c) (edgeSums (m ((c : Thread nD τ).loc main_arg2)) (m ((c : Thread nD τ).loc main_arg1))) (upper (m ((c : Thread nD τ).loc main_arg7))) (edgeMap (m ((c : Thread nD τ).loc main_arg5)) (m ((c : Thread nD τ).loc main_arg6)) (m ((c : Thread nD τ).loc main_arg7)) (m ((c : Thread nD τ).loc main_arg8)))
/-- The second layer's mapped rows. -/
def t60 : FVec Ideal S10240x64 .f32 := affine64 (t58 m c) (m ((c : Thread nD τ).loc main_arg9)) (row (m ((c : Thread nD τ).loc main_arg10)))
/-- The second hidden rows. -/
def t61 : FVec Ideal S10240x64 .f32 := convolve (adjacency (m ((c : Thread nD τ).loc main_arg2))) (t60 m c) (edgeSums (m ((c : Thread nD τ).loc main_arg2)) (m ((c : Thread nD τ).loc main_arg1))) (upper (m ((c : Thread nD τ).loc main_arg13))) (edgeMap (m ((c : Thread nD τ).loc main_arg11)) (m ((c : Thread nD τ).loc main_arg12)) (m ((c : Thread nD τ).loc main_arg13)) (m ((c : Thread nD τ).loc main_arg14)))
/-- The third layer's mapped rows. -/
def t63 : FVec Ideal S10240x64 .f32 := affine64 (t61 m c) (m ((c : Thread nD τ).loc main_arg15)) (row (m ((c : Thread nD τ).loc main_arg16)))
/-- The third hidden rows. -/
def t64 : FVec Ideal S10240x64 .f32 := convolve (adjacency (m ((c : Thread nD τ).loc main_arg2))) (t63 m c) (edgeSums (m ((c : Thread nD τ).loc main_arg2)) (m ((c : Thread nD τ).loc main_arg1))) (upper (m ((c : Thread nD τ).loc main_arg19))) (edgeMap (m ((c : Thread nD τ).loc main_arg17)) (m ((c : Thread nD τ).loc main_arg18)) (m ((c : Thread nD τ).loc main_arg19)) (m ((c : Thread nD τ).loc main_arg20)))
/-- The heads' features. -/
def hp : FVec Ideal S10240x128 .f32 := heads (t64 m c) (m ((c : Thread nD τ).loc main_arg21))
/-- The scores. -/
def al : FVec Ideal S10240x8 .f32 := scores (t64 m c) (m ((c : Thread nD τ).loc main_arg21)) (scoreMap (m ((c : Thread nD τ).loc main_arg22)) (m ((c : Thread nD τ).loc main_arg23)))
theorem k57 : W2 m ρ c (Proc.devRef .tc main_call0_v57) = t57 m c :=
  (W2_arr m ρ c 3).trans ((final0 (V1 m ρ) c).trans (congr3 affine128 (i55 m ρ c) (W1_args m ρ c main_arg3 (by decide +kernel)) (i56 m ρ c)))
theorem k58 : W3 m ρ c (Proc.devRef .tc main_call0_v58) = t58 m c :=
  (W3_arr m ρ c 5).trans ((final1 (V2 m ρ) c).trans (congr5 convolve (i19_2 m ρ c) (k57 m ρ c) (i30_2 m ρ c) (i31_2 m ρ c) (i38_2 m ρ c)))
theorem i59 : W4 m ρ c (Proc.devRef .tc main_call0_v59) = row (m ((c : Thread nD τ).loc main_arg10)) :=
  (read_b2 (W3 m ρ c)).trans (congrArg row (W3_args m ρ c main_arg10 (by decide +kernel)))
theorem k60 : W5 m ρ c (Proc.devRef .tc main_call0_v60) = t60 m c :=
  (W5_arr m ρ c 3).trans ((final2 (V4 m ρ) c).trans (congr3 affine64 ((W4_of m ρ c main_call0_v58 (by decide +kernel)).trans (k58 m ρ c)) (W4_args m ρ c main_arg9 (by decide +kernel)) (i59 m ρ c)))
theorem k61 : W6 m ρ c (Proc.devRef .tc main_call0_v61) = t61 m c :=
  (W6_arr m ρ c 5).trans ((final3 (V5 m ρ) c).trans (congr5 convolve (i19_5 m ρ c) (k60 m ρ c) (i30_5 m ρ c) (i39_5 m ρ c) (i46_5 m ρ c)))
theorem i62 : W7 m ρ c (Proc.devRef .tc main_call0_v62) = row (m ((c : Thread nD τ).loc main_arg16)) :=
  (read_b3 (W6 m ρ c)).trans (congrArg row (W6_args m ρ c main_arg16 (by decide +kernel)))
theorem k63 : W8 m ρ c (Proc.devRef .tc main_call0_v63) = t63 m c :=
  (W8_arr m ρ c 3).trans ((final4 (V7 m ρ) c).trans (congr3 affine64 ((W7_of m ρ c main_call0_v61 (by decide +kernel)).trans (k61 m ρ c)) (W7_args m ρ c main_arg15 (by decide +kernel)) (i62 m ρ c)))
theorem k64 : W9 m ρ c (Proc.devRef .tc main_call0_v64) = t64 m c :=
  (W9_arr m ρ c 5).trans ((final5 (V8 m ρ) c).trans (congr5 convolve (i19_8 m ρ c) (k63 m ρ c) (i30_8 m ρ c) (i47_8 m ρ c) (i54_8 m ρ c)))
theorem k64_10 : W10 m ρ c (Proc.devRef .tc main_call0_v64) = t64 m c :=
  (W10_of m ρ c main_call0_v64 (by decide +kernel)).trans (k64 m ρ c)
theorem i89 : W10 m ρ c (Proc.devRef .tc main_call0_v89) = scoreMap (m ((c : Thread nD τ).loc main_arg22)) (m ((c : Thread nD τ).loc main_arg23)) :=
  (read_c (W9 m ρ c)).trans (congrArg₂ scoreMap (W9_args m ρ c main_arg22 (by decide +kernel)) (W9_args m ρ c main_arg23 (by decide +kernel)))
theorem khp : W11 m ρ c (Proc.devRef .tc main_call0_v90_0) = hp m c :=
  (W11_arr m ρ c 3).trans ((final6_3 (V10 m ρ) c).trans (congrArg₂ heads (k64_10 m ρ c) (W10_args m ρ c main_arg21 (by decide +kernel))))
theorem kal : W11 m ρ c (Proc.devRef .tc main_call0_v90_1) = al m c :=
  (W11_arr m ρ c 4).trans ((final6_4 (V10 m ρ) c).trans (congr3 scores (k64_10 m ρ c) (W10_args m ρ c main_arg21 (by decide +kernel)) (i89 m ρ c)))
theorem khp_13 : W13 m ρ c (Proc.devRef .tc main_call0_v90_0) = hp m c :=
  ((W13_of m ρ c main_call0_v90_0 (by decide +kernel)).trans (W12_of m ρ c main_call0_v90_0 (by decide +kernel))).trans (khp m ρ c)
theorem kal_13 : W13 m ρ c (Proc.devRef .tc main_call0_v90_1) = al m c :=
  ((W13_of m ρ c main_call0_v90_1 (by decide +kernel)).trans (W12_of m ρ c main_call0_v90_1 (by decide +kernel))).trans (kal m ρ c)
theorem kst : W12 m ρ c (Proc.devRef .tc main_call0_v93) = scoreRows (al m c) :=
  (read_alst (W11 m ρ c)).trans (congrArg scoreRows (kal m ρ c))
theorem kst_13 : W13 m ρ c (Proc.devRef .tc main_call0_v93) = scoreRows (al m c) :=
  (W13_of m ρ c main_call0_v93 (by decide +kernel)).trans (kst m ρ c)
/-- The greatest scores the last kernel reads. -/
def mx : FVec Ideal S10240x8 .f32 := W13 m ρ c (Proc.devRef .tc main_call0_v94)
theorem kmx (k : Fin 8) (hk : k.val < 2) (d : Fin 10240) : mx m ρ c (ix2 d k) = maxScore (adjacency (m ((c : Thread nD τ).loc main_arg2))) (scoreRows (al m c)) k d :=
  (congrFun (W13_arr m ρ c 2) (ix2 d k)).trans ((final7 (V12 m ρ) c k hk d).trans (congrArg₂ (fun a b => maxScore a b k d) (i19_12 m ρ c) (kst m ρ c)))
/-- The attention sums of both heads. -/
def nums (a : FVec Ideal S10240x10240 .f32) (st : FVec Ideal S8x10240 .f32) (l g : FVec Ideal S10240x8 .f32) (p : FVec Ideal S10240x128 .f32) : FVec Ideal S10240x128 .f32 := fun y =>
  if (y 1).val < 64 then attend a st l g p 0 2 (y 0) (y 1) else attend a st l g p 1 3 (y 0) (y 1)
/-- The masses of both heads. -/
def dens (a : FVec Ideal S10240x10240 .f32) (st : FVec Ideal S8x10240 .f32) (l g : FVec Ideal S10240x8 .f32) : FVec Ideal S10240x8 .f32 := fun y =>
  if (y 1).val < 1 then mass a st l g 0 2 (y 0) else if (y 1).val - 1 < 1 then mass a st l g 1 3 (y 0) else 0
theorem knum : W14 m ρ c (Proc.devRef .tc main_call0_v95_0) = nums (adjacency (m ((c : Thread nD τ).loc main_arg2))) (scoreRows (al m c)) (al m c) (mx m ρ c) (hp m c) :=
  (W14_arr m ρ c 5).trans ((final8_5 (V13 m ρ) c).trans (congr5 nums (i19_13 m ρ c) (kst_13 m ρ c) (kal_13 m ρ c) rfl (khp_13 m ρ c)))
theorem kden : W14 m ρ c (Proc.devRef .tc main_call0_v95_1) = dens (adjacency (m ((c : Thread nD τ).loc main_arg2))) (scoreRows (al m c)) (al m c) (mx m ρ c) :=
  (W14_arr m ρ c 6).trans ((final8_6 (V13 m ρ) c).trans (congr4 dens (i19_13 m ρ c) (kst_13 m ρ c) (kal_13 m ρ c) rfl))
/-- The result the kernel leaves. -/
theorem kout : W15 m ρ c (Proc.devRef .tc main_v0) = flat (mean (nums (adjacency (m ((c : Thread nD τ).loc main_arg2))) (scoreRows (al m c)) (al m c) (mx m ρ c) (hp m c)) (dens (adjacency (m ((c : Thread nD τ).loc main_arg2))) (scoreRows (al m c)) (al m c) (mx m ρ c)) (m ((c : Thread nD τ).loc main_arg24))) :=
  (read_out (W14 m ρ c)).trans (congrArg flat (congr3 mean (knum m ρ c) (kden m ρ c) (W14_args m ρ c main_arg24 (by decide +kernel))))

end Cert.KernelIdeal.Chain

end
-- ==== Proof.Layer.lean ====
module

public import proofs.«01_k».proof.Proof.Gcn

/-! The layers over the reals, both programs' common value. -/

@[expose] public section

noncomputable section

namespace Cert.Gcn

open Idealize.ShloMosaic

/-- The leaky rectifier's slope, as its word reads. -/
def slope : ℝ := 13421773 / 67108864
/-- The guard of the normalising sums, as its word reads. -/
def guard : ℝ := 15111573 / 2 ^ 77

theorem slope_bits : Ideal.ofBits FTy.f32 0x3E4CCCCD#32 = (slope : EReal) := by
  unfold slope
  simp [Ideal.ofBits, Ideal.ieee, -EReal.coe_mul]
  norm_num
theorem guard_bits : Ideal.ofBits FTy.f32 0x24E69595#32 = (guard : EReal) := by
  unfold guard
  simp [Ideal.ofBits, Ideal.ieee, -EReal.coe_mul]
  norm_num
theorem half_bits : Ideal.ofBits FTy.f32 0x3F000000#32 = ((1 / 2 : ℝ) : EReal) := by
  simp [Ideal.ofBits, Ideal.ieee, -EReal.coe_mul]
  norm_num
theorem two_bits : Ideal.ofBits FTy.f32 0x40000000#32 = ((2 : ℝ) : EReal) := by
  simp [Ideal.ofBits, Ideal.ieee, -EReal.coe_mul]
  norm_num

theorem slope_nonneg : 0 ≤ slope := by unfold slope; norm_num
theorem slope_le : slope ≤ 1 := by unfold slope; norm_num
theorem guard_pos : 0 < guard := by unfold guard; norm_num

variable {E K : Type} [Fintype E] [Fintype K] [DecidableEq K]

/-- A linear map of every node's row. -/
def affine {M N : Nat} (x : K → Fin M → ℝ) (W : Fin M → Fin N → ℝ) (b : Fin N → ℝ) (n : K) (j : Fin N) : ℝ := (∑ k, x n k * W k j) + b j
/-- A convolution: the messages summed into their targets, rectified. -/
def conv (s t : E → K) (hn : K → Fin 64 → ℝ) (ea : E → Fin 5 → ℝ) (We : Fin 5 → Fin 64 → ℝ) (be : Fin 64 → ℝ) (Wc : Fin 128 → Fin 64 → ℝ) (bc : Fin 64 → ℝ) (d : K) (j : Fin 64) : ℝ :=
  max (∑ e ∈ into t d, message (hn (s e)) (ea e) We be Wc bc j) 0
/-- Column `j` of head `k`. -/
def hd (k : Fin 2) (j : Fin 64) : Fin 128 := ⟨64 * k.val + j.val, by omega⟩
/-- The heads' features. -/
def feat (h : K → Fin 64 → ℝ) (Wg : Fin 64 → Fin 128 → ℝ) (n : K) (c : Fin 128) : ℝ := ∑ k, h n k * Wg k c
/-- A head's score of a node. -/
def sc (hp : K → Fin 128 → ℝ) (A : Fin 2 → Fin 64 → ℝ) (k : Fin 2) (n : K) : ℝ := ∑ j, hp n (hd k j) * A k j
/-- The sum of a node's exponentials. -/
def den (s t : E → K) (u v : K → ℝ) (d : K) : ℝ := ∑ e ∈ into t d, ex s t u v slope (s e) d
/-- The weighted features of a node's sources. -/
def num (s t : E → K) (u v : K → ℝ) (f : K → ℝ) (d : K) : ℝ := ∑ e ∈ into t d, ex s t u v slope (s e) d * f (s e)
/-- One head's attention. -/
def att (s t : E → K) (u v : K → ℝ) (f : K → ℝ) (d : K) : ℝ := num s t u v f d / (den s t u v d + guard)
/-- The mean of the two heads, and the bias. -/
def result (s t : E → K) (hp : K → Fin 128 → ℝ) (As Ad : Fin 2 → Fin 64 → ℝ) (bg : Fin 64 → ℝ) (d : K) (j : Fin 64) : ℝ :=
  1 / 2 * (att s t (sc hp As 0) (sc hp Ad 0) (fun n => hp n (hd 0 j)) d + att s t (sc hp As 1) (sc hp Ad 1) (fun n => hp n (hd 1 j)) d) + bg j

theorem den_pos (s t : E → K) (u v : K → ℝ) (d : K) : 0 < den s t u v d + guard :=
  add_pos_of_nonneg_of_pos (Finset.sum_nonneg fun _ _ => (Real.exp_pos _).le) guard_pos

end Cert.Gcn

end
-- ==== Proof.KerPt.lean ====
module

public import proofs.«01_k».proof.Proof.HostPt
public import proofs.«01_k».proof.Proof.Layer
public import proofs.«01_k».proof.Proof.ValLin
public import proofs.«01_k».proof.Proof.ValConv1
public import proofs.«01_k».proof.Proof.ValMax
public import proofs.«01_k».proof.Proof.ValGat

/-! The kernel's layers over real arguments are the real layers. -/

@[expose] public section

set_option maxRecDepth 16384

noncomputable section

namespace Cert.KernelIdeal.Host
open Cert.KernelIdeal
open Idealize.ShloMosaic Idealize.ShloMosaic.TcCoe
open Cert.KernelIdeal.Reg

theorem affine128_real (x : FVec Ideal S10240x128 .f32) (w : FVec Ideal S128x64 .f32) (b : FVec Ideal S1x64 .f32)
    (X : Fin 10240 → Fin 128 → ℝ) (W : Fin 128 → Fin 64 → ℝ) (B : Fin 64 → ℝ) (hx : ∀ i j, x (ix2 i j) = (X i j : EReal)) (hw : ∀ i j, w (ix2 i j) = (W i j : EReal))
    (hb : ∀ j, b (ix2 0 j) = (B j : EReal)) (n : Fin 10240) (j : Fin 64) : affine128 x w b (ix2 n j) = ((Gcn.affine X W B n j : ℝ) : EReal) := by
  show (∑ k : Fin 128, x (ix2 n k) * w (ix2 k j)) + b (ix2 0 j) = _
  simp only [hx, hw, hb, ← EReal.coe_mul, Gcn.coe_sum, ← EReal.coe_add]
  rfl

theorem affine64_real (x : FVec Ideal S10240x64 .f32) (w : FVec Ideal S64x64 .f32) (b : FVec Ideal S1x64 .f32)
    (X : Fin 10240 → Fin 64 → ℝ) (W : Fin 64 → Fin 64 → ℝ) (B : Fin 64 → ℝ) (hx : ∀ i j, x (ix2 i j) = (X i j : EReal)) (hw : ∀ i j, w (ix2 i j) = (W i j : EReal))
    (hb : ∀ j, b (ix2 0 j) = (B j : EReal)) (n : Fin 10240) (j : Fin 64) : affine64 x w b (ix2 n j) = ((Gcn.affine X W B n j : ℝ) : EReal) := by
  show (∑ k : Fin 64, x (ix2 n k) * w (ix2 k j)) + b (ix2 0 j) = _
  simp only [hx, hw, hb, ← EReal.coe_mul, Gcn.coe_sum, ← EReal.coe_add]
  rfl

/-- The counts' row against a column is a sum over edges. -/
theorem aggregate_real (x : IVec S2x320000 32) (hv : Valid x) (f : Fin 10240 → EReal) (F : Fin 10240 → ℝ) (hf : ∀ s, f s = (F s : EReal)) (d : Fin 10240) :
    ∑ s : Fin 10240, adjacency x (ix2 d s) * f s = ((∑ e ∈ Gcn.into (node x hv 1) d, F (node x hv 0 e) : ℝ) : EReal) := by
  simp only [hf, adjacency_at x hv, ← EReal.coe_mul, Gcn.coe_sum]
  rw [Gcn.sum_count]
  rfl

theorem convolve_real (x : IVec S2x320000 32) (hv : Valid x) (ea : FVec Ideal S320000x5 .f32) (hn : FVec Ideal S10240x64 .f32)
    (we : FVec Ideal S5x64 .f32) (be : FVec Ideal S64 .f32) (wc : FVec Ideal S128x64 .f32) (bc : FVec Ideal S64 .f32)
    (EA : Fin 320000 → Fin 5 → ℝ) (HN : Fin 10240 → Fin 64 → ℝ) (We : Fin 5 → Fin 64 → ℝ) (Be Bc : Fin 64 → ℝ) (Wc : Fin 128 → Fin 64 → ℝ)
    (he : ∀ e k, ea (ix2 e k) = (EA e k : EReal)) (hh : ∀ n k, hn (ix2 n k) = (HN n k : EReal))
    (h1 : ∀ i j, we (ix2 i j) = (We i j : EReal)) (h2 : ∀ i, be (ix1 i) = (Be i : EReal))
    (h3 : ∀ i j, wc (ix2 i j) = (Wc i j : EReal)) (h4 : ∀ i, bc (ix1 i) = (Bc i : EReal)) (d : Fin 10240) (j : Fin 64) :
    convolve (adjacency x) hn (edgeSums x ea) (upper wc) (edgeMap we be wc bc) (ix2 d j)
      = ((Gcn.conv (node x hv 0) (node x hv 1) HN EA We Be Wc Bc d j : ℝ) : EReal) := by
  show max ((∑ k : Fin 64, (∑ s : Fin 10240, adjacency x (ix2 d s) * hn (ix2 s k)) * upper wc (ix2 k j)) + ∑ k : Fin 8, edgeSums x ea (ix2 d k) * edgeMap we be wc bc (ix2 k j)) 0 = _
  simp only [aggregate_real x hv _ _ (fun s => hh s _), edgeSums_at x hv ea EA he, edgeMap_real we be wc bc We Be Bc Wc h1 h2 h3 h4, upper_at, h3, ← EReal.coe_mul, Gcn.coe_sum,
    ← EReal.coe_add, ← EReal.coe_zero, Gcn.coe_max]
  unfold Gcn.conv
  rw [← Gcn.combine]

theorem heads_real (h : FVec Ideal S10240x64 .f32) (w : FVec Ideal S64x128 .f32) (H : Fin 10240 → Fin 64 → ℝ) (W : Fin 64 → Fin 128 → ℝ)
    (hh : ∀ i j, h (ix2 i j) = (H i j : EReal)) (hw : ∀ i j, w (ix2 i j) = (W i j : EReal)) (n : Fin 10240) (j : Fin 128) :
    heads h w (ix2 n j) = ((Gcn.feat H W n j : ℝ) : EReal) := by
  show ∑ k : Fin 64, h (ix2 n k) * w (ix2 k j) = _
  simp only [hh, hw, ← EReal.coe_mul, Gcn.coe_sum]
  rfl

theorem up_eq (j : Fin 64) : Gcn.up j = Gcn.hd 0 j := Fin.ext (by show j.val = 64 * 0 + j.val; omega)
theorem lo_eq (j : Fin 64) : Gcn.lo j = Gcn.hd 1 j := Fin.ext (by show 64 + j.val = 64 * 1 + j.val; omega)

section
variable (h : FVec Ideal S10240x64 .f32) (w : FVec Ideal S64x128 .f32) (a b : FVec Ideal S2x64 .f32) (H : Fin 10240 → Fin 64 → ℝ) (W : Fin 64 → Fin 128 → ℝ) (A B : Fin 2 → Fin 64 → ℝ)
    (hh : ∀ i j, h (ix2 i j) = (H i j : EReal)) (hw : ∀ i j, w (ix2 i j) = (W i j : EReal)) (ha : ∀ i j, a (ix2 i j) = (A i j : EReal)) (hb : ∀ i j, b (ix2 i j) = (B i j : EReal))
include hh hw ha hb

theorem scores_0 (n : Fin 10240) : scores h w (scoreMap a b) (ix2 n 0) = ((Gcn.sc (Gcn.feat H W) A 0 n : ℝ) : EReal) := by
  refine (sum_up (fun q => heads h w (ix2 n q)) (fun q => scoreMap a b (ix2 q 0)) (fun j => a (ix2 0 j)) (scoreMap_0 a b)).trans ?_
  simp only [heads_real h w H W hh hw, ha, ← EReal.coe_mul, Gcn.coe_sum, up_eq]
  rfl
theorem scores_1 (n : Fin 10240) : scores h w (scoreMap a b) (ix2 n 1) = ((Gcn.sc (Gcn.feat H W) A 1 n : ℝ) : EReal) := by
  refine (sum_lo (fun q => heads h w (ix2 n q)) (fun q => scoreMap a b (ix2 q 1)) (fun j => a (ix2 1 j)) (scoreMap_1 a b)).trans ?_
  simp only [heads_real h w H W hh hw, ha, ← EReal.coe_mul, Gcn.coe_sum, lo_eq]
  rfl
theorem scores_2 (n : Fin 10240) : scores h w (scoreMap a b) (ix2 n 2) = ((Gcn.sc (Gcn.feat H W) B 0 n : ℝ) : EReal) := by
  refine (sum_up (fun q => heads h w (ix2 n q)) (fun q => scoreMap a b (ix2 q 2)) (fun j => b (ix2 0 j)) (scoreMap_2 a b)).trans ?_
  simp only [heads_real h w H W hh hw, hb, ← EReal.coe_mul, Gcn.coe_sum, up_eq]
  rfl
theorem scores_3 (n : Fin 10240) : scores h w (scoreMap a b) (ix2 n 3) = ((Gcn.sc (Gcn.feat H W) B 1 n : ℝ) : EReal) := by
  refine (sum_lo (fun q => heads h w (ix2 n q)) (fun q => scoreMap a b (ix2 q 3)) (fun j => b (ix2 1 j)) (scoreMap_3 a b)).trans ?_
  simp only [heads_real h w H W hh hw, hb, ← EReal.coe_mul, Gcn.coe_sum, lo_eq]
  rfl
end

/-- A row's greatest source score. -/
theorem maxScore_real (x : IVec S2x320000 32) (hv : Valid x) (al : FVec Ideal S8x10240 .f32) (k : Fin 8) (u : Fin 10240 → ℝ) (hu : ∀ s, al (ix2 k s) = (u s : EReal)) (d : Fin 10240)
    (hd : (Gcn.into (node x hv 1) d).Nonempty) : maxScore (adjacency x) al k d = ((Gcn.top (node x hv 0) (node x hv 1) u d : ℝ) : EReal) := by
  rw [← Gcn.sup_count _ _ _ _ hd]
  unfold maxScore masked
  simp only [adjacency_at x hv, hu]

theorem leak_real (z : ℝ) : leak (z : EReal) = ((Gcn.lk Gcn.slope z : ℝ) : EReal) := by
  unfold leak Gcn.lk
  rw [Gcn.slope_bits, ← EReal.coe_mul, Gcn.coe_max]

/-- A weight is the count times the exponential. -/
theorem weight_real (x : IVec S2x320000 32) (hv : Valid x) (als ald m : EReal) (u v : Fin 10240 → ℝ) (d s : Fin 10240) (hs : als = (u s : EReal)) (hd : ald = (v d : EReal))
    (hm : (Gcn.into (node x hv 1) d).Nonempty → m = ((Gcn.top (node x hv 0) (node x hv 1) u d : ℝ) : EReal)) :
    weight (adjacency x (ix2 d s)) als ald m = ((Gcn.count (node x hv 0) (node x hv 1) d s * Gcn.ex (node x hv 0) (node x hv 1) u v Gcn.slope s d : ℝ) : EReal) := by
  unfold weight
  rw [adjacency_at x hv]
  by_cases h : 0 < Gcn.count (node x hv 0) (node x hv 1) d s
  · obtain ⟨e, he, -⟩ := (Gcn.count_pos _ _ _ _).mp h
    rw [if_pos (by exact_mod_cast h), hm ⟨e, Finset.mem_filter.mpr ⟨Finset.mem_univ _, he⟩⟩, hs, hd, ← EReal.coe_add, ← EReal.coe_add, leak_real, leak_real, ← EReal.coe_sub, Gcn.coe_exp, ← EReal.coe_mul]
    rfl
  · rw [if_neg (by exact_mod_cast h), le_antisymm (not_lt.mp h) (Gcn.count_nonneg _ _ _ _), zero_mul, EReal.coe_zero]

section
variable (x : IVec S2x320000 32) (hv : Valid x) (alst : FVec Ideal S8x10240 .f32) (al m : FVec Ideal S10240x8 .f32) (k k2 : Fin 8) (u v : Fin 10240 → ℝ)
    (hs : ∀ s, alst (ix2 k s) = (u s : EReal)) (hd : ∀ d, al (ix2 d k2) = (v d : EReal)) (hm : ∀ d, m (ix2 d k) = maxScore (adjacency x) alst k d)
include hs hd hm

theorem attend_real (hp : FVec Ideal S10240x128 .f32) (f : Fin 10240 → ℝ) (j : Fin 128) (hf : ∀ s, hp (ix2 s j) = (f s : EReal)) (d : Fin 10240) :
    attend (adjacency x) alst al m hp k k2 d j = ((Gcn.num (node x hv 0) (node x hv 1) u v f d : ℝ) : EReal) := by
  unfold attend
  simp only [weight_real x hv _ _ _ u v d _ (hs _) (hd d) (fun q => (hm d).trans (maxScore_real x hv alst k u hs d q)), hf, ← EReal.coe_mul, Gcn.coe_sum, mul_assoc]
  rw [Gcn.sum_count (node x hv 0) (node x hv 1) (fun s => Gcn.ex (node x hv 0) (node x hv 1) u v Gcn.slope s d * f s) d]
  rfl

theorem mass_real (d : Fin 10240) : mass (adjacency x) alst al m k k2 d = ((Gcn.den (node x hv 0) (node x hv 1) u v d : ℝ) : EReal) := by
  unfold mass
  simp only [weight_real x hv _ _ _ u v d _ (hs _) (hd d) (fun q => (hm d).trans (maxScore_real x hv alst k u hs d q)), Gcn.coe_sum]
  rw [Gcn.sum_count (node x hv 0) (node x hv 1) (fun s => Gcn.ex (node x hv 0) (node x hv 1) u v Gcn.slope s d) d]
  rfl
end

/-- The result's entries. -/
theorem mean_real (s t : Fin 320000 → Fin 10240) (hp : Fin 10240 → Fin 128 → ℝ) (A B : Fin 2 → Fin 64 → ℝ) (num : FVec Ideal S10240x128 .f32) (den : FVec Ideal S10240x8 .f32) (bg : FVec Ideal S64 .f32) (Bg : Fin 64 → ℝ)
    (n0 : ∀ d (j : Fin 64), num (ix2 d (Gcn.hd 0 j)) = ((Gcn.num s t (Gcn.sc hp A 0) (Gcn.sc hp B 0) (fun n => hp n (Gcn.hd 0 j)) d : ℝ) : EReal))
    (n1 : ∀ d (j : Fin 64), num (ix2 d (Gcn.hd 1 j)) = ((Gcn.num s t (Gcn.sc hp A 1) (Gcn.sc hp B 1) (fun n => hp n (Gcn.hd 1 j)) d : ℝ) : EReal))
    (d0 : ∀ d, den (ix2 d 0) = ((Gcn.den s t (Gcn.sc hp A 0) (Gcn.sc hp B 0) d : ℝ) : EReal)) (d1 : ∀ d, den (ix2 d 1) = ((Gcn.den s t (Gcn.sc hp A 1) (Gcn.sc hp B 1) d : ℝ) : EReal))
    (hb : ∀ j, bg (ix1 j) = (Bg j : EReal)) (n : Fin 10000) (j : Fin 64) :
    mean num den bg (ix2 n j) = ((Gcn.result s t hp A B Bg ⟨n.val, by omega⟩ j : ℝ) : EReal) := by
  rw [mean_at]
  have e0 : (⟨j.val, by omega⟩ : Fin 128) = Gcn.hd 0 j := up_eq j
  have e1 : (⟨64 + j.val, by omega⟩ : Fin 128) = Gcn.hd 1 j := lo_eq j
  rw [e0, e1, n0, n1, d0, d1, hb, Gcn.guard_bits, Gcn.half_bits, ← EReal.coe_add, ← EReal.coe_add, Gcn.coe_div _ _ (Gcn.den_pos _ _ _ _ _).ne', Gcn.coe_div _ _ (Gcn.den_pos _ _ _ _ _).ne',
    ← EReal.coe_add, ← EReal.coe_mul, ← EReal.coe_add]
  rfl

end Cert.KernelIdeal.Host

end
-- ==== Proof.RealVal.lean ====
module

public import proofs.«01_k».proof.Proof.HostPt
public import proofs.«01_k».proof.Proof.Layer
public import proofs.«01_k».proof.Proof.Pre

/-! The real arrays behind finite arguments, and the network over them. -/

@[expose] public section

noncomputable section

namespace Cert.Net
open Cert.KernelIdeal
open Idealize.ShloMosaic Idealize.ShloMosaic.TcCoe
open Cert.KernelIdeal.Host (Valid node)
open Cert.Pre_finite_in_range (Reals)

/-- A finite entry is its real part. -/
theorem real_at {s : Shape} (A : FVec Ideal s .f32) (h : Reals A) (i : s.Idx) : A i = (((A i : EReal).toReal : ℝ) : EReal) := by
  obtain ⟨r, hr⟩ := h i
  rw [hr, EReal.toReal_coe]

/-- The real entries of a matrix. -/
def mat {a b : Nat} (A : FVec Ideal ⟨2, ![a, b]⟩ .f32) (i : Fin a) (j : Fin b) : ℝ := (A (ix2 i j) : EReal).toReal
/-- The real entries of a vector. -/
def vec {a : Nat} (A : FVec Ideal ⟨1, ![a]⟩ .f32) (i : Fin a) : ℝ := (A (ix1 i) : EReal).toReal
/-- The node attributes, zero on the padding. -/
def padReal (A : FVec Ideal S10000x128 .f32) (i : Fin 10240) (k : Fin 128) : ℝ := if h : i.val < 10000 then mat (a := 10000) (b := 128) A ⟨i.val, h⟩ k else 0

theorem mat_eq {a b : Nat} (A : FVec Ideal ⟨2, ![a, b]⟩ .f32) (h : Reals A) (i : Fin a) (j : Fin b) : A (ix2 i j) = ((mat A i j : ℝ) : EReal) := real_at A h _
theorem vec_eq {a : Nat} (A : FVec Ideal ⟨1, ![a]⟩ .f32) (h : Reals A) (i : Fin a) : A (ix1 i) = ((vec A i : ℝ) : EReal) := real_at A h _

variable (x : IVec S2x320000 32) (hv : Valid x)

/-- The first layer. -/
def first (A0 : FVec Ideal S10000x128 .f32) (A1 : FVec Ideal S320000x5 .f32) (w : FVec Ideal S128x64 .f32) (b : FVec Ideal S64 .f32) (we : FVec Ideal S5x64 .f32) (be : FVec Ideal S64 .f32) (wc : FVec Ideal S128x64 .f32) (bc : FVec Ideal S64 .f32) : Fin 10240 → Fin 64 → ℝ :=
  Gcn.conv (node x hv 0) (node x hv 1) (Gcn.affine (padReal A0) (mat w) (vec b)) (mat A1) (mat we) (vec be) (mat wc) (vec bc)
/-- A later layer. -/
def next (H : Fin 10240 → Fin 64 → ℝ) (A1 : FVec Ideal S320000x5 .f32) (w : FVec Ideal S64x64 .f32) (b : FVec Ideal S64 .f32) (we : FVec Ideal S5x64 .f32) (be : FVec Ideal S64 .f32) (wc : FVec Ideal S128x64 .f32) (bc : FVec Ideal S64 .f32) : Fin 10240 → Fin 64 → ℝ :=
  Gcn.conv (node x hv 0) (node x hv 1) (Gcn.affine H (mat w) (vec b)) (mat A1) (mat we) (vec be) (mat wc) (vec bc)
/-- The attention layer. -/
def last (H : Fin 10240 → Fin 64 → ℝ) (wg : FVec Ideal S64x128 .f32) (asrc adst : FVec Ideal S2x64 .f32) (bg : FVec Ideal S64 .f32) (n : Fin 10000) (j : Fin 64) : ℝ :=
  Gcn.result (node x hv 0) (node x hv 1) (Gcn.feat H (mat wg)) (mat asrc) (mat adst) (vec bg) ⟨n.val, by omega⟩ j

end Cert.Net

end
-- ==== Proof.RefPt.lean ====
module

public import proofs.«01_k».proof.Proof.RefDefs
public import proofs.«01_k».proof.Proof.HostPt
public import proofs.«01_k».proof.Proof.Layer
public import proofs.«01_k».proof.Proof.Rows

/-! The reference's arrays, entry by entry. -/

@[expose] public section

set_option maxRecDepth 16384

noncomputable section

namespace Cert.ReferenceIdeal.Val
open Cert.ReferenceIdeal
open Idealize.ShloMosaic Idealize.ShloMosaic.TcCoe
open Cert.KernelIdeal.Host (Valid node)

/-- A node's row in the padded tables. -/
def emb (n : Fin 10000) : Fin 10240 := ⟨n.val, by omega⟩
/-- An edge's end. -/
def rnode (x : IVec S2x320000 32) (hv : Valid x) (r : Fin 2) (e : Fin 320000) : Fin 10000 := ⟨(x (ix2 r e)).toNat, hv r e⟩
theorem emb_rnode (x : IVec S2x320000 32) (hv : Valid x) (r : Fin 2) (e : Fin 320000) : emb (rnode x hv r e) = node x hv r e := rfl

theorem sources_at (x : IVec S2x320000 32) (e : Fin 320000) : sources x (ix1 e) = x (ix2 0 e) := by
  pointwise [sources]
theorem targets_at (x : IVec S2x320000 32) (e : Fin 320000) : targets x (ix1 e) = x (ix2 1 e) := by
  pointwise [targets]
theorem column_at (e : IVec S320000 32) (i : Fin 320000) : column e (ix2 i 0) = e (ix1 i) := by
  pointwise [column]
theorem wrapped_at (e : IVec S320000 32) (i : Fin 320000) (h : (e (ix1 i)).toNat < 2 ^ 31) : wrapped e (ix2 i 0) = e (ix1 i) := by
  have q : wrapped e (ix2 i 0) = Scalar.select (IntOp.cmpi .slt (e (ix1 i)) 0#32) (IntOp.addi (e (ix1 i)) 10000#32) (e (ix1 i)) := by
    pointwise [wrapped]
  rw [q]
  exact Routing.wrap_of_lt _ _ h

theorem toInt_eq (b : BitVec 32) (h : b.toNat < 10000) : b.toInt = (b.toNat : Int) := BitVec.toInt_eq_toNat_of_lt (by omega)

theorem target_eq (x : IVec S2x320000 32) (hv : Valid x) (e : Fin 320000) (d : Fin 10000) :
    (column (targets x) (ix2 e 0)).toInt = (d.val : Int) ↔ node x hv 1 e = emb d := by
  have h := hv 1 e
  rw [column_at, targets_at, toInt_eq _ h]
  exact ⟨fun q => Fin.ext (by exact_mod_cast q), fun q => by have := congrArg Fin.val q; exact_mod_cast this⟩
theorem wsource (x : IVec S2x320000 32) (hv : Valid x) (e : Fin 320000) : (wrapped (sources x) (ix2 e 0)).toInt = ((rnode x hv 0 e).val : Int) := by
  have h := hv 0 e
  rw [wrapped_at _ _ (by rw [sources_at]; omega), sources_at, toInt_eq _ h]
  rfl
theorem wtarget (x : IVec S2x320000 32) (hv : Valid x) (e : Fin 320000) : (wrapped (targets x) (ix2 e 0)).toInt = ((rnode x hv 1 e).val : Int) := by
  have h := hv 1 e
  rw [wrapped_at _ _ (by rw [targets_at]; omega), targets_at, toInt_eq _ h]
  rfl

theorem nodes128_at (x : FVec Ideal S10000x128 .f32) (w : FVec Ideal S128x64 .f32) (b : FVec Ideal S64 .f32) (n : Fin 10000) (j : Fin 64) :
    nodes128 x w b (ix2 n j) = (∑ k : Fin 128, x (ix2 n k) * w (ix2 k j)) + b (ix1 j) := by
  pointwise [nodes128, biasN]
theorem nodes64_at (x : FVec Ideal S10000x64 .f32) (w : FVec Ideal S64x64 .f32) (b : FVec Ideal S64 .f32) (n : Fin 10000) (j : Fin 64) :
    nodes64 x w b (ix2 n j) = (∑ k : Fin 64, x (ix2 n k) * w (ix2 k j)) + b (ix1 j) := by
  pointwise [nodes64, biasN]

theorem messages_at (hn : FVec Ideal S10000x64 .f32) (ea : FVec Ideal S320000x5 .f32) (x : IVec S2x320000 32) (hv : Valid x) (we : FVec Ideal S5x64 .f32) (be : FVec Ideal S64 .f32) (wc : FVec Ideal S128x64 .f32) (bc : FVec Ideal S64 .f32)
    (e : Fin 320000) (j : Fin 64) :
    messages hn ea (sources x) we be wc bc (ix2 e j) = (∑ c : Fin 128, (if h : c.val < 64 then hn (ix2 (rnode x hv 0 e) ⟨c.val, h⟩)
      else (∑ k : Fin 5, ea (ix2 e k) * we (ix2 k ⟨c.val - 64, by omega⟩)) + be (ix1 ⟨c.val - 64, by omega⟩)) * wc (ix2 c j)) + bc (ix1 j) := by
  have g : ∀ q : Fin 64, Host.gather gather_S10000x64_S320000x1_S320000x64_1_0_n_n_0_1_164 hn (wrapped (sources x)) (ix2 e q) = hn (ix2 (rnode x hv 0 e) q) := fun q =>
    Rows.take2_apply _ hn (wrapped (sources x)) e q (rnode x hv 0 e) (wsource x hv e)
  simp only [← g]
  unfold messages
  generalize Host.gather gather_S10000x64_S320000x1_S320000x64_1_0_n_n_0_1_164 hn (wrapped (sources x)) = G
  pointwise [biasE]

theorem collect_at (x : IVec S2x320000 32) (hv : Valid x) (g : FVec Ideal S320000x64 .f32) (n : Fin 10000) (j : Fin 64) :
    collect (targets x) g (ix2 n j) = max (0 + ∑ e : Fin 320000 with node x hv 1 e = emb n, g (ix2 e j)) 0 := by
  have z : ∀ j : Fin 64, (broadcastInDim S10000x64 ![] Facts₀.bcast_S_S10000x64 (constant S_ .f32 0x00000000#32) : FVec Ideal S10000x64 .f32) (ix2 n j) = 0 := fun j => by
    pointwise []
  have r := Rows.row2_add Facts₀.scatter_S10000x64_S320000x1_S320000x64_1_0_0_1_wf (broadcastInDim S10000x64 ![] Facts₀.bcast_S_S10000x64 (constant S_ .f32 0x00000000#32) : FVec Ideal S10000x64 .f32) (column (targets x)) g n j
  rw [z] at r
  simp only [target_eq x hv] at r
  exact congrArg₂ max r (z j)

theorem features_at (h : FVec Ideal S10000x64 .f32) (wg : FVec Ideal S64x128 .f32) (n : Fin 10000) (k : Fin 2) (j : Fin 64) :
    features h wg (ix3 n k j) = ∑ m : Fin 64, h (ix2 n m) * wg (ix2 m (Gcn.hd k j)) := by
  pointwise [features]
  refine Finset.sum_congr rfl fun m _ => congrArg (fun c => h (ix2 n m) * wg (ix2 m c)) (Fin.ext ?_)
  show k.val * 64 + j.val = 64 * k.val + j.val
  omega

theorem score_at (hp : FVec Ideal S10000x2x64 .f32) (av : FVec Ideal S2x64 .f32) (n : Fin 10000) (k : Fin 2) :
    score hp av (ix2 n k) = ∑ j : Fin 64, hp (ix3 n k j) * av (ix2 k j) := by
  pointwise [score]

theorem pick_source (y : FVec Ideal S10000x2 .f32) (x : IVec S2x320000 32) (hv : Valid x) (e : Fin 320000) (k : Fin 2) :
    pick y (sources x) (ix2 e k) = y (ix2 (rnode x hv 0 e) k) :=
  Rows.take2_apply _ y (wrapped (sources x)) e k (rnode x hv 0 e) (wsource x hv e)
theorem pick_target (y : FVec Ideal S10000x2 .f32) (x : IVec S2x320000 32) (hv : Valid x) (e : Fin 320000) (k : Fin 2) :
    pick y (targets x) (ix2 e k) = y (ix2 (rnode x hv 1 e) k) :=
  Rows.take2_apply _ y (wrapped (targets x)) e k (rnode x hv 1 e) (wtarget x hv e)

theorem leaky_real (z : FVec Ideal S320000x2 .f32) (e : Fin 320000) (k : Fin 2) (r : ℝ) (h : z (ix2 e k) = (r : EReal)) : leaky z (ix2 e k) = ((Gcn.lk Gcn.slope r : ℝ) : EReal) := by
  have q : leaky z (ix2 e k) = Scalar.select (Ideal.cmp .oge (z (ix2 e k)) 0) (z (ix2 e k)) (Ideal.ofBits FTy.f32 0x3E4CCCCD#32 * z (ix2 e k)) := by
    pointwise [leaky]
  rw [q, h, Gcn.slope_bits]
  by_cases c : 0 ≤ r
  · rw [Gcn.lk_of_nonneg Gcn.slope_le c]
    have : Ideal.cmp .oge (r : EReal) 0 = 1#1 := by
      show BitVec.ofBool (decide ((0 : EReal) ≤ r)) = 1#1
      rw [decide_eq_true (by exact_mod_cast c)]; rfl
    rw [this]; rfl
  · rw [Gcn.lk_of_neg Gcn.slope_le (not_le.mp c), EReal.coe_mul]
    have : Ideal.cmp .oge (r : EReal) 0 = 0#1 := by
      show BitVec.ofBool (decide ((0 : EReal) ≤ r)) = 0#1
      rw [decide_eq_false (by exact_mod_cast c)]; rfl
    rw [this]; rfl

theorem reduces3 : S10000x320000x2.Reduces [1] S10000x2 := by decide

theorem lift3 (n : Fin 10000) (k : Fin 2) (e : Fin 320000) : reduces3.lift (ix2 n k) e = ix3 n e k := by
  funext a
  refine Fin.ext ((Shape.Reduces.lift_val reduces3 (ix2 n k) e a).trans ?_)
  fin_cases a <;> rfl

theorem negInf_bits : Ideal.ofBits FTy.f32 0xFF800000#32 = ⊥ := by simp [Ideal.ofBits, Ideal.ieee]

/-- The edges' scores, masked to the edges into each node. -/
def masked (d : IVec S320000 32) (al : FVec Ideal S320000x2 .f32) : FVec Ideal S10000x320000x2 .f32 :=
  select (broadcastInDim S10000x320000x2 ![0, 1, 2] Facts₀.bcast_S10000x320000x1_S10000x320000x2_0_1_2 (broadcastInDim S10000x320000x1 ![0, 1] Facts₀.bcast_S10000x320000_S10000x320000x1_0_1
      (cmpi .eq (broadcastInDim S10000x320000 ![0, 1] Facts₀.bcast_S1x320000_S10000x320000_0_1 (broadcastInDim S1x320000 ![1] Facts₀.bcast_S320000_S1x320000_1 d)) (broadcastInDim S10000x320000 ![0, 1] Facts₀.bcast_S10000x1_S10000x320000_0_1 (broadcastInDim S10000x1 ![0] Facts₀.bcast_S10000_S10000x1_0 (iotaInDim S10000 32 0))))))
    (broadcastInDim S10000x320000x2 ![0, 1, 2] Facts₀.bcast_S1x320000x2_S10000x320000x2_0_1_2 (broadcastInDim S1x320000x2 ![1, 2] Facts₀.bcast_S320000x2_S1x320000x2_1_2 al)) (broadcastInDim S10000x320000x2 ![] Facts₀.bcast_S_S10000x320000x2 (constant S_ .f32 0xFF800000#32))

theorem masked_at (d : IVec S320000 32) (al : FVec Ideal S320000x2 .f32) (n : Fin 10000) (e : Fin 320000) (k : Fin 2) :
    masked d al (ix3 n e k) = if d (ix1 e) = BitVec.ofNat 32 n.val then al (ix2 e k) else ⊥ := by
  rw [← negInf_bits]
  pointwise [masked]
  unfold Scalar.select IntOp.cmpi
  by_cases h : d (ix1 e) = BitVec.ofNat 32 n.val
  · rw [if_pos h, h]; simp
  · rw [if_neg h]
    have : (d (ix1 e) == BitVec.ofNat 32 n.val) = false := beq_false_of_ne h
    simp [this]

theorem greatest_at (x : IVec S2x320000 32) (hv : Valid x) (al : FVec Ideal S320000x2 .f32) (n : Fin 10000) (k : Fin 2) :
    greatest (targets x) al (ix2 n k) = Finset.univ.sup fun e : Fin 320000 => if node x hv 1 e = emb n then al (ix2 e k) else ⊥ := by
  have g : greatest (targets x) al = Host.reduce (max : EReal → EReal → EReal) (masked (targets x) al) (constant S_ .f32 0xFF800000#32 : FVec Ideal S_ .f32) Facts₀.reducesTo_S10000x320000x2_S10000x2_d1 Facts₀.h_S_ := by
    unfold greatest masked
    rfl
  rw [g, Host.reduce_eq_fold_single (max : EReal → EReal → EReal) _ _ _ reduces3 _ (ix2 n k)]
  have f : (masked (targets x) al ∘ reduces3.lift (ix2 n k)) = fun e : Fin 320000 => if node x hv 1 e = emb n then al (ix2 e k) else ⊥ := funext fun (e : Fin 320000) => by
    refine (congrArg (masked (targets x) al) (lift3 n k e)).trans ((masked_at (targets x) al n e k).trans ?_)
    rw [targets_at]
    refine if_congr ?_ rfl rfl
    have h := hv 1 e
    constructor
    · intro q
      refine Fin.ext ?_
      have := congrArg BitVec.toNat q
      rw [BitVec.toNat_ofNat, Nat.mod_eq_of_lt (by omega)] at this
      exact this
    · intro q
      refine BitVec.eq_of_toNat_eq ?_
      rw [BitVec.toNat_ofNat, Nat.mod_eq_of_lt (by omega)]
      exact congrArg Fin.val q
  have b : (constant S_ .f32 0xFF800000#32 : FVec Ideal S_ .f32) (Shape.Idx.first Facts₀.h_S_) = ⊥ := negInf_bits
  rw [f, b]
  rfl

theorem finiteOr0_real (y : FVec Ideal S10000x2 .f32) (n : Fin 10000) (k : Fin 2) (r : ℝ) (h : y (ix2 n k) = (r : EReal)) : finiteOr0 y (ix2 n k) = (r : EReal) := by
  have q : finiteOr0 y (ix2 n k) = Scalar.select (Ideal.cmp .olt (max (y (ix2 n k)) (-(y (ix2 n k)))) (Ideal.ofBits FTy.f32 0x7F800000#32)) (y (ix2 n k)) 0 := by
    pointwise [finiteOr0]
    rfl
  have t : Ideal.ofBits FTy.f32 0x7F800000#32 = ⊤ := by simp [Ideal.ofBits, Ideal.ieee]
  rw [q, h, t, ← EReal.coe_neg, Gcn.coe_max]
  have : Ideal.cmp .olt ((max r (-r) : ℝ) : EReal) ⊤ = 1#1 := by
    show BitVec.ofBool (decide (((max r (-r) : ℝ) : EReal) < ⊤)) = 1#1
    rw [decide_eq_true (EReal.coe_lt_top _)]; rfl
  rw [this]; rfl

theorem exponentials_at (d : IVec S320000 32) (al : FVec Ideal S320000x2 .f32) (e : Fin 320000) (k : Fin 2) :
    exponentials d al (ix2 e k) = Ideal.exp (al (ix2 e k) - pick (finiteOr0 (greatest d al)) d (ix2 e k)) := by
  unfold exponentials
  rfl

theorem weights_at (x : IVec S2x320000 32) (hv : Valid x) (w : FVec Ideal S320000x2 .f32) (e : Fin 320000) (k : Fin 2) :
    weights (targets x) w (ix2 e k) = Ideal.div (w (ix2 e k)) ((∑ i : Fin 320000 with node x hv 1 i = node x hv 1 e, w (ix2 i k)) + Ideal.ofBits FTy.f32 0x24E69595#32) := by
  have z : ∀ n, (broadcastInDim S10000x2 ![] Facts₀.bcast_S_S10000x2 (constant S_ .f32 0x00000000#32) : FVec Ideal S10000x2 .f32) (ix2 n k) = 0 := fun n => by
    pointwise []
  have r := fun n => Rows.row2_add Facts₀.scatter_S10000x2_S320000x1_S320000x2_1_0_0_1_wf (broadcastInDim S10000x2 ![] Facts₀.bcast_S_S10000x2 (constant S_ .f32 0x00000000#32) : FVec Ideal S10000x2 .f32) (column (targets x)) w n k
  simp only [z, target_eq x hv, zero_add] at r
  have p := (pick_target (Host.scatterAdd scatter_S10000x2_S320000x1_S320000x2_1_0_0_1 (broadcastInDim S10000x2 ![] Facts₀.bcast_S_S10000x2 (constant S_ .f32 0x00000000#32) : FVec Ideal S10000x2 .f32) (column (targets x)) w) x hv e k).trans (r (rnode x hv 1 e))
  rw [emb_rnode] at p
  rw [← p]
  unfold weights
  generalize pick (Host.scatterAdd scatter_S10000x2_S320000x1_S320000x2_1_0_0_1 (broadcastInDim S10000x2 ![] Facts₀.bcast_S_S10000x2 (constant S_ .f32 0x00000000#32) : FVec Ideal S10000x2 .f32) (column (targets x)) w) (targets x) = P
  pointwise []

theorem gathered_at (x : IVec S2x320000 32) (hv : Valid x) (hp : FVec Ideal S10000x2x64 .f32) (w : FVec Ideal S320000x2 .f32) (n : Fin 10000) (k : Fin 2) (j : Fin 64) :
    gathered (sources x) (targets x) hp w (ix3 n k j) = ∑ e : Fin 320000 with node x hv 1 e = emb n, hp (ix3 (rnode x hv 0 e) k j) * w (ix2 e k) := by
  have z : (broadcastInDim S10000x2x64 ![] Facts₀.bcast_S_S10000x2x64 (constant S_ .f32 0x00000000#32) : FVec Ideal S10000x2x64 .f32) (ix3 n k j) = 0 := by
    pointwise []
  unfold gathered
  refine (Rows.row3_add Facts₀.scatter_S10000x2x64_S320000x1_S320000x2x64_12_0_0_1_wf _ (column (targets x)) _ n k j).trans ?_
  rw [z, zero_add]
  simp only [target_eq x hv]
  refine Finset.sum_congr rfl fun e _ => ?_
  have g : Host.gather gather_S10000x2x64_S320000x1_S320000x2x64_12_0_n_n_0_1_1264 hp (wrapped (sources x)) (ix3 e k j) = hp (ix3 (rnode x hv 0 e) k j) :=
    Rows.take3_apply _ hp (wrapped (sources x)) e k j (rnode x hv 0 e) (wsource x hv e)
  rw [← g]
  generalize Host.gather gather_S10000x2x64_S320000x1_S320000x2x64_12_0_n_n_0_1_1264 hp (wrapped (sources x)) = G
  pointwise []

theorem mean_at (o : FVec Ideal S10000x2x64 .f32) (bg : FVec Ideal S64 .f32) (n : Fin 10000) (j : Fin 64) :
    mean o bg (ix2 n j) = Ideal.div (∑ k : Fin 2, o (ix3 n k j)) (Ideal.ofBits FTy.f32 0x40000000#32) + bg (ix1 j) := by
  pointwise [mean, biasN]

end Cert.ReferenceIdeal.Val

end
-- ==== Proof.RefReal.lean ====
module

public import proofs.«01_k».proof.Proof.RefPt

/-! The reference's layers over real arguments are the real layers. -/

@[expose] public section

set_option maxRecDepth 16384

noncomputable section

namespace Cert.ReferenceIdeal.Val
open Cert.ReferenceIdeal
open Idealize.ShloMosaic Idealize.ShloMosaic.TcCoe
open Cert.KernelIdeal.Host (Valid node)

theorem collect_real (x : IVec S2x320000 32) (hv : Valid x) (g : FVec Ideal S320000x64 .f32) (G : Fin 320000 → Fin 64 → ℝ) (hg : ∀ e j, g (ix2 e j) = (G e j : EReal)) (n : Fin 10000) (j : Fin 64) :
    collect (targets x) g (ix2 n j) = ((max (∑ e ∈ Gcn.into (node x hv 1) (emb n), G e j) 0 : ℝ) : EReal) := by
  rw [collect_at x hv, zero_add, ← Gcn.coe_max, ← Gcn.coe_sum, EReal.coe_zero]
  exact congrArg (max · 0) (Finset.sum_congr rfl fun e _ => hg e j)

theorem messages_real (x : IVec S2x320000 32) (hv : Valid x) (ea : FVec Ideal S320000x5 .f32) (hn : FVec Ideal S10000x64 .f32)
    (we : FVec Ideal S5x64 .f32) (be : FVec Ideal S64 .f32) (wc : FVec Ideal S128x64 .f32) (bc : FVec Ideal S64 .f32)
    (EA : Fin 320000 → Fin 5 → ℝ) (HN : Fin 10240 → Fin 64 → ℝ) (We : Fin 5 → Fin 64 → ℝ) (Be Bc : Fin 64 → ℝ) (Wc : Fin 128 → Fin 64 → ℝ)
    (he : ∀ e k, ea (ix2 e k) = (EA e k : EReal)) (hh : ∀ n k, hn (ix2 n k) = (HN (emb n) k : EReal))
    (h1 : ∀ i j, we (ix2 i j) = (We i j : EReal)) (h2 : ∀ i, be (ix1 i) = (Be i : EReal))
    (h3 : ∀ i j, wc (ix2 i j) = (Wc i j : EReal)) (h4 : ∀ i, bc (ix1 i) = (Bc i : EReal)) (e : Fin 320000) (j : Fin 64) :
    messages hn ea (sources x) we be wc bc (ix2 e j) = ((Gcn.message (HN (node x hv 0 e)) (EA e) We Be Wc Bc j : ℝ) : EReal) := by
  refine (messages_at hn ea x hv we be wc bc e j).trans ?_
  unfold Gcn.message
  rw [h4, EReal.coe_add, ← Gcn.coe_sum]
  refine congrArg (· + _) (Finset.sum_congr rfl fun c _ => ?_)
  rw [h3, EReal.coe_mul]
  refine congrArg (· * _) ?_
  unfold Gcn.beside
  by_cases h : c.val < 64
  · rw [dif_pos h, dif_pos h]
    exact hh _ _
  · rw [dif_neg h, dif_neg h, h2, EReal.coe_add, ← Gcn.coe_sum]
    refine congrArg (· + _) (Finset.sum_congr rfl fun k _ => ?_)
    rw [he, h1, EReal.coe_mul]

theorem nodes128_real (x : FVec Ideal S10000x128 .f32) (w : FVec Ideal S128x64 .f32) (b : FVec Ideal S64 .f32)
    (X : Fin 10240 → Fin 128 → ℝ) (W : Fin 128 → Fin 64 → ℝ) (B : Fin 64 → ℝ) (hx : ∀ i j, x (ix2 i j) = (X (emb i) j : EReal)) (hw : ∀ i j, w (ix2 i j) = (W i j : EReal))
    (hb : ∀ j, b (ix1 j) = (B j : EReal)) (n : Fin 10000) (j : Fin 64) : nodes128 x w b (ix2 n j) = ((Gcn.affine X W B (emb n) j : ℝ) : EReal) := by
  rw [nodes128_at, hb]
  unfold Gcn.affine
  rw [EReal.coe_add, ← Gcn.coe_sum]
  refine congrArg (· + _) (Finset.sum_congr rfl fun k _ => ?_)
  rw [hx, hw, EReal.coe_mul]

theorem nodes64_real (x : FVec Ideal S10000x64 .f32) (w : FVec Ideal S64x64 .f32) (b : FVec Ideal S64 .f32)
    (X : Fin 10240 → Fin 64 → ℝ) (W : Fin 64 → Fin 64 → ℝ) (B : Fin 64 → ℝ) (hx : ∀ i j, x (ix2 i j) = (X (emb i) j : EReal)) (hw : ∀ i j, w (ix2 i j) = (W i j : EReal))
    (hb : ∀ j, b (ix1 j) = (B j : EReal)) (n : Fin 10000) (j : Fin 64) : nodes64 x w b (ix2 n j) = ((Gcn.affine X W B (emb n) j : ℝ) : EReal) := by
  rw [nodes64_at, hb]
  unfold Gcn.affine
  rw [EReal.coe_add, ← Gcn.coe_sum]
  refine congrArg (· + _) (Finset.sum_congr rfl fun k _ => ?_)
  rw [hx, hw, EReal.coe_mul]

/-- The messages summed and rectified are the real convolution. -/
theorem conv_real (x : IVec S2x320000 32) (hv : Valid x) (ea : FVec Ideal S320000x5 .f32) (hn : FVec Ideal S10000x64 .f32)
    (we : FVec Ideal S5x64 .f32) (be : FVec Ideal S64 .f32) (wc : FVec Ideal S128x64 .f32) (bc : FVec Ideal S64 .f32)
    (EA : Fin 320000 → Fin 5 → ℝ) (HN : Fin 10240 → Fin 64 → ℝ) (We : Fin 5 → Fin 64 → ℝ) (Be Bc : Fin 64 → ℝ) (Wc : Fin 128 → Fin 64 → ℝ)
    (he : ∀ e k, ea (ix2 e k) = (EA e k : EReal)) (hh : ∀ n k, hn (ix2 n k) = (HN (emb n) k : EReal))
    (h1 : ∀ i j, we (ix2 i j) = (We i j : EReal)) (h2 : ∀ i, be (ix1 i) = (Be i : EReal))
    (h3 : ∀ i j, wc (ix2 i j) = (Wc i j : EReal)) (h4 : ∀ i, bc (ix1 i) = (Bc i : EReal)) (n : Fin 10000) (j : Fin 64) :
    collect (targets x) (messages hn ea (sources x) we be wc bc) (ix2 n j) = ((Gcn.conv (node x hv 0) (node x hv 1) HN EA We Be Wc Bc (emb n) j : ℝ) : EReal) :=
  collect_real x hv _ (fun e j => Gcn.message (HN (node x hv 0 e)) (EA e) We Be Wc Bc j) (messages_real x hv ea hn we be wc bc EA HN We Be Bc Wc he hh h1 h2 h3 h4) n j

section
variable (x : IVec S2x320000 32) (hv : Valid x) (hp : FVec Ideal S10000x2x64 .f32) (P : Fin 10240 → Fin 128 → ℝ) (hP : ∀ n k j, hp (ix3 n k j) = (P (emb n) (Gcn.hd k j) : EReal))
include hP

theorem score_real (a : FVec Ideal S2x64 .f32) (A : Fin 2 → Fin 64 → ℝ) (ha : ∀ k j, a (ix2 k j) = (A k j : EReal)) (n : Fin 10000) (k : Fin 2) :
    score hp a (ix2 n k) = ((Gcn.sc P A k (emb n) : ℝ) : EReal) := by
  rw [score_at]
  unfold Gcn.sc
  rw [← Gcn.coe_sum]
  refine Finset.sum_congr rfl fun j _ => ?_
  rw [hP, ha, EReal.coe_mul]

variable (a b : FVec Ideal S2x64 .f32) (A B : Fin 2 → Fin 64 → ℝ) (ha : ∀ k j, a (ix2 k j) = (A k j : EReal)) (hb : ∀ k j, b (ix2 k j) = (B k j : EReal))
include ha hb

theorem alphas_real (e : Fin 320000) (k : Fin 2) :
    alphas (sources x) (targets x) hp a b (ix2 e k) = ((Gcn.lk Gcn.slope (Gcn.sc P A k (node x hv 0 e) + Gcn.sc P B k (node x hv 1 e)) : ℝ) : EReal) := by
  refine leaky_real _ e k _ ?_
  show pick (score hp a) (sources x) (ix2 e k) + pick (score hp b) (targets x) (ix2 e k) = _
  rw [pick_source _ x hv, pick_target _ x hv, score_real hp P hP a A ha, score_real hp P hP b B hb, EReal.coe_add]
  rfl

theorem greatest_real (n : Fin 10000) (k : Fin 2) (h : (Gcn.into (node x hv 1) (emb n)).Nonempty) :
    greatest (targets x) (alphas (sources x) (targets x) hp a b) (ix2 n k)
      = ((Gcn.lk Gcn.slope (Gcn.top (node x hv 0) (node x hv 1) (Gcn.sc P A k) (emb n) + Gcn.sc P B k (emb n)) : ℝ) : EReal) := by
  rw [greatest_at x hv, ← Gcn.sup_edges _ _ _ _ _ Gcn.slope_nonneg h]
  refine congrArg (Finset.univ.sup ·) (funext fun e => ?_)
  rw [alphas_real x hv hp P hP a b A B ha hb]

theorem exponentials_real (e : Fin 320000) (k : Fin 2) :
    exponentials (targets x) (alphas (sources x) (targets x) hp a b) (ix2 e k)
      = ((Gcn.ex (node x hv 0) (node x hv 1) (Gcn.sc P A k) (Gcn.sc P B k) Gcn.slope (node x hv 0 e) (node x hv 1 e) : ℝ) : EReal) := by
  have h : (Gcn.into (node x hv 1) (emb (rnode x hv 1 e))).Nonempty := ⟨e, Finset.mem_filter.mpr ⟨Finset.mem_univ _, rfl⟩⟩
  rw [exponentials_at, pick_target _ x hv, finiteOr0_real _ _ _ _ (greatest_real x hv hp P hP a b A B ha hb (rnode x hv 1 e) k h),
    alphas_real x hv hp P hP a b A B ha hb, ← EReal.coe_sub, Gcn.coe_exp]
  unfold Gcn.ex
  rw [add_comm (Gcn.sc P B k (node x hv 1 e)) (Gcn.sc P A k (node x hv 0 e))]
  rfl

theorem weights_real (e : Fin 320000) (k : Fin 2) :
    weights (targets x) (exponentials (targets x) (alphas (sources x) (targets x) hp a b)) (ix2 e k)
      = ((Gcn.ex (node x hv 0) (node x hv 1) (Gcn.sc P A k) (Gcn.sc P B k) Gcn.slope (node x hv 0 e) (node x hv 1 e)
        / (Gcn.den (node x hv 0) (node x hv 1) (Gcn.sc P A k) (Gcn.sc P B k) (node x hv 1 e) + Gcn.guard) : ℝ) : EReal) := by
  have s : (∑ i : Fin 320000 with node x hv 1 i = node x hv 1 e, exponentials (targets x) (alphas (sources x) (targets x) hp a b) (ix2 i k))
      = ((Gcn.den (node x hv 0) (node x hv 1) (Gcn.sc P A k) (Gcn.sc P B k) (node x hv 1 e) : ℝ) : EReal) := by
    unfold Gcn.den
    rw [← Gcn.coe_sum]
    refine Finset.sum_congr rfl fun i hi => ?_
    rw [exponentials_real x hv hp P hP a b A B ha hb, (Finset.mem_filter.mp hi).2]
  rw [weights_at x hv, s, Gcn.guard_bits, ← EReal.coe_add, exponentials_real x hv hp P hP a b A B ha hb, Gcn.coe_div _ _ (Gcn.den_pos _ _ _ _ _).ne']

theorem gathered_real (n : Fin 10000) (k : Fin 2) (j : Fin 64) :
    gathered (sources x) (targets x) hp (weights (targets x) (exponentials (targets x) (alphas (sources x) (targets x) hp a b))) (ix3 n k j)
      = ((Gcn.att (node x hv 0) (node x hv 1) (Gcn.sc P A k) (Gcn.sc P B k) (fun n => P n (Gcn.hd k j)) (emb n) : ℝ) : EReal) := by
  rw [gathered_at x hv]
  unfold Gcn.att Gcn.num
  rw [← Gcn.normalise, ← Gcn.coe_sum]
  refine Finset.sum_congr rfl fun e he => ?_
  rw [weights_real x hv hp P hP a b A B ha hb, hP, emb_rnode, ← EReal.coe_mul, (Finset.mem_filter.mp he).2]

/-- The attention layer is the real one. -/
theorem attention_real (bg : FVec Ideal S64 .f32) (Bg : Fin 64 → ℝ) (hg : ∀ j, bg (ix1 j) = (Bg j : EReal)) (n : Fin 10000) (j : Fin 64) :
    attention (sources x) (targets x) hp (alphas (sources x) (targets x) hp a b) bg (ix2 n j)
      = ((Gcn.result (node x hv 0) (node x hv 1) P A B Bg (emb n) j : ℝ) : EReal) := by
  unfold attention
  rw [mean_at, Fin.sum_univ_two, gathered_real x hv hp P hP a b A B ha hb, gathered_real x hv hp P hP a b A B ha hb, hg, Gcn.two_bits,
    ← EReal.coe_add, Gcn.coe_div _ _ two_ne_zero, ← EReal.coe_add]
  unfold Gcn.result
  refine congrArg (fun r : ℝ => (r : EReal)) ?_
  ring
end

theorem features_real (h : FVec Ideal S10000x64 .f32) (w : FVec Ideal S64x128 .f32) (H : Fin 10240 → Fin 64 → ℝ) (W : Fin 64 → Fin 128 → ℝ)
    (hh : ∀ i j, h (ix2 i j) = (H (emb i) j : EReal)) (hw : ∀ i j, w (ix2 i j) = (W i j : EReal)) (n : Fin 10000) (k : Fin 2) (j : Fin 64) :
    features h w (ix3 n k j) = ((Gcn.feat H W (emb n) (Gcn.hd k j) : ℝ) : EReal) := by
  rw [features_at]
  unfold Gcn.feat
  rw [← Gcn.coe_sum]
  refine Finset.sum_congr rfl fun m _ => ?_
  rw [hh, hw, EReal.coe_mul]

end Cert.ReferenceIdeal.Val

end
-- ==== Proof.Value.lean ====
module

public import proofs.«01_k».proof.Proof.KerChain
public import proofs.«01_k».proof.Proof.KerPt
public import proofs.«01_k».proof.Proof.RealVal
public import proofs.«01_k».proof.Proof.RefReal

/-! Over finite arguments and edges in range both programs' rows are the same reals. -/

@[expose] public section

set_option maxRecDepth 16384
set_option maxHeartbeats 1000000

noncomputable section

namespace Cert.Value
open Cert.KernelIdeal Cert.KernelIdeal.Gen
open Idealize.ShloMosaic Idealize.ShloMosaic.TcCoe
open Cert.KernelIdeal.Reg Cert.KernelIdeal.Host Cert.KernelIdeal.Chain Cert.Net
open Cert.Pre_finite_in_range (Reals Good)

variable (m : (ℓ : Loc nD τ sig) → Buf (Elt Ideal) ℓ) (ρ : Dev nD → PrngReg) (c : Dev nD) [hPre : Cert.Pre_finite_in_range.Facts] (g : Good m c)

/-- The real hidden rows of layer 1. -/
def H1 : Fin 10240 → Fin 64 → ℝ := first (m ((c : Thread nD τ).loc main_arg2)) g.edges (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The real hidden rows of layer 2. -/
def H2 : Fin 10240 → Fin 64 → ℝ := next (m ((c : Thread nD τ).loc main_arg2)) g.edges (H1 m c g) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
/-- The real hidden rows of layer 3. -/
def H3 : Fin 10240 → Fin 64 → ℝ := next (m ((c : Thread nD τ).loc main_arg2)) g.edges (H2 m c g) (m ((c : Thread nD τ).loc main_arg1)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
/-- The real result. -/
def Out : Fin 10000 → Fin 64 → ℝ := last (m ((c : Thread nD τ).loc main_arg2)) g.edges (H3 m c g) (m ((c : Thread nD τ).loc main_arg21)) (m ((c : Thread nD τ).loc main_arg22)) (m ((c : Thread nD τ).loc main_arg23)) (m ((c : Thread nD τ).loc main_arg24))
theorem padded_real (x : FVec Ideal S10000x128 .f32) (h : Reals x) (i : Fin 10240) (k : Fin 128) : padded x (ix2 i k) = ((padReal x i k : ℝ) : EReal) := by
  rw [padded_at]
  unfold padReal
  by_cases q : i.val < 10000
  · rw [dif_pos q, dif_pos q]
    exact mat_eq (a := 10000) (b := 128) x h _ _
  · rw [dif_neg q, dif_neg q, EReal.coe_zero]
theorem row_real (b : FVec Ideal S64 .f32) (h : Reals b) (j : Fin 64) : row b (ix2 0 j) = ((vec (a := 64) b j : ℝ) : EReal) := (row_at b j).trans (vec_eq (a := 64) b h j)

include g in
theorem t57_real (n : Fin 10240) (j : Fin 64) : t57 m c (ix2 n j) = ((Gcn.affine (padReal (m ((c : Thread nD τ).loc main_arg0))) (mat (a := 128) (b := 64) (m ((c : Thread nD τ).loc main_arg3))) (vec (a := 64) (m ((c : Thread nD τ).loc main_arg4))) n j : ℝ) : EReal) :=
  affine128_real _ _ _ _ _ _ (padded_real (m ((c : Thread nD τ).loc main_arg0)) g.r0) (mat_eq (a := 128) (b := 64) (m ((c : Thread nD τ).loc main_arg3)) g.r3) (row_real (m ((c : Thread nD τ).loc main_arg4)) g.r4) n j
theorem t58_real (n : Fin 10240) (j : Fin 64) : t58 m c (ix2 n j) = ((H1 m c g n j : ℝ) : EReal) :=
  convolve_real (m ((c : Thread nD τ).loc main_arg2)) g.edges (m ((c : Thread nD τ).loc main_arg1)) (t57 m c) (m ((c : Thread nD τ).loc main_arg5)) (m ((c : Thread nD τ).loc main_arg6)) (m ((c : Thread nD τ).loc main_arg7)) (m ((c : Thread nD τ).loc main_arg8)) _ _ _ _ _ _ (mat_eq (a := 320000) (b := 5) (m ((c : Thread nD τ).loc main_arg1)) g.r1) (t57_real m c g)
    (mat_eq (a := 5) (b := 64) (m ((c : Thread nD τ).loc main_arg5)) g.r5) (vec_eq (a := 64) (m ((c : Thread nD τ).loc main_arg6)) g.r6) (mat_eq (a := 128) (b := 64) (m ((c : Thread nD τ).loc main_arg7)) g.r7) (vec_eq (a := 64) (m ((c : Thread nD τ).loc main_arg8)) g.r8) n j
theorem t60_real (n : Fin 10240) (j : Fin 64) : t60 m c (ix2 n j) = ((Gcn.affine (H1 m c g) (mat (a := 64) (b := 64) (m ((c : Thread nD τ).loc main_arg9))) (vec (a := 64) (m ((c : Thread nD τ).loc main_arg10))) n j : ℝ) : EReal) :=
  affine64_real _ _ _ _ _ _ (t58_real m c g) (mat_eq (a := 64) (b := 64) (m ((c : Thread nD τ).loc main_arg9)) g.r9) (row_real (m ((c : Thread nD τ).loc main_arg10)) g.r10) n j
theorem t61_real (n : Fin 10240) (j : Fin 64) : t61 m c (ix2 n j) = ((H2 m c g n j : ℝ) : EReal) :=
  convolve_real (m ((c : Thread nD τ).loc main_arg2)) g.edges (m ((c : Thread nD τ).loc main_arg1)) (t60 m c) (m ((c : Thread nD τ).loc main_arg11)) (m ((c : Thread nD τ).loc main_arg12)) (m ((c : Thread nD τ).loc main_arg13)) (m ((c : Thread nD τ).loc main_arg14)) _ _ _ _ _ _ (mat_eq (a := 320000) (b := 5) (m ((c : Thread nD τ).loc main_arg1)) g.r1) (t60_real m c g)
    (mat_eq (a := 5) (b := 64) (m ((c : Thread nD τ).loc main_arg11)) g.r11) (vec_eq (a := 64) (m ((c : Thread nD τ).loc main_arg12)) g.r12) (mat_eq (a := 128) (b := 64) (m ((c : Thread nD τ).loc main_arg13)) g.r13) (vec_eq (a := 64) (m ((c : Thread nD τ).loc main_arg14)) g.r14) n j
theorem t63_real (n : Fin 10240) (j : Fin 64) : t63 m c (ix2 n j) = ((Gcn.affine (H2 m c g) (mat (a := 64) (b := 64) (m ((c : Thread nD τ).loc main_arg15))) (vec (a := 64) (m ((c : Thread nD τ).loc main_arg16))) n j : ℝ) : EReal) :=
  affine64_real _ _ _ _ _ _ (t61_real m c g) (mat_eq (a := 64) (b := 64) (m ((c : Thread nD τ).loc main_arg15)) g.r15) (row_real (m ((c : Thread nD τ).loc main_arg16)) g.r16) n j
theorem t64_real (n : Fin 10240) (j : Fin 64) : t64 m c (ix2 n j) = ((H3 m c g n j : ℝ) : EReal) :=
  convolve_real (m ((c : Thread nD τ).loc main_arg2)) g.edges (m ((c : Thread nD τ).loc main_arg1)) (t63 m c) (m ((c : Thread nD τ).loc main_arg17)) (m ((c : Thread nD τ).loc main_arg18)) (m ((c : Thread nD τ).loc main_arg19)) (m ((c : Thread nD τ).loc main_arg20)) _ _ _ _ _ _ (mat_eq (a := 320000) (b := 5) (m ((c : Thread nD τ).loc main_arg1)) g.r1) (t63_real m c g)
    (mat_eq (a := 5) (b := 64) (m ((c : Thread nD τ).loc main_arg17)) g.r17) (vec_eq (a := 64) (m ((c : Thread nD τ).loc main_arg18)) g.r18) (mat_eq (a := 128) (b := 64) (m ((c : Thread nD τ).loc main_arg19)) g.r19) (vec_eq (a := 64) (m ((c : Thread nD τ).loc main_arg20)) g.r20) n j
theorem hp_real (n : Fin 10240) (j : Fin 128) : hp m c (ix2 n j) = ((Gcn.feat (H3 m c g) (mat (a := 64) (b := 128) (m ((c : Thread nD τ).loc main_arg21))) n j : ℝ) : EReal) :=
  heads_real _ _ _ _ (t64_real m c g) (mat_eq (a := 64) (b := 128) (m ((c : Thread nD τ).loc main_arg21)) g.r21) n j
/-- The real features. -/
def P : Fin 10240 → Fin 128 → ℝ := Gcn.feat (H3 m c g) (mat (a := 64) (b := 128) (m ((c : Thread nD τ).loc main_arg21)))
/-- The real source vectors. -/
def Asrc : Fin 2 → Fin 64 → ℝ := mat (a := 2) (b := 64) (m ((c : Thread nD τ).loc main_arg22))
/-- The real target vectors. -/
def Adst : Fin 2 → Fin 64 → ℝ := mat (a := 2) (b := 64) (m ((c : Thread nD τ).loc main_arg23))
theorem al_0 (n : Fin 10240) : al m c (ix2 n 0) = ((Gcn.sc (P m c g) (Asrc m c) 0 n : ℝ) : EReal) :=
  scores_0 _ _ _ _ _ _ _ _ (t64_real m c g) (mat_eq (a := 64) (b := 128) (m ((c : Thread nD τ).loc main_arg21)) g.r21) (mat_eq (a := 2) (b := 64) (m ((c : Thread nD τ).loc main_arg22)) g.r22) (mat_eq (a := 2) (b := 64) (m ((c : Thread nD τ).loc main_arg23)) g.r23) n
theorem al_2 (n : Fin 10240) : al m c (ix2 n 2) = ((Gcn.sc (P m c g) (Adst m c) 0 n : ℝ) : EReal) :=
  scores_2 _ _ _ _ _ _ _ _ (t64_real m c g) (mat_eq (a := 64) (b := 128) (m ((c : Thread nD τ).loc main_arg21)) g.r21) (mat_eq (a := 2) (b := 64) (m ((c : Thread nD τ).loc main_arg22)) g.r22) (mat_eq (a := 2) (b := 64) (m ((c : Thread nD τ).loc main_arg23)) g.r23) n
theorem st_0 (n : Fin 10240) : scoreRows (al m c) (ix2 0 n) = ((Gcn.sc (P m c g) (Asrc m c) 0 n : ℝ) : EReal) :=
  (scoreRows_at (al m c) 0 (by decide) n).trans (al_0 m c g n)
theorem al_1 (n : Fin 10240) : al m c (ix2 n 1) = ((Gcn.sc (P m c g) (Asrc m c) 1 n : ℝ) : EReal) :=
  scores_1 _ _ _ _ _ _ _ _ (t64_real m c g) (mat_eq (a := 64) (b := 128) (m ((c : Thread nD τ).loc main_arg21)) g.r21) (mat_eq (a := 2) (b := 64) (m ((c : Thread nD τ).loc main_arg22)) g.r22) (mat_eq (a := 2) (b := 64) (m ((c : Thread nD τ).loc main_arg23)) g.r23) n
theorem al_3 (n : Fin 10240) : al m c (ix2 n 3) = ((Gcn.sc (P m c g) (Adst m c) 1 n : ℝ) : EReal) :=
  scores_3 _ _ _ _ _ _ _ _ (t64_real m c g) (mat_eq (a := 64) (b := 128) (m ((c : Thread nD τ).loc main_arg21)) g.r21) (mat_eq (a := 2) (b := 64) (m ((c : Thread nD τ).loc main_arg22)) g.r22) (mat_eq (a := 2) (b := 64) (m ((c : Thread nD τ).loc main_arg23)) g.r23) n
theorem st_1 (n : Fin 10240) : scoreRows (al m c) (ix2 1 n) = ((Gcn.sc (P m c g) (Asrc m c) 1 n : ℝ) : EReal) :=
  (scoreRows_at (al m c) 1 (by decide) n).trans (al_1 m c g n)
theorem num_0 (d : Fin 10240) (j : Fin 64) : nums (adjacency (m ((c : Thread nD τ).loc main_arg2))) (scoreRows (al m c)) (al m c) (mx m ρ c) (hp m c) (ix2 d (Gcn.hd 0 j))
    = ((Gcn.num (node (m ((c : Thread nD τ).loc main_arg2)) g.edges 0) (node (m ((c : Thread nD τ).loc main_arg2)) g.edges 1) (Gcn.sc (P m c g) (Asrc m c) 0) (Gcn.sc (P m c g) (Adst m c) 0) (fun n => P m c g n (Gcn.hd 0 j)) d : ℝ) : EReal) :=
  (if_pos (show 64 * 0 + j.val < 64 by omega)).trans (attend_real (m ((c : Thread nD τ).loc main_arg2)) g.edges (scoreRows (al m c)) (al m c) (mx m ρ c) 0 2 _ _ (st_0 m c g) (al_2 m c g)
    (kmx m ρ c 0 (by decide)) (hp m c) _ (Gcn.hd 0 j) (fun s => hp_real m c g s (Gcn.hd 0 j)) d)
theorem den_0 (d : Fin 10240) : dens (adjacency (m ((c : Thread nD τ).loc main_arg2))) (scoreRows (al m c)) (al m c) (mx m ρ c) (ix2 d 0)
    = ((Gcn.den (node (m ((c : Thread nD τ).loc main_arg2)) g.edges 0) (node (m ((c : Thread nD τ).loc main_arg2)) g.edges 1) (Gcn.sc (P m c g) (Asrc m c) 0) (Gcn.sc (P m c g) (Adst m c) 0) d : ℝ) : EReal) :=
  (if_pos (show (0 : Nat) < 1 by decide)).trans (mass_real (m ((c : Thread nD τ).loc main_arg2)) g.edges (scoreRows (al m c)) (al m c) (mx m ρ c) 0 2 _ _ (st_0 m c g) (al_2 m c g) (kmx m ρ c 0 (by decide)) d)
theorem num_1 (d : Fin 10240) (j : Fin 64) : nums (adjacency (m ((c : Thread nD τ).loc main_arg2))) (scoreRows (al m c)) (al m c) (mx m ρ c) (hp m c) (ix2 d (Gcn.hd 1 j))
    = ((Gcn.num (node (m ((c : Thread nD τ).loc main_arg2)) g.edges 0) (node (m ((c : Thread nD τ).loc main_arg2)) g.edges 1) (Gcn.sc (P m c g) (Asrc m c) 1) (Gcn.sc (P m c g) (Adst m c) 1) (fun n => P m c g n (Gcn.hd 1 j)) d : ℝ) : EReal) :=
  (if_neg (show ¬ 64 * 1 + j.val < 64 by omega)).trans (attend_real (m ((c : Thread nD τ).loc main_arg2)) g.edges (scoreRows (al m c)) (al m c) (mx m ρ c) 1 3 _ _ (st_1 m c g) (al_3 m c g)
    (kmx m ρ c 1 (by decide)) (hp m c) _ (Gcn.hd 1 j) (fun s => hp_real m c g s (Gcn.hd 1 j)) d)
theorem den_1 (d : Fin 10240) : dens (adjacency (m ((c : Thread nD τ).loc main_arg2))) (scoreRows (al m c)) (al m c) (mx m ρ c) (ix2 d 1)
    = ((Gcn.den (node (m ((c : Thread nD τ).loc main_arg2)) g.edges 0) (node (m ((c : Thread nD τ).loc main_arg2)) g.edges 1) (Gcn.sc (P m c g) (Asrc m c) 1) (Gcn.sc (P m c g) (Adst m c) 1) d : ℝ) : EReal) :=
  ((if_neg (show ¬ (1 : Nat) < 1 by decide)).trans (if_pos (show (1 : Nat) - 1 < 1 by decide))).trans (mass_real (m ((c : Thread nD τ).loc main_arg2)) g.edges (scoreRows (al m c)) (al m c) (mx m ρ c) 1 3 _ _ (st_1 m c g) (al_3 m c g) (kmx m ρ c 1 (by decide)) d)
/-- The kernel's last rows are the real ones. -/
theorem kernel_real (n : Fin 10000) (j : Fin 64) : mean (nums (adjacency (m ((c : Thread nD τ).loc main_arg2))) (scoreRows (al m c)) (al m c) (mx m ρ c) (hp m c)) (dens (adjacency (m ((c : Thread nD τ).loc main_arg2))) (scoreRows (al m c)) (al m c) (mx m ρ c)) (m ((c : Thread nD τ).loc main_arg24)) (ix2 n j) = ((Out m c g n j : ℝ) : EReal) :=
  mean_real _ _ (P m c g) (Asrc m c) (Adst m c) _ _ _ _ (num_0 m ρ c g) (num_1 m ρ c g) (den_0 m ρ c g) (den_1 m ρ c g) (vec_eq (a := 64) (m ((c : Thread nD τ).loc main_arg24)) g.r24) n j
/-- The reference's first hidden rows. -/
def r1 : FVec Ideal S10000x64 .f32 := Cert.ReferenceIdeal.Val.hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The second. -/
def r2 : FVec Ideal S10000x64 .f32 := Cert.ReferenceIdeal.Val.hidden (r1 m c) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
/-- The third. -/
def r3 : FVec Ideal S10000x64 .f32 := Cert.ReferenceIdeal.Val.hidden (r2 m c) (m ((c : Thread nD τ).loc main_arg1)) (m ((c : Thread nD τ).loc main_arg2)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
theorem pad_emb (x : FVec Ideal S10000x128 .f32) (h : Reals x) (i : Fin 10000) (k : Fin 128) : x (ix2 i k) = ((padReal x (Cert.ReferenceIdeal.Val.emb i) k : ℝ) : EReal) := by
  unfold padReal
  rw [dif_pos (show (Cert.ReferenceIdeal.Val.emb i).val < 10000 from i.isLt)]
  exact mat_eq (a := 10000) (b := 128) x h _ _
theorem r1_real (n : Fin 10000) (j : Fin 64) : r1 m c (ix2 n j) = ((H1 m c g (Cert.ReferenceIdeal.Val.emb n) j : ℝ) : EReal) :=
  Cert.ReferenceIdeal.Val.conv_real (m ((c : Thread nD τ).loc main_arg2)) g.edges (m ((c : Thread nD τ).loc main_arg1)) (Cert.ReferenceIdeal.Val.nodes128 (m ((c : Thread nD τ).loc main_arg0)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8)) _ _ _ _ _ _ (mat_eq (a := 320000) (b := 5) (m ((c : Thread nD τ).loc main_arg1)) g.r1)
    (Cert.ReferenceIdeal.Val.nodes128_real _ _ _ _ _ _ (pad_emb (m ((c : Thread nD τ).loc main_arg0)) g.r0) (mat_eq (a := 128) (b := 64) (m ((c : Thread nD τ).loc main_arg3)) g.r3) (vec_eq (a := 64) (m ((c : Thread nD τ).loc main_arg4)) g.r4))
    (mat_eq (a := 5) (b := 64) (m ((c : Thread nD τ).loc main_arg5)) g.r5) (vec_eq (a := 64) (m ((c : Thread nD τ).loc main_arg6)) g.r6) (mat_eq (a := 128) (b := 64) (m ((c : Thread nD τ).loc main_arg7)) g.r7) (vec_eq (a := 64) (m ((c : Thread nD τ).loc main_arg8)) g.r8) n j
theorem r2_real (n : Fin 10000) (j : Fin 64) : r2 m c (ix2 n j) = ((H2 m c g (Cert.ReferenceIdeal.Val.emb n) j : ℝ) : EReal) :=
  Cert.ReferenceIdeal.Val.conv_real (m ((c : Thread nD τ).loc main_arg2)) g.edges (m ((c : Thread nD τ).loc main_arg1)) (Cert.ReferenceIdeal.Val.nodes64 (r1 m c) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) _ _ _ _ _ _ (mat_eq (a := 320000) (b := 5) (m ((c : Thread nD τ).loc main_arg1)) g.r1)
    (Cert.ReferenceIdeal.Val.nodes64_real _ _ _ _ _ _ (r1_real m c g) (mat_eq (a := 64) (b := 64) (m ((c : Thread nD τ).loc main_arg9)) g.r9) (vec_eq (a := 64) (m ((c : Thread nD τ).loc main_arg10)) g.r10))
    (mat_eq (a := 5) (b := 64) (m ((c : Thread nD τ).loc main_arg11)) g.r11) (vec_eq (a := 64) (m ((c : Thread nD τ).loc main_arg12)) g.r12) (mat_eq (a := 128) (b := 64) (m ((c : Thread nD τ).loc main_arg13)) g.r13) (vec_eq (a := 64) (m ((c : Thread nD τ).loc main_arg14)) g.r14) n j
theorem r3_real (n : Fin 10000) (j : Fin 64) : r3 m c (ix2 n j) = ((H3 m c g (Cert.ReferenceIdeal.Val.emb n) j : ℝ) : EReal) :=
  Cert.ReferenceIdeal.Val.conv_real (m ((c : Thread nD τ).loc main_arg2)) g.edges (m ((c : Thread nD τ).loc main_arg1)) (Cert.ReferenceIdeal.Val.nodes64 (r2 m c) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20)) _ _ _ _ _ _ (mat_eq (a := 320000) (b := 5) (m ((c : Thread nD τ).loc main_arg1)) g.r1)
    (Cert.ReferenceIdeal.Val.nodes64_real _ _ _ _ _ _ (r2_real m c g) (mat_eq (a := 64) (b := 64) (m ((c : Thread nD τ).loc main_arg15)) g.r15) (vec_eq (a := 64) (m ((c : Thread nD τ).loc main_arg16)) g.r16))
    (mat_eq (a := 5) (b := 64) (m ((c : Thread nD τ).loc main_arg17)) g.r17) (vec_eq (a := 64) (m ((c : Thread nD τ).loc main_arg18)) g.r18) (mat_eq (a := 128) (b := 64) (m ((c : Thread nD τ).loc main_arg19)) g.r19) (vec_eq (a := 64) (m ((c : Thread nD τ).loc main_arg20)) g.r20) n j
/-- The reference's last rows are the real ones. -/
theorem reference_real (n : Fin 10000) (j : Fin 64) : Cert.ReferenceIdeal.Val.attended (r3 m c) (m ((c : Thread nD τ).loc main_arg2)) (m ((c : Thread nD τ).loc main_arg21)) (m ((c : Thread nD τ).loc main_arg22)) (m ((c : Thread nD τ).loc main_arg23)) (m ((c : Thread nD τ).loc main_arg24)) (ix2 n j) = ((Out m c g n j : ℝ) : EReal) :=
  Cert.ReferenceIdeal.Val.attention_real (m ((c : Thread nD τ).loc main_arg2)) g.edges (Cert.ReferenceIdeal.Val.features (r3 m c) (m ((c : Thread nD τ).loc main_arg21))) (P m c g) (Cert.ReferenceIdeal.Val.features_real _ _ _ _ (r3_real m c g) (mat_eq (a := 64) (b := 128) (m ((c : Thread nD τ).loc main_arg21)) g.r21))
    (m ((c : Thread nD τ).loc main_arg22)) (m ((c : Thread nD τ).loc main_arg23)) (Asrc m c) (Adst m c) (mat_eq (a := 2) (b := 64) (m ((c : Thread nD τ).loc main_arg22)) g.r22) (mat_eq (a := 2) (b := 64) (m ((c : Thread nD τ).loc main_arg23)) g.r23) (m ((c : Thread nD τ).loc main_arg24)) _ (vec_eq (a := 64) (m ((c : Thread nD τ).loc main_arg24)) g.r24) n j
include g in
/-- Both programs leave the same result. -/
theorem same : W15 m ρ c (Proc.devRef .tc main_v0) = Cert.ReferenceIdeal.Val.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (kout m ρ c).trans ?_
  refine congrArg (fun y : FVec Ideal S10000x64 .f32 => flat y) (a₂ := Cert.ReferenceIdeal.Val.attended (r3 m c) (m ((c : Thread nD τ).loc main_arg2)) (m ((c : Thread nD τ).loc main_arg21)) (m ((c : Thread nD τ).loc main_arg22)) (m ((c : Thread nD τ).loc main_arg23)) (m ((c : Thread nD τ).loc main_arg24))) (funext fun i => ?_)
  rw [show i = ix2 (i 0) (i 1) from eq_ix2 i]
  exact (kernel_real m ρ c g (i 0) (i 1)).trans (reference_real m c g (i 0) (i 1)).symm
end Cert.Value

end
-- ==== Proof.Algebraic.lean ====
module

public import proofs.«01_k».proof.Defs
public import proofs.«01_k».proof.Proof.Run
public import proofs.«01_k».proof.Proof.SameRun
public import proofs.«01_k».proof.Proof.RefOut
public import proofs.«01_k».proof.Proof.Value

/-! The value claim: from equal finite arguments with edges in range both programs leave the same result. -/

@[expose] public section

set_option maxRecDepth 16384
set_option maxHeartbeats 1000000

noncomputable section

namespace Cert.Value
open Idealize.ShloMosaic Idealize.ShloMosaic.TcCoe Idealize.SL.Sem

/-- The reference's result of equal arguments. -/
theorem refOut_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.Val.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24))
      = Cert.ReferenceIdeal.Val.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) := by
  rw [h0, h1, h2, h3, h4, h5, h6, h7, h8, h9, h10, h11, h12, h13, h14, h15, h16, h17, h18, h19, h20, h21, h22, h23, h24]

theorem algebraic : algebraic_KernelIdeal_ReferenceIdeal_pre_finite_in_range (hKernelIdeal := Cert.KernelIdeal.Gen.facts) (hReferenceIdeal := Cert.ReferenceIdeal.Gen.facts) (hPre_finite_in_range := Cert.Pre_finite_in_range.facts) := by
  intro m g m' g' hpre hargs
  letI := Cert.Pre_finite_in_range.facts
  refine ⟨fun c => Cert.KernelIdeal.Reg.W15 m g c (Proc.devRef .tc Cert.KernelIdeal.main_v0), ?_, ?_⟩
  · exact (θ_run _ _ _).mono (fun r h c =>
      ⟨h.1 c _ (Cert.KernelIdeal.Reg.mem_uc Cert.KernelIdeal.main_v0 (by decide)),
      (h.1 c _ (Cert.KernelIdeal.Reg.mem_uc Cert.KernelIdeal.main_arg0 (by decide))).trans (Cert.KernelIdeal.Reg.W15_args m g c Cert.KernelIdeal.main_arg0 (by decide)),
      (h.1 c _ (Cert.KernelIdeal.Reg.mem_uc Cert.KernelIdeal.main_arg1 (by decide))).trans (Cert.KernelIdeal.Reg.W15_args m g c Cert.KernelIdeal.main_arg1 (by decide)),
      (h.1 c _ (Cert.KernelIdeal.Reg.mem_uc Cert.KernelIdeal.main_arg2 (by decide))).trans (Cert.KernelIdeal.Reg.W15_args m g c Cert.KernelIdeal.main_arg2 (by decide)),
      (h.1 c _ (Cert.KernelIdeal.Reg.mem_uc Cert.KernelIdeal.main_arg3 (by decide))).trans (Cert.KernelIdeal.Reg.W15_args m g c Cert.KernelIdeal.main_arg3 (by decide)),
      (h.1 c _ (Cert.KernelIdeal.Reg.mem_uc Cert.KernelIdeal.main_arg4 (by decide))).trans (Cert.KernelIdeal.Reg.W15_args m g c Cert.KernelIdeal.main_arg4 (by decide)),
      (h.1 c _ (Cert.KernelIdeal.Reg.mem_uc Cert.KernelIdeal.main_arg5 (by decide))).trans (Cert.KernelIdeal.Reg.W15_args m g c Cert.KernelIdeal.main_arg5 (by decide)),
      (h.1 c _ (Cert.KernelIdeal.Reg.mem_uc Cert.KernelIdeal.main_arg6 (by decide))).trans (Cert.KernelIdeal.Reg.W15_args m g c Cert.KernelIdeal.main_arg6 (by decide)),
      (h.1 c _ (Cert.KernelIdeal.Reg.mem_uc Cert.KernelIdeal.main_arg7 (by decide))).trans (Cert.KernelIdeal.Reg.W15_args m g c Cert.KernelIdeal.main_arg7 (by decide)),
      (h.1 c _ (Cert.KernelIdeal.Reg.mem_uc Cert.KernelIdeal.main_arg8 (by decide))).trans (Cert.KernelIdeal.Reg.W15_args m g c Cert.KernelIdeal.main_arg8 (by decide)),
      (h.1 c _ (Cert.KernelIdeal.Reg.mem_uc Cert.KernelIdeal.main_arg9 (by decide))).trans (Cert.KernelIdeal.Reg.W15_args m g c Cert.KernelIdeal.main_arg9 (by decide)),
      (h.1 c _ (Cert.KernelIdeal.Reg.mem_uc Cert.KernelIdeal.main_arg10 (by decide))).trans (Cert.KernelIdeal.Reg.W15_args m g c Cert.KernelIdeal.main_arg10 (by decide)),
      (h.1 c _ (Cert.KernelIdeal.Reg.mem_uc Cert.KernelIdeal.main_arg11 (by decide))).trans (Cert.KernelIdeal.Reg.W15_args m g c Cert.KernelIdeal.main_arg11 (by decide)),
      (h.1 c _ (Cert.KernelIdeal.Reg.mem_uc Cert.KernelIdeal.main_arg12 (by decide))).trans (Cert.KernelIdeal.Reg.W15_args m g c Cert.KernelIdeal.main_arg12 (by decide)),
      (h.1 c _ (Cert.KernelIdeal.Reg.mem_uc Cert.KernelIdeal.main_arg13 (by decide))).trans (Cert.KernelIdeal.Reg.W15_args m g c Cert.KernelIdeal.main_arg13 (by decide)),
      (h.1 c _ (Cert.KernelIdeal.Reg.mem_uc Cert.KernelIdeal.main_arg14 (by decide))).trans (Cert.KernelIdeal.Reg.W15_args m g c Cert.KernelIdeal.main_arg14 (by decide)),
      (h.1 c _ (Cert.KernelIdeal.Reg.mem_uc Cert.KernelIdeal.main_arg15 (by decide))).trans (Cert.KernelIdeal.Reg.W15_args m g c Cert.KernelIdeal.main_arg15 (by decide)),
      (h.1 c _ (Cert.KernelIdeal.Reg.mem_uc Cert.KernelIdeal.main_arg16 (by decide))).trans (Cert.KernelIdeal.Reg.W15_args m g c Cert.KernelIdeal.main_arg16 (by decide)),
      (h.1 c _ (Cert.KernelIdeal.Reg.mem_uc Cert.KernelIdeal.main_arg17 (by decide))).trans (Cert.KernelIdeal.Reg.W15_args m g c Cert.KernelIdeal.main_arg17 (by decide)),
      (h.1 c _ (Cert.KernelIdeal.Reg.mem_uc Cert.KernelIdeal.main_arg18 (by decide))).trans (Cert.KernelIdeal.Reg.W15_args m g c Cert.KernelIdeal.main_arg18 (by decide)),
      (h.1 c _ (Cert.KernelIdeal.Reg.mem_uc Cert.KernelIdeal.main_arg19 (by decide))).trans (Cert.KernelIdeal.Reg.W15_args m g c Cert.KernelIdeal.main_arg19 (by decide)),
      (h.1 c _ (Cert.KernelIdeal.Reg.mem_uc Cert.KernelIdeal.main_arg20 (by decide))).trans (Cert.KernelIdeal.Reg.W15_args m g c Cert.KernelIdeal.main_arg20 (by decide)),
      (h.1 c _ (Cert.KernelIdeal.Reg.mem_uc Cert.KernelIdeal.main_arg21 (by decide))).trans (Cert.KernelIdeal.Reg.W15_args m g c Cert.KernelIdeal.main_arg21 (by decide)),
      (h.1 c _ (Cert.KernelIdeal.Reg.mem_uc Cert.KernelIdeal.main_arg22 (by decide))).trans (Cert.KernelIdeal.Reg.W15_args m g c Cert.KernelIdeal.main_arg22 (by decide)),
      (h.1 c _ (Cert.KernelIdeal.Reg.mem_uc Cert.KernelIdeal.main_arg23 (by decide))).trans (Cert.KernelIdeal.Reg.W15_args m g c Cert.KernelIdeal.main_arg23 (by decide)),
      (h.1 c _ (Cert.KernelIdeal.Reg.mem_uc Cert.KernelIdeal.main_arg24 (by decide))).trans (Cert.KernelIdeal.Reg.W15_args m g c Cert.KernelIdeal.main_arg24 (by decide))⟩) (Cert.KernelIdeal.Reg.run m g)
  · refine (θ_run _ _ _).mono (fun r h c => ⟨(h c).1.trans ?_, (h c).2⟩) (Cert.ReferenceIdeal.Val.run m' g')
    obtain ⟨h0, h1, h2, h3, h4, h5, h6, h7, h8, h9, h10, h11, h12, h13, h14, h15, h16, h17, h18, h19, h20, h21, h22, h23, h24⟩ := hargs c
    exact (refOut_eq m m' c h0 h1 h2 h3 h4 h5 h6 h7 h8 h9 h10 h11 h12 h13 h14 h15 h16 h17 h18 h19 h20 h21 h22 h23 h24).trans (same m g c (Cert.Pre_finite_in_range.good m hpre c)).symm

end Cert.Value

end
-- ==== Proof.lean ====
/-
The claims of this directory, each from the module that proves it.
-/
module

public import proofs.«01_k».proof.Defs
public import proofs.«01_k».proof.Proof.SameRun
public import proofs.«01_k».proof.Proof.RefRun
public import proofs.«01_k».proof.Proof.Pre
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_finite_in_range.facts,
  Cert.KernelIdeal.Reg.frame_kernel, Cert.KernelIdeal.Reg.frame_ideal, fun m g _ => Cert.KernelIdeal.Reg.frame_ideal m g trivial,
  Cert.ReferenceIdeal.Val.frame, fun m g _ => Cert.ReferenceIdeal.Val.frame m g trivial, trivial, Cert.Value.algebraic⟩

end Cert.Proof

end
